-- ==== Defs.lean ====
def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_args [hPre_finite_args : Cert.Pre_finite_args.Facts] (m : (ℓ : Loc Cert.DiffIdeal.nD Cert.DiffIdeal.τ Cert.DiffIdeal.sig) → Buf (Elt Ideal) ℓ) : Prop :=
  ∀ c : Dev Cert.DiffIdeal.nD,
    (Cert.Pre_finite_args.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2))).1 = (fun _ => 1#1)
    ∧ (Cert.Pre_finite_args.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2))).2 = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite_args [hPre_finite_args : Cert.Pre_finite_args.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite_args.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2))).1 = (fun _ => 1#1)
    ∧ (Cert.Pre_finite_args.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2))).2 = (fun _ => 1#1)

def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).2 = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2 = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_tables [hPre_tables : Cert.Pre_tables.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))).1 = (fun _ => 1#1)
    ∧ (Cert.Pre_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))).2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_finite_moba [hPre_finite_moba : Cert.Pre_finite_moba.Facts] (m : (ℓ : Loc Cert.MobaIdeal.nD Cert.MobaIdeal.τ Cert.MobaIdeal.sig) → Buf (Elt Ideal) ℓ) : Prop :=
  ∀ c : Dev Cert.MobaIdeal.nD,
    (Cert.Pre_finite_moba.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_finite_moba [hPre_finite_moba : Cert.Pre_finite_moba.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_finite_moba.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1))) = (fun _ => 1#1)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ r.2.sem = fun _ => 0)

def quiescent_DiffIdeal_pre_finite_args [hDiffIdeal : Cert.DiffIdeal.Facts] [hPre_finite_args : Cert.Pre_finite_args.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_args m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2))
      ∧ r.2.sem = fun _ => 0)

def quiescent_DiffRefIdeal_pre_finite_args [hDiffRefIdeal : Cert.DiffRefIdeal.Facts] [hPre_finite_args : Cert.Pre_finite_args.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite_args m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2))
      ∧ r.2.sem = fun _ => 0)

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_tables [hExpertsRefIdeal : Cert.ExpertsRefIdeal.Facts] [hPre_tables : Cert.Pre_tables.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_tables m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1))
      ∧ r.2.sem = fun _ => 0)

def quiescent_MobaIdeal_pre_finite_moba [hMobaIdeal : Cert.MobaIdeal.Facts] [hPre_finite_moba : Cert.Pre_finite_moba.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_finite_moba m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1))
      ∧ r.2.sem = fun _ => 0)

def quiescent_MobaRefIdeal_pre_finite_moba [hMobaRefIdeal : Cert.MobaRefIdeal.Facts] [hPre_finite_moba : Cert.Pre_finite_moba.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_finite_moba m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1))
      ∧ r.2.sem = fun _ => 0)

def preserves_Diff_DiffIdeal : Prop :=
  IdealRules.named_const.Statement Cert.DiffIdeal.κ "mask" .f32 0xF149F2CA#32 ⊥

def algebraic_DiffIdeal_DiffRefIdeal_pre_finite_args [hDiffIdeal : Cert.DiffIdeal.Facts] [hDiffRefIdeal : Cert.DiffRefIdeal.Facts] [hPre_finite_args : Cert.Pre_finite_args.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite_args m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)) →
    ∃ (v0 : (c : Dev Cert.DiffIdeal.nD) → Buf (Elt Ideal) ((c.tc : Thread Cert.DiffIdeal.nD Cert.DiffIdeal.τ).loc Cert.DiffIdeal.main_v0)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v0) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v72) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v24)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v24) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v51) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)) →
    ∃ (v0 : (c : Dev Cert.InprojIdeal.nD) → Buf (Elt Ideal) ((c.tc : Thread Cert.InprojIdeal.nD Cert.InprojIdeal.τ).loc Cert.InprojIdeal.main_v60_0)) (v1 : (c : Dev Cert.InprojIdeal.nD) → Buf (Elt Ideal) ((c.tc : Thread Cert.InprojIdeal.nD Cert.InprojIdeal.τ).loc Cert.InprojIdeal.main_v60_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v60_0) = v0 c
          ∧ r.2.mem ((c.tc : Thread Cert.InprojIdeal.nD Cert.InprojIdeal.τ).loc Cert.InprojIdeal.main_v60_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v114) = v0 c
          ∧ r.2.mem ((c.tc : Thread Cert.InprojRefIdeal.nD Cert.InprojRefIdeal.τ).loc Cert.InprojRefIdeal.main_v112) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1))

def preserves_Moba_MobaIdeal : Prop :=
  IdealRules.named_const.Statement Cert.MobaIdeal.κ "mask" .f32 0xF149F2CA#32 ⊥

def algebraic_MobaIdeal_MobaRefIdeal_pre_finite_moba [hMobaIdeal : Cert.MobaIdeal.Facts] [hMobaRefIdeal : Cert.MobaRefIdeal.Facts] [hPre_finite_moba : Cert.Pre_finite_moba.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_finite_moba m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)) →
    ∃ (v0 : (c : Dev Cert.MobaIdeal.nD) → Buf (Elt Ideal) ((c.tc : Thread Cert.MobaIdeal.nD Cert.MobaIdeal.τ).loc Cert.MobaIdeal.main_v1)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v1) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v72) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1))

def Claim : Prop :=
  ∃ (hDiff : Cert.Diff.Facts) (hDiffIdeal : Cert.DiffIdeal.Facts) (hDiffRefIdeal : Cert.DiffRefIdeal.Facts) (hExperts : Cert.Experts.Facts) (hExpertsIdeal : Cert.ExpertsIdeal.Facts) (hExpertsRefIdeal : Cert.ExpertsRefIdeal.Facts) (hInproj : Cert.Inproj.Facts) (hInprojIdeal : Cert.InprojIdeal.Facts) (hInprojRefIdeal : Cert.InprojRefIdeal.Facts) (hMoba : Cert.Moba.Facts) (hMobaIdeal : Cert.MobaIdeal.Facts) (hMobaRefIdeal : Cert.MobaRefIdeal.Facts) (hPre_finite_args : Cert.Pre_finite_args.Facts) (hPre_tables : Cert.Pre_tables.Facts) (hPre_finite_moba : Cert.Pre_finite_moba.Facts),
    quiescent_Diff (hDiff := hDiff)
    ∧ quiescent_DiffIdeal (hDiffIdeal := hDiffIdeal)
    ∧ quiescent_DiffIdeal_pre_finite_args (hDiffIdeal := hDiffIdeal) (hPre_finite_args := hPre_finite_args)
    ∧ quiescent_DiffRefIdeal (hDiffRefIdeal := hDiffRefIdeal)
    ∧ quiescent_DiffRefIdeal_pre_finite_args (hDiffRefIdeal := hDiffRefIdeal) (hPre_finite_args := hPre_finite_args)
    ∧ quiescent_Experts (hExperts := hExperts) (hPre_tables := hPre_tables)
    ∧ quiescent_ExpertsIdeal (hExpertsIdeal := hExpertsIdeal) (hPre_tables := hPre_tables)
    ∧ quiescent_ExpertsRefIdeal (hExpertsRefIdeal := hExpertsRefIdeal)
    ∧ quiescent_ExpertsRefIdeal_pre_tables (hExpertsRefIdeal := hExpertsRefIdeal) (hPre_tables := hPre_tables)
    ∧ quiescent_Inproj (hInproj := hInproj)
    ∧ quiescent_InprojIdeal (hInprojIdeal := hInprojIdeal)
    ∧ quiescent_InprojRefIdeal (hInprojRefIdeal := hInprojRefIdeal)
    ∧ quiescent_Moba (hMoba := hMoba)
    ∧ quiescent_MobaIdeal (hMobaIdeal := hMobaIdeal)
    ∧ quiescent_MobaIdeal_pre_finite_moba (hMobaIdeal := hMobaIdeal) (hPre_finite_moba := hPre_finite_moba)
    ∧ quiescent_MobaRefIdeal (hMobaRefIdeal := hMobaRefIdeal)
    ∧ quiescent_MobaRefIdeal_pre_finite_moba (hMobaRefIdeal := hMobaRefIdeal) (hPre_finite_moba := hPre_finite_moba)
    ∧ preserves_Diff_DiffIdeal
    ∧ algebraic_DiffIdeal_DiffRefIdeal_pre_finite_args (hDiffIdeal := hDiffIdeal) (hDiffRefIdeal := hDiffRefIdeal) (hPre_finite_args := hPre_finite_args)
    ∧ preserves_Experts_ExpertsIdeal
    ∧ algebraic_ExpertsIdeal_ExpertsRefIdeal (hExpertsIdeal := hExpertsIdeal) (hExpertsRefIdeal := hExpertsRefIdeal) (hPre_tables := hPre_tables)
    ∧ preserves_Inproj_InprojIdeal
    ∧ algebraic_InprojIdeal_InprojRefIdeal (hInprojIdeal := hInprojIdeal) (hInprojRefIdeal := hInprojRefIdeal)
    ∧ preserves_Moba_MobaIdeal
    ∧ algebraic_MobaIdeal_MobaRefIdeal_pre_finite_moba (hMobaIdeal := hMobaIdeal) (hMobaRefIdeal := hMobaRefIdeal) (hPre_finite_moba := hPre_finite_moba)
-- ==== Pre_finite_args.lean ====
abbrev S65536x3072 : Shape := ⟨2, ![65536, 3072]⟩
abbrev S4x64 : Shape := ⟨2, ![4, 64]⟩
abbrev S1x128 : Shape := ⟨2, ![1, 128]⟩
abbrev S_ : Shape := ⟨0, ![]⟩

class Facts : Prop where
  bitsLt_bf16_f32 : FTy.bits .bf16 < FTy.bits .f32
  bcast_S_S65536x3072 : S_.BroadcastsInDim S65536x3072 (![] : Fin 0 → Fin S65536x3072.rank)
  bcast_S_S4x64 : S_.BroadcastsInDim S4x64 (![] : Fin 0 → Fin S4x64.rank)

variable [Facts]

def fn {F : FTy → Type} [FloatOps F] (main_arg0 : FVec F S65536x3072 .bf16) (main_arg1 : FVec F S4x64 .f32) (main_arg2 : FVec F S1x128 .f32) : IVec S65536x3072 1 × IVec S4x64 1 :=
  let main_v0 : FVec F S65536x3072 .f32 := (extf .f32 · bitsLt_bf16_f32) main_arg0
  let main_cst : FVec F S_ .f32 := constant S_ .f32 0x7F800000#32
  let main_v1 : FVec F S65536x3072 .f32 := broadcastInDim S65536x3072 ![] bcast_S_S65536x3072 main_cst
  let main_v2 : IVec S65536x3072 1 := cmpf .olt main_v0 main_v1
  let main_cst_0 : FVec F S_ .f32 := constant S_ .f32 0xFF800000#32
  let main_v3 : FVec F S65536x3072 .f32 := broadcastInDim S65536x3072 ![] bcast_S_S65536x3072 main_cst_0
  let main_v4 : IVec S65536x3072 1 := cmpf .ogt main_v0 main_v3
  let main_v5 : IVec S65536x3072 1 := andi main_v2 main_v4
  let main_cst_1 : FVec F S_ .f32 := constant S_ .f32 0x7F800000#32
  let main_v6 : FVec F S4x64 .f32 := broadcastInDim S4x64 ![] bcast_S_S4x64 main_cst_1
  let main_v7 : IVec S4x64 1 := cmpf .olt main_arg1 main_v6
  let main_cst_2 : FVec F S_ .f32 := constant S_ .f32 0xFF800000#32
  let main_v8 : FVec F S4x64 .f32 := broadcastInDim S4x64 ![] bcast_S_S4x64 main_cst_2
  let main_v9 : IVec S4x64 1 := cmpf .ogt main_arg1 main_v8
  let main_v10 : IVec S4x64 1 := andi main_v7 main_v9
  (main_v5, main_v10)
-- ==== Pre_finite_moba.lean ====
abbrev S65536x3072 : Shape := ⟨2, ![65536, 3072]⟩
abbrev S256x1x512 : Shape := ⟨3, ![256, 1, 512]⟩
abbrev S_ : Shape := ⟨0, ![]⟩

class Facts : Prop where
  bitsLt_bf16_f32 : FTy.bits .bf16 < FTy.bits .f32
  bcast_S_S65536x3072 : S_.BroadcastsInDim S65536x3072 (![] : Fin 0 → Fin S65536x3072.rank)

variable [Facts]

def fn {F : FTy → Type} [FloatOps F] (main_arg0 : FVec F S65536x3072 .bf16) (main_arg1 : FVec F S256x1x512 .f32) : IVec S65536x3072 1 :=
  let main_v0 : FVec F S65536x3072 .f32 := (extf .f32 · bitsLt_bf16_f32) main_arg0
  let main_cst : FVec F S_ .f32 := constant S_ .f32 0x7F800000#32
  let main_v1 : FVec F S65536x3072 .f32 := broadcastInDim S65536x3072 ![] bcast_S_S65536x3072 main_cst
  let main_v2 : IVec S65536x3072 1 := cmpf .olt main_v0 main_v1
  let main_cst_0 : FVec F S_ .f32 := constant S_ .f32 0xFF800000#32
  let main_v3 : FVec F S65536x3072 .f32 := broadcastInDim S65536x3072 ![] bcast_S_S65536x3072 main_cst_0
  let main_v4 : IVec S65536x3072 1 := cmpf .ogt main_v0 main_v3
  let main_v5 : IVec S65536x3072 1 := andi main_v2 main_v4
  main_v5
-- ==== Pre_tables.lean ====
abbrev S544 : Shape := ⟨1, ![544]⟩
abbrev S1 : Shape := ⟨1, ![1]⟩
abbrev S2228224x128 : Shape := ⟨2, ![2228224, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S544 : S_.BroadcastsInDim S544 (![] : Fin 0 → Fin S544.rank)
  bcast_S_S1 : S_.BroadcastsInDim S1 (![] : Fin 0 → Fin S1.rank)

variable [Facts]

def fn {F : FTy → Type} [FloatOps F] (main_arg0 : IVec S544 32) (main_arg1 : IVec S1 32) (main_arg2 : FVec F S2228224x128 .f32) (main_arg3 : FVec F S32x1024x2048 .f32) (main_arg4 : FVec F S32x2048 .f32) (main_arg5 : FVec F S32x1024x1024 .f32) (main_arg6 : FVec F S32x1024 .f32) : IVec S544 1 × IVec S1 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 32#32
  let main_v2 : IVec S544 32 := broadcastInDim S544 ![] bcast_S_S544 main_c_0
  let main_v3 : IVec S544 1 := cmpi .slt main_arg0 main_v2
  let main_v4 : IVec S544 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== Diff.lean ====
abbrev S65536x3072 : Shape := ⟨2, ![65536, 3072]⟩
abbrev S4x64 : Shape := ⟨2, ![4, 64]⟩
abbrev S1x128 : Shape := ⟨2, ![1, 128]⟩
abbrev S65536x512 : Shape := ⟨2, ![65536, 512]⟩
abbrev S2048x128 : Shape := ⟨2, ![2048, 128]⟩
abbrev S256x128 : Shape := ⟨2, ![256, 128]⟩
abbrev S256x256 : Shape := ⟨2, ![256, 256]⟩
abbrev S1x64 : Shape := ⟨2, ![1, 64]⟩
abbrev S1 : Shape := ⟨1, ![1]⟩
abbrev S1x1 : Shape := ⟨2, ![1, 1]⟩
abbrev S256 : Shape := ⟨1, ![256]⟩
abbrev S256x1 : Shape := ⟨2, ![256, 1]⟩
abbrev S512x128 : Shape := ⟨2, ![512, 128]⟩
abbrev S256x512 : Shape := ⟨2, ![256, 512]⟩
abbrev S512x256 : Shape := ⟨2, ![512, 256]⟩
abbrev S768x128 : Shape := ⟨2, ![768, 128]⟩
abbrev S256x768 : Shape := ⟨2, ![256, 768]⟩
abbrev S768x256 : Shape := ⟨2, ![768, 256]⟩
abbrev S1024x128 : Shape := ⟨2, ![1024, 128]⟩
abbrev S256x1024 : Shape := ⟨2, ![256, 1024]⟩
abbrev S1024x256 : Shape := ⟨2, ![1024, 256]⟩
abbrev S1280x128 : Shape := ⟨2, ![1280, 128]⟩
abbrev S256x1280 : Shape := ⟨2, ![256, 1280]⟩
abbrev S1280x256 : Shape := ⟨2, ![1280, 256]⟩
abbrev S1536x128 : Shape := ⟨2, ![1536, 128]⟩
abbrev S256x1536 : Shape := ⟨2, ![256, 1536]⟩
abbrev S1536x256 : Shape := ⟨2, ![1536, 256]⟩
abbrev S1792x128 : Shape := ⟨2, ![1792, 128]⟩
abbrev S256x1792 : Shape := ⟨2, ![256, 1792]⟩
abbrev S1792x256 : Shape := ⟨2, ![1792, 256]⟩
abbrev S2048x256 : Shape := ⟨2, ![2048, 256]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S65536x3072, .bf16⟩
  | .hbm, ⟨1, _⟩ => ⟨S4x64, .f32⟩
  | .hbm, ⟨2, _⟩ => ⟨S1x128, .f32⟩
  | .hbm, ⟨3, _⟩ => ⟨S65536x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S4x64, .f32⟩
  | .local _ .vmem, ⟨7, _⟩ => ⟨S1x128, .f32⟩
  | .local _ .vmem, ⟨8, _⟩ => ⟨S2048x128, .bf16⟩
  | .local _ .vmem, ⟨9, _⟩ => ⟨S2048x128, .bf16⟩
  | _, _ => ⟨S65536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DiffIdeal.lean ====
variable {F : FTy → Type} [FloatOps F] [Named F]
def κ : String → Option EReal := fun
  | "mask" => some ⊥
  | _ => none
-- ==== DiffRefIdeal.lean ====
abbrev S65536x3072 : Shape := ⟨2, ![65536, 3072]⟩
abbrev S4x64 : Shape := ⟨2, ![4, 64]⟩
abbrev S1x128 : Shape := ⟨2, ![1, 128]⟩
abbrev S32x2048x3072 : Shape := ⟨3, ![32, 2048, 3072]⟩
abbrev S32x2048x512 : Shape := ⟨3, ![32, 2048, 512]⟩
abbrev S32x2048x4x2x64 : Shape := ⟨5, ![32, 2048, 4, 2, 64]⟩
abbrev S32x2048x4x128 : Shape := ⟨4, ![32, 2048, 4, 128]⟩
abbrev S1x64 : Shape := ⟨2, ![1, 64]⟩
abbrev S64 : Shape := ⟨1, ![64]⟩
abbrev S_ : Shape := ⟨0, ![]⟩
abbrev S32x4x2x2048x2048 : Shape := ⟨5, ![32, 4, 2, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x4x2x2048 : Shape := ⟨4, ![32, 4, 2, 2048]⟩
abbrev S32x4x2x2048x1 : Shape := ⟨5, ![32, 4, 2, 2048, 1]⟩
abbrev S32x4x1x2048x2048 : Shape := ⟨5, ![32, 4, 1, 2048, 2048]⟩
abbrev S32x4x2048x2048 : Shape := ⟨4, ![32, 4, 2048, 2048]⟩
abbrev S32x4x128x2048 : Shape := ⟨4, ![32, 4, 128, 2048]⟩
abbrev S32x2048x4 : Shape := ⟨3, ![32, 2048, 4]⟩
abbrev S32x2048x4x1 : Shape := ⟨4, ![32, 2048, 4, 1]⟩
abbrev S128 : Shape := ⟨1, ![128]⟩
abbrev S1x1x1x128 : Shape := ⟨4, ![1, 1, 1, 128]⟩
abbrev S65536x512 : Shape := ⟨2, ![65536, 512]⟩

abbrev nBuf : Space → Nat
  | .hbm => 91
  | .vmem => 0
  | .smem => 0
  | _ => 0

abbrev bufTy : (tb : Table) → Fin (tcTables nBuf tb) → BufTy
  | .hbm, ⟨0, _⟩ => ⟨S65536x3072, .bf16⟩
  | .hbm, ⟨1, _⟩ => ⟨S4x64, .f32⟩
  | .hbm, ⟨2, _⟩ => ⟨S1x128, .f32⟩
  | .hbm, ⟨3, _⟩ => ⟨S65536x3072, .f32⟩
  | .hbm, ⟨4, _⟩ => ⟨S32x2048x3072, .f32⟩
  | .hbm, ⟨5, _⟩ => ⟨S32x2048x512, .f32⟩
  | .hbm, ⟨6, _⟩ => ⟨S32x2048x4x2x64, .f32⟩
  | .hbm, ⟨7, _⟩ => ⟨S32x2048x512, .f32⟩
  | .hbm, ⟨8, _⟩ => ⟨S32x2048x4x2x64, .f32⟩
  | .hbm, ⟨9, _⟩ => ⟨S32x2048x512, .f32⟩
  | .hbm, ⟨10, _⟩ => ⟨S32x2048x4x128, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S32x4x2x2048x2048, .f32⟩
  | .hbm, ⟨31, _⟩ => ⟨S_, .f32⟩
  | .hbm, ⟨32, _⟩ => ⟨S_, .f32⟩
  | .hbm, ⟨33, _⟩ => ⟨S32x4x2x2048x2048, .f32⟩
  | .hbm, ⟨34, _⟩ => ⟨S32x4x2x2048x2048, .f32⟩
  | .hbm, ⟨35, _⟩ => ⟨S2048, .i32⟩
  | .hbm, ⟨36, _⟩ => ⟨S1x2048, .i32⟩
  | .hbm, ⟨37, _⟩ => ⟨S2048x1, .i32⟩
  | .hbm, ⟨38, _⟩ => ⟨S2048x2048, .i32⟩
  | .hbm, ⟨39, _⟩ => ⟨S2048x2048, .i32⟩
  | .hbm, ⟨40, _⟩ => ⟨S2048x2048, .i1⟩
  | .hbm, ⟨41, _⟩ => ⟨S_, .f32⟩
  | .hbm, ⟨42, _⟩ => ⟨S_, .f32⟩
  | .hbm, ⟨43, _⟩ => ⟨S32x4x2x2048x2048, .i1⟩
  | .hbm, ⟨44, _⟩ => ⟨S32x4x2x2048x2048, .f32⟩
  | .hbm, ⟨45, _⟩ => ⟨S32x4x2x2048x2048, .f32⟩
  | .hbm, ⟨46, _⟩ => ⟨S_, .f32⟩
  | .hbm, ⟨47, _⟩ => ⟨S32x4x2x2048, .f32⟩
  | .hbm, ⟨48, _⟩ => ⟨S_, .f32⟩
  | .hbm, ⟨49, _⟩ => ⟨S32x4x2x2048, .f32⟩
  | .hbm, ⟨50, _⟩ => ⟨S32x4x2x2048, .f32⟩
  | .hbm, ⟨51, _⟩ => ⟨S32x4x2x2048x1, .f32⟩
  | .hbm, ⟨52, _⟩ => ⟨S32x4x2x2048x2048, .f32⟩
  | .hbm, ⟨53, _⟩ => ⟨S32x4x2x2048x2048, .f32⟩
  | .hbm, ⟨54, _⟩ => ⟨S32x4x2x2048x2048, .f32⟩
  | .hbm, ⟨55, _⟩ => ⟨S_, .f32⟩
  | .hbm, ⟨56, _⟩ => ⟨S32x4x2x2048, .f32⟩
  | .hbm, ⟨57, _⟩ => ⟨S32x4x2x2048x1, .f32⟩
  | .hbm, ⟨58, _⟩ => ⟨S32x4x2x2048x2048, .f32⟩
  | .hbm, ⟨59, _⟩ => ⟨S32x4x2x2048x2048, .f32⟩
  | .hbm, ⟨60, _⟩ => ⟨S32x4x1x2048x2048, .f32⟩
  | .hbm, ⟨61, _⟩ => ⟨S32x4x2048x2048, .f32⟩
  | .hbm, ⟨62, _⟩ => ⟨S32x4x1x2048x2048, .f32⟩
  | .hbm, ⟨63, _⟩ => ⟨S32x4x2048x2048, .f32⟩
  | .hbm, ⟨64, _⟩ => ⟨S32x4x2048x2048, .f32⟩
  | .hbm, ⟨65, _⟩ => ⟨S32x4x2048x2048, .f32⟩
  | .hbm, ⟨66, _⟩ => ⟨S32x4x2048x2048, .f32⟩
  | .hbm, ⟨67, _⟩ => ⟨S32x4x128x2048, .f32⟩
  | .hbm, ⟨68, _⟩ => ⟨S32x2048x4x128, .f32⟩
  | .hbm, ⟨69, _⟩ => ⟨S32x2048x4x128, .f32⟩
  | .hbm, ⟨70, _⟩ => ⟨S_, .f32⟩
  | .hbm, ⟨71, _⟩ => ⟨S32x2048x4, .f32⟩
  | .hbm, ⟨72, _⟩ => ⟨S32x2048x4x1, .f32⟩
  | .hbm, ⟨73, _⟩ => ⟨S_, .f32⟩
  | .hbm, ⟨74, _⟩ => ⟨S32x2048x4x1, .f32⟩
  | .hbm, ⟨75, _⟩ => ⟨S32x2048x4x1, .f32⟩
  | .hbm, ⟨76, _⟩ => ⟨S_, .f32⟩
  | .hbm, ⟨77, _⟩ => ⟨S32x2048x4x1, .f32⟩
  | .hbm, ⟨78, _⟩ => ⟨S32x2048x4x1, .f32⟩
  | .hbm, ⟨79, _⟩ => ⟨S32x2048x4x1, .f32⟩
  | .hbm, ⟨80, _⟩ => ⟨S32x2048x4x128, .f32⟩
  | .hbm, ⟨81, _⟩ => ⟨S32x2048x4x128, .f32⟩
  | .hbm, ⟨82, _⟩ => ⟨S128, .f32⟩
  | .hbm, ⟨83, _⟩ => ⟨S1x1x1x128, .f32⟩
  | .hbm, ⟨84, _⟩ => ⟨S32x2048x4x128, .f32⟩
  | .hbm, ⟨85, _⟩ => ⟨S32x2048x4x128, .f32⟩
  | .hbm, ⟨86, _⟩ => ⟨S_, .f32⟩
  | .hbm, ⟨87, _⟩ => ⟨S32x2048x4x128, .f32⟩
  | .hbm, ⟨88, _⟩ => ⟨S32x2048x4x128, .f32⟩
  | .hbm, ⟨89, _⟩ => ⟨S65536x512, .f32⟩
  | .hbm, ⟨90, _⟩ => ⟨S65536x512, .bf16⟩
  | _, _ => ⟨S65536x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Experts.lean ====
abbrev S544 : Shape := ⟨1, ![544]⟩
abbrev S1 : Shape := ⟨1, ![1]⟩
abbrev S2228224x128 : Shape := ⟨2, ![2228224, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x1024 : Shape := ⟨3, ![32, 1, 1024]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S2506752x128 : Shape := ⟨2, ![2506752, 128]⟩
abbrev S4096x128 : Shape := ⟨2, ![4096, 128]⟩
abbrev S1x1024x2048 : Shape := ⟨3, ![1, 1024, 2048]⟩
abbrev S1x1x1024 : Shape := ⟨3, ![1, 1, 1024]⟩
abbrev S1x1024x1024 : Shape := ⟨3, ![1, 1024, 1024]⟩
abbrev S4608x128 : Shape := ⟨2, ![4608, 128]⟩
abbrev S1024x1024 : Shape := ⟨2, ![1024, 1024]⟩
abbrev S1x1024x256 : Shape := ⟨3, ![1, 1024, 256]⟩
abbrev S1024x256 : Shape := ⟨2, ![1024, 256]⟩
abbrev S1024x128 : Shape := ⟨2, ![1024, 128]⟩
abbrev S512x128 : Shape := ⟨2, ![512, 128]⟩
abbrev S512x1024 : Shape := ⟨2, ![512, 1024]⟩
abbrev S1x1024 : Shape := ⟨2, ![1, 1024]⟩

abbrev nBuf : Space → Nat
  | .hbm => 35
  | .vmem => 18
  | .smem => 2
  | _ => 0

abbrev bufTy : (tb : Table) → Fin (tcTables nBuf tb) → BufTy
  | .hbm, ⟨0, _⟩ => ⟨S2228224x128, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024, .f32⟩
  | .hbm, ⟨6, _⟩ => ⟨S32x1x1024, .f32⟩
  | .hbm, ⟨7, _⟩ => ⟨S32x1024, .f32⟩
  | .hbm, ⟨8, _⟩ => ⟨S32x1x1024, .f32⟩
  | .hbm, ⟨9, _⟩ => ⟨S32x1x1024, .f32⟩
  | .hbm, ⟨10, _⟩ => ⟨S256, .i32⟩
  | .hbm, ⟨11, _⟩ => ⟨S256x1, .i32⟩
  | .hbm, ⟨12, _⟩ => ⟨S256, .i32⟩
  | .hbm, ⟨13, _⟩ => ⟨S1x256, .i32⟩
  | .hbm, ⟨14, _⟩ => ⟨S_, .i32⟩
  | .hbm, ⟨15, _⟩ => ⟨S1x256, .i32⟩
  | .hbm, ⟨16, _⟩ => ⟨S1x256, .i1⟩
  | .hbm, ⟨17, _⟩ => ⟨S_, .i32⟩
  | .hbm, ⟨18, _⟩ => ⟨S1x256, .i32⟩
  | .hbm, ⟨19, _⟩ => ⟨S1x256, .i32⟩
  | .hbm, ⟨20, _⟩ => ⟨S_, .i32⟩
  | .hbm, ⟨21, _⟩ => ⟨S1x256, .i32⟩
  | .hbm, ⟨22, _⟩ => ⟨S1x256, .i32⟩
  | .hbm, ⟨23, _⟩ => ⟨S_, .i32⟩
  | .hbm, ⟨24, _⟩ => ⟨S1x256, .i32⟩
  | .hbm, ⟨25, _⟩ => ⟨S1x256, .i32⟩
  | .hbm, ⟨26, _⟩ => ⟨S_, .i32⟩
  | .hbm, ⟨27, _⟩ => ⟨S1x256, .i32⟩
  | .hbm, ⟨28, _⟩ => ⟨S1x256, .i32⟩
  | .hbm, ⟨29, _⟩ => ⟨S1x256, .i32⟩
  | .hbm, ⟨30, _⟩ => ⟨S256x256, .i32⟩
  | .hbm, ⟨31, _⟩ => ⟨S256x256, .i32⟩
  | .hbm, ⟨32, _⟩ => ⟨S256x256, .i1⟩
  | .hbm, ⟨33, _⟩ => ⟨S256x256, .bf16⟩
  | .hbm, ⟨34, _⟩ => ⟨S2506752x128, .f32⟩
  | .local _ .vmem, ⟨0, _⟩ => ⟨S4096x128, .f32⟩
  | .local _ .vmem, ⟨1, _⟩ => ⟨S4096x128, .f32⟩
  | .local _ .vmem, ⟨2, _⟩ => ⟨S256x256, .bf16⟩
  | .local _ .vmem, ⟨3, _⟩ => ⟨S1x1024x2048, .f32⟩
  | .local _ .vmem, ⟨4, _⟩ => ⟨S1x1024x2048, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1x1024, .f32⟩
  | .local _ .vmem, ⟨12, _⟩ => ⟨S1x1x1024, .f32⟩
  | .local _ .vmem, ⟨13, _⟩ => ⟨S4608x128, .f32⟩
  | .local _ .vmem, ⟨14, _⟩ => ⟨S4608x128, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .smem, ⟨0, _⟩ => ⟨S544, .i32⟩
  | .local _ .smem, ⟨1, _⟩ => ⟨S1, .i32⟩
  | _, _ => ⟨S2228224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4608x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsRefIdeal.lean ====
abbrev S544 : Shape := ⟨1, ![544]⟩
abbrev S1 : Shape := ⟨1, ![1]⟩
abbrev S2228224x128 : Shape := ⟨2, ![2228224, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S278528x1024 : Shape := ⟨2, ![278528, 1024]⟩
abbrev S544x1 : Shape := ⟨2, ![544, 1]⟩
abbrev S32 : Shape := ⟨1, ![32]⟩
abbrev S1x32 : Shape := ⟨2, ![1, 32]⟩
abbrev S544x32 : Shape := ⟨2, ![544, 32]⟩
abbrev S_ : Shape := ⟨0, ![]⟩
abbrev S544x1x32 : Shape := ⟨3, ![544, 1, 32]⟩
abbrev S544x512x32 : Shape := ⟨3, ![544, 512, 32]⟩
abbrev S278528x32 : Shape := ⟨2, ![278528, 32]⟩
abbrev S32x2048x278528 : Shape := ⟨3, ![32, 2048, 278528]⟩
abbrev S32x278528x2048 : Shape := ⟨3, ![32, 278528, 2048]⟩
abbrev S32x1x2048 : Shape := ⟨3, ![32, 1, 2048]⟩
abbrev S32x278528x1024 : Shape := ⟨3, ![32, 278528, 1024]⟩
abbrev S32x1x1024 : Shape := ⟨3, ![32, 1, 1024]⟩
abbrev S32x278528 : Shape := ⟨2, ![32, 278528]⟩
abbrev S32x278528x1 : Shape := ⟨3, ![32, 278528, 1]⟩
abbrev S278528x8x128 : Shape := ⟨3, ![278528, 8, 128]⟩
abbrev S278528x9x128 : Shape := ⟨3, ![278528, 9, 128]⟩
abbrev S2506752x128 : Shape := ⟨2, ![2506752, 128]⟩

abbrev nBuf : Space → Nat
  | .hbm => 74
  | .vmem => 0
  | .smem => 0
  | _ => 0

abbrev bufTy : (tb : Table) → Fin (tcTables nBuf tb) → BufTy
  | .hbm, ⟨0, _⟩ => ⟨S544, .i32⟩
  | .hbm, ⟨1, _⟩ => ⟨S1, .i32⟩
  | .hbm, ⟨2, _⟩ => ⟨S2228224x128, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S278528x1024, .f32⟩
  | .hbm, ⟨8, _⟩ => ⟨S544x1, .i32⟩
  | .hbm, ⟨9, _⟩ => ⟨S32, .i32⟩
  | .hbm, ⟨10, _⟩ => ⟨S1x32, .i32⟩
  | .hbm, ⟨11, _⟩ => ⟨S544x32, .i32⟩
  | .hbm, ⟨12, _⟩ => ⟨S544x32, .i32⟩
  | .hbm, ⟨13, _⟩ => ⟨S544x32, .i1⟩
  | .hbm, ⟨14, _⟩ => ⟨S544, .i32⟩
  | .hbm, ⟨15, _⟩ => ⟨S_, .i32⟩
  | .hbm, ⟨16, _⟩ => ⟨S544, .i32⟩
  | .hbm, ⟨17, _⟩ => ⟨S544, .i1⟩
  | .hbm, ⟨18, _⟩ => ⟨S544x1, .i1⟩
  | .hbm, ⟨19, _⟩ => ⟨S544x32, .i1⟩
  | .hbm, ⟨20, _⟩ => ⟨S544x32, .i1⟩
  | .hbm, ⟨21, _⟩ => ⟨S544x32, .f32⟩
  | .hbm, ⟨22, _⟩ => ⟨S544x1x32, .f32⟩
  | .hbm, ⟨23, _⟩ => ⟨S544x512x32, .f32⟩
  | .hbm, ⟨24, _⟩ => ⟨S278528x32, .f32⟩
  | .hbm, ⟨25, _⟩ => ⟨S32x2048x278528, .f32⟩
  | .hbm, ⟨26, _⟩ => ⟨S32x278528x2048, .f32⟩
  | .hbm, ⟨27, _⟩ => ⟨S32x1x2048, .f32⟩
  | .hbm, ⟨28, _⟩ => ⟨S32x278528x2048, .f32⟩
  | .hbm, ⟨29, _⟩ => ⟨S32x278528x2048, .f32⟩
  | .hbm, ⟨30, _⟩ => ⟨S32x278528x1024, .f32⟩
  | .hbm, ⟨31, _⟩ => ⟨S32x278528x1024, .f32⟩
  | .hbm, ⟨32, _⟩ => ⟨S_, .f32⟩
  | .hbm, ⟨33, _⟩ => ⟨S32x278528x1024, .f32⟩
  | .hbm, ⟨34, _⟩ => ⟨S32x278528x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S32x278528x1024, .f32⟩
  | .hbm, ⟨39, _⟩ => ⟨S32x278528x1024, .f32⟩
  | .hbm, ⟨40, _⟩ => ⟨S_, .f32⟩
  | .hbm, ⟨41, _⟩ => ⟨S32x278528x1024, .f32⟩
  | .hbm, ⟨42, _⟩ => ⟨S32x278528x1024, .f32⟩
  | .hbm, ⟨43, _⟩ => ⟨S_, .f32⟩
  | .hbm, ⟨44, _⟩ => ⟨S32x278528x1024, .f32⟩
  | .hbm, ⟨45, _⟩ => ⟨S32x278528x1024, .f32⟩
  | .hbm, ⟨46, _⟩ => ⟨S32x278528x1024, .f32⟩
  | .hbm, ⟨47, _⟩ => ⟨S32x278528x1024, .f32⟩
  | .hbm, ⟨48, _⟩ => ⟨S_, .f32⟩
  | .hbm, ⟨49, _⟩ => ⟨S32x278528x1024, .f32⟩
  | .hbm, ⟨50, _⟩ => ⟨S32x278528x1024, .f32⟩
  | .hbm, ⟨51, _⟩ => ⟨S_, .f32⟩
  | .hbm, ⟨52, _⟩ => ⟨S32x278528x1024, .f32⟩
  | .hbm, ⟨53, _⟩ => ⟨S32x278528x1024, .f32⟩
  | .hbm, ⟨54, _⟩ => ⟨S32x278528x1024, .f32⟩
  | .hbm, ⟨55, _⟩ => ⟨S_, .f32⟩
  | .hbm, ⟨56, _⟩ => ⟨S32x278528x1024, .f32⟩
  | .hbm, ⟨57, _⟩ => ⟨S32x278528x1024, .f32⟩
  | .hbm, ⟨58, _⟩ => ⟨S32x278528x1024, .f32⟩
  | .hbm, ⟨59, _⟩ => ⟨S32x278528x1024, .f32⟩
  | .hbm, ⟨60, _⟩ => ⟨S32x1x1024, .f32⟩
  | .hbm, ⟨61, _⟩ => ⟨S32x278528x1024, .f32⟩
  | .hbm, ⟨62, _⟩ => ⟨S32x278528x1024, .f32⟩
  | .hbm, ⟨63, _⟩ => ⟨S32x278528, .f32⟩
  | .hbm, ⟨64, _⟩ => ⟨S32x278528x1, .f32⟩
  | .hbm, ⟨65, _⟩ => ⟨S32x278528x1024, .f32⟩
  | .hbm, ⟨66, _⟩ => ⟨S32x278528x1024, .f32⟩
  | .hbm, ⟨67, _⟩ => ⟨S_, .f32⟩
  | .hbm, ⟨68, _⟩ => ⟨S278528x1024, .f32⟩
  | .hbm, ⟨69, _⟩ => ⟨S278528x8x128, .f32⟩
  | .hbm, ⟨70, _⟩ => ⟨S_, .i32⟩
  | .hbm, ⟨71, _⟩ => ⟨S_, .f32⟩
  | .hbm, ⟨72, _⟩ => ⟨S278528x9x128, .f32⟩
  | .hbm, ⟨73, _⟩ => ⟨S2506752x128, .f32⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_cst_0 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_c : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Inproj.lean ====
abbrev S65536x1024 : Shape := ⟨2, ![65536, 1024]⟩
abbrev S1024x3072 : Shape := ⟨2, ![1024, 3072]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S128 : Shape := ⟨1, ![128]⟩
abbrev S1x128 : Shape := ⟨2, ![1, 128]⟩
abbrev S128x1 : Shape := ⟨2, ![128, 1]⟩
abbrev S2048x128 : Shape := ⟨2, ![2048, 128]⟩
abbrev S65536x3072 : Shape := ⟨2, ![65536, 3072]⟩
abbrev S256x1x512 : Shape := ⟨3, ![256, 1, 512]⟩
abbrev S512x1024 : Shape := ⟨2, ![512, 1024]⟩
abbrev S512x128 : Shape := ⟨2, ![512, 128]⟩
abbrev S512x3072 : Shape := ⟨2, ![512, 3072]⟩
abbrev S2x1x512 : Shape := ⟨3, ![2, 1, 512]⟩
abbrev S1024x512 : Shape := ⟨2, ![1024, 512]⟩
abbrev S512x512 : Shape := ⟨2, ![512, 512]⟩
abbrev S256x128 : Shape := ⟨2, ![256, 128]⟩
abbrev S1x1x128 : Shape := ⟨3, ![1, 1, 128]⟩

abbrev nBuf : Space → Nat
  | .hbm => 114
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S1024x3072, .bf16⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S2048, .f32⟩
  | .hbm, ⟨17, _⟩ => ⟨S2048x1, .f32⟩
  | .hbm, ⟨18, _⟩ => ⟨S1x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S128, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S_, .i32⟩
  | .hbm, ⟨37, _⟩ => ⟨S128, .i32⟩
  | .hbm, ⟨38, _⟩ => ⟨S128, .i1⟩
  | .hbm, ⟨39, _⟩ => ⟨S_, .i32⟩
  | .hbm, ⟨40, _⟩ => ⟨S_, .i1⟩
  | .hbm, ⟨41, _⟩ => ⟨S128, .i1⟩
  | .hbm, ⟨42, _⟩ => ⟨S128, .i1⟩
  | .hbm, ⟨43, _⟩ => ⟨S128, .i1⟩
  | .hbm, ⟨44, _⟩ => ⟨S128, .i32⟩
  | .hbm, ⟨45, _⟩ => ⟨S128, .i32⟩
  | .hbm, ⟨46, _⟩ => ⟨S128, .i32⟩
  | .hbm, ⟨47, _⟩ => ⟨S_, .i32⟩
  | .hbm, ⟨48, _⟩ => ⟨S128, .i32⟩
  | .hbm, ⟨49, _⟩ => ⟨S128, .i1⟩
  | .hbm, ⟨50, _⟩ => ⟨S_, .i32⟩
  | .hbm, ⟨51, _⟩ => ⟨S128, .i32⟩
  | .hbm, ⟨52, _⟩ => ⟨S128, .i1⟩
  | .hbm, ⟨53, _⟩ => ⟨S_, .i32⟩
  | .hbm, ⟨54, _⟩ => ⟨S128, .i32⟩
  | .hbm, ⟨55, _⟩ => ⟨S128, .i1⟩
  | .hbm, ⟨56, _⟩ => ⟨S128, .i1⟩
  | .hbm, ⟨57, _⟩ => ⟨S_, .i32⟩
  | .hbm, ⟨58, _⟩ => ⟨S128, .i32⟩
  | .hbm, ⟨59, _⟩ => ⟨S128, .i32⟩
  | .hbm, ⟨60, _⟩ => ⟨S_, .i32⟩
  | .hbm, ⟨61, _⟩ => ⟨S_, .i32⟩
  | .hbm, ⟨62, _⟩ => ⟨S128, .i32⟩
  | .hbm, ⟨63, _⟩ => ⟨S128, .i32⟩
  | .hbm, ⟨64, _⟩ => ⟨S128, .i32⟩
  | .hbm, ⟨65, _⟩ => ⟨S128, .i1⟩
  | .hbm, ⟨66, _⟩ => ⟨S1x128, .i1⟩
  | .hbm, ⟨67, _⟩ => ⟨S_, .i32⟩
  | .hbm, ⟨68, _⟩ => ⟨S128, .i32⟩
  | .hbm, ⟨69, _⟩ => ⟨S128, .i1⟩
  | .hbm, ⟨70, _⟩ => ⟨S_, .i32⟩
  | .hbm, ⟨71, _⟩ => ⟨S128, .i32⟩
  | .hbm, ⟨72, _⟩ => ⟨S128, .i32⟩
  | .hbm, ⟨73, _⟩ => ⟨S128, .i32⟩
  | .hbm, ⟨74, _⟩ => ⟨S128x1, .i32⟩
  | .hbm, ⟨75, _⟩ => ⟨S2048x128, .f32⟩
  | .hbm, ⟨76, _⟩ => ⟨S_, .f32⟩
  | .hbm, ⟨77, _⟩ => ⟨S_, .f32⟩
  | .hbm, ⟨78, _⟩ => ⟨S2048x128, .i1⟩
  | .hbm, ⟨79, _⟩ => ⟨S2048x128, .f32⟩
  | .hbm, ⟨80, _⟩ => ⟨S2048x128, .f32⟩
  | .hbm, ⟨81, _⟩ => ⟨S1x128, .i1⟩
  | .hbm, ⟨82, _⟩ => ⟨S_, .i32⟩
  | .hbm, ⟨83, _⟩ => ⟨S128, .i32⟩
  | .hbm, ⟨84, _⟩ => ⟨S128, .i1⟩
  | .hbm, ⟨85, _⟩ => ⟨S_, .i32⟩
  | .hbm, ⟨86, _⟩ => ⟨S128, .i32⟩
  | .hbm, ⟨87, _⟩ => ⟨S128, .i32⟩
  | .hbm, ⟨88, _⟩ => ⟨S128, .i32⟩
  | .hbm, ⟨89, _⟩ => ⟨S128x1, .i32⟩
  | .hbm, ⟨90, _⟩ => ⟨S2048x128, .f32⟩
  | .hbm, ⟨91, _⟩ => ⟨S_, .f32⟩
  | .hbm, ⟨92, _⟩ => ⟨S_, .f32⟩
  | .hbm, ⟨93, _⟩ => ⟨S2048x128, .i1⟩
  | .hbm, ⟨94, _⟩ => ⟨S2048x128, .f32⟩
  | .hbm, ⟨95, _⟩ => ⟨S2048x128, .f32⟩
  | .hbm, ⟨96, _⟩ => ⟨S1x128, .i1⟩
  | .hbm, ⟨97, _⟩ => ⟨S_, .i32⟩
  | .hbm, ⟨98, _⟩ => ⟨S128, .i32⟩
  | .hbm, ⟨99, _⟩ => ⟨S128, .i1⟩
  | .hbm, ⟨100, _⟩ => ⟨S_, .i32⟩
  | .hbm, ⟨101, _⟩ => ⟨S128, .i32⟩
  | .hbm, ⟨102, _⟩ => ⟨S128, .i32⟩
  | .hbm, ⟨103, _⟩ => ⟨S128, .i32⟩
  | .hbm, ⟨104, _⟩ => ⟨S128x1, .i32⟩
  | .hbm, ⟨105, _⟩ => ⟨S2048x128, .f32⟩
  | .hbm, ⟨106, _⟩ => ⟨S2048x128, .f32⟩
  | .hbm, ⟨107, _⟩ => ⟨S_, .f32⟩
  | .hbm, ⟨108, _⟩ => ⟨S_, .f32⟩
  | .hbm, ⟨109, _⟩ => ⟨S2048x128, .i1⟩
  | .hbm, ⟨110, _⟩ => ⟨S2048x128, .f32⟩
  | .hbm, ⟨111, _⟩ => ⟨S2048x128, .f32⟩
  | .hbm, ⟨112, _⟩ => ⟨S65536x3072, .bf16⟩
  | .hbm, ⟨113, _⟩ => ⟨S256x1x512, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x3072, .bf16⟩
  | .local _ .vmem, ⟨10, _⟩ => ⟨S512x3072, .bf16⟩
  | .local _ .vmem, ⟨11, _⟩ => ⟨S2x1x512, .f32⟩
  | .local _ .vmem, ⟨12, _⟩ => ⟨S2x1x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_1 : Ref sig .tc := ⟨.hbm, 33, rfl⟩
abbrev main_call0_v5 : Ref sig .tc := ⟨.hbm, 34, rfl⟩
abbrev main_call0_v6 : Ref sig .tc := ⟨.hbm, 35, rfl⟩
abbrev main_call0_c_2 : Ref sig .tc := ⟨.hbm, 36, rfl⟩
abbrev main_call0_v7 : Ref sig .tc := ⟨.hbm, 37, rfl⟩
abbrev main_call0_v8 : Ref sig .tc := ⟨.hbm, 38, rfl⟩
abbrev main_call0_c_3 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_6 : Ref sig .tc := ⟨.hbm, 57, rfl⟩
abbrev main_v27 : Ref sig .tc := ⟨.hbm, 58, rfl⟩
abbrev main_v28 : Ref sig .tc := ⟨.hbm, 59, rfl⟩
abbrev main_c_7 : Ref sig .tc := ⟨.hbm, 60, rfl⟩
abbrev main_call1_v0 : Ref sig .tc := ⟨.hbm, 61, rfl⟩
abbrev main_call1_v1 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_8 : Ref sig .tc := ⟨.hbm, 67, rfl⟩
abbrev main_v33 : Ref sig .tc := ⟨.hbm, 68, rfl⟩
abbrev main_v34 : Ref sig .tc := ⟨.hbm, 69, rfl⟩
abbrev main_c_9 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_10 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v40 : Ref sig .tc := ⟨.hbm, 80, rfl⟩
abbrev main_v41 : Ref sig .tc := ⟨.hbm, 81, rfl⟩
abbrev main_c_11 : Ref sig .tc := ⟨.hbm, 82, rfl⟩
abbrev main_v42 : Ref sig .tc := ⟨.hbm, 83, rfl⟩
abbrev main_v43 : Ref sig .tc := ⟨.hbm, 84, rfl⟩
abbrev main_c_12 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_13 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_v49 : Ref sig .tc := ⟨.hbm, 95, rfl⟩
abbrev main_v50 : Ref sig .tc := ⟨.hbm, 96, rfl⟩
abbrev main_c_14 : Ref sig .tc := ⟨.hbm, 97, rfl⟩
abbrev main_v51 : Ref sig .tc := ⟨.hbm, 98, rfl⟩
abbrev main_v52 : Ref sig .tc := ⟨.hbm, 99, rfl⟩
abbrev main_c_15 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_cst_16 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_v59 : Ref sig .tc := ⟨.hbm, 111, rfl⟩
abbrev main_v60_0 : Ref sig .tc := ⟨.hbm, 112, rfl⟩
abbrev main_v60_1 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InprojRefIdeal.lean ====
abbrev S65536x1024 : Shape := ⟨2, ![65536, 1024]⟩
abbrev S1024x3072 : Shape := ⟨2, ![1024, 3072]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S65536x3072 : Shape := ⟨2, ![65536, 3072]⟩
abbrev S65536x512 : Shape := ⟨2, ![65536, 512]⟩
abbrev S32x2048x8x64 : Shape := ⟨4, ![32, 2048, 8, 64]⟩
abbrev S32x2048x8x8 : Shape := ⟨4, ![32, 2048, 8, 8]⟩
abbrev S32x2048x8x48 : Shape := ⟨4, ![32, 2048, 8, 48]⟩
abbrev S1x2048x1x8 : Shape := ⟨4, ![1, 2048, 1, 8]⟩
abbrev S256x256x512 : Shape := ⟨3, ![256, 256, 512]⟩
abbrev S256x512 : Shape := ⟨2, ![256, 512]⟩
abbrev S256x1x512 : Shape := ⟨3, ![256, 1, 512]⟩

abbrev nBuf : Space → Nat
  | .hbm => 123
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x3072, .bf16⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S2048, .f32⟩
  | .hbm, ⟨17, _⟩ => ⟨S2048x1, .f32⟩
  | .hbm, ⟨18, _⟩ => ⟨S1x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S2048x1x8, .f32⟩
  | .hbm, ⟨24, _⟩ => ⟨S2048x8, .f32⟩
  | .hbm, ⟨25, _⟩ => ⟨S2048x1x8, .f32⟩
  | .hbm, ⟨26, _⟩ => ⟨S1024x3072, .f32⟩
  | .hbm, ⟨27, _⟩ => ⟨S65536x3072, .f32⟩
  | .hbm, ⟨28, _⟩ => ⟨S65536x512, .f32⟩
  | .hbm, ⟨29, _⟩ => ⟨S65536x512, .f32⟩
  | .hbm, ⟨30, _⟩ => ⟨S65536x512, .f32⟩
  | .hbm, ⟨31, _⟩ => ⟨S65536x512, .f32⟩
  | .hbm, ⟨32, _⟩ => ⟨S65536x512, .f32⟩
  | .hbm, ⟨33, _⟩ => ⟨S65536x512, .f32⟩
  | .hbm, ⟨34, _⟩ => ⟨S32x2048x8x64, .f32⟩
  | .hbm, ⟨35, _⟩ => ⟨S32x2048x8x8, .f32⟩
  | .hbm, ⟨36, _⟩ => ⟨S32x2048x8x8, .f32⟩
  | .hbm, ⟨37, _⟩ => ⟨S32x2048x8x48, .f32⟩
  | .hbm, ⟨38, _⟩ => ⟨S1x2048x1x8, .f32⟩
  | .hbm, ⟨39, _⟩ => ⟨S32x2048x8x8, .f32⟩
  | .hbm, ⟨40, _⟩ => ⟨S32x2048x8x8, .f32⟩
  | .hbm, ⟨41, _⟩ => ⟨S1x2048x1x8, .f32⟩
  | .hbm, ⟨42, _⟩ => ⟨S32x2048x8x8, .f32⟩
  | .hbm, ⟨43, _⟩ => ⟨S32x2048x8x8, .f32⟩
  | .hbm, ⟨44, _⟩ => ⟨S32x2048x8x8, .f32⟩
  | .hbm, ⟨45, _⟩ => ⟨S1x2048x1x8, .f32⟩
  | .hbm, ⟨46, _⟩ => ⟨S32x2048x8x8, .f32⟩
  | .hbm, ⟨47, _⟩ => ⟨S32x2048x8x8, .f32⟩
  | .hbm, ⟨48, _⟩ => ⟨S1x2048x1x8, .f32⟩
  | .hbm, ⟨49, _⟩ => ⟨S32x2048x8x8, .f32⟩
  | .hbm, ⟨50, _⟩ => ⟨S32x2048x8x8, .f32⟩
  | .hbm, ⟨51, _⟩ => ⟨S32x2048x8x8, .f32⟩
  | .hbm, ⟨52, _⟩ => ⟨S32x2048x8x64, .f32⟩
  | .hbm, ⟨53, _⟩ => ⟨S65536x512, .f32⟩
  | .hbm, ⟨54, _⟩ => ⟨S32x2048x8x64, .f32⟩
  | .hbm, ⟨55, _⟩ => ⟨S32x2048x8x8, .f32⟩
  | .hbm, ⟨56, _⟩ => ⟨S32x2048x8x8, .f32⟩
  | .hbm, ⟨57, _⟩ => ⟨S32x2048x8x48, .f32⟩
  | .hbm, ⟨58, _⟩ => ⟨S1x2048x1x8, .f32⟩
  | .hbm, ⟨59, _⟩ => ⟨S32x2048x8x8, .f32⟩
  | .hbm, ⟨60, _⟩ => ⟨S32x2048x8x8, .f32⟩
  | .hbm, ⟨61, _⟩ => ⟨S1x2048x1x8, .f32⟩
  | .hbm, ⟨62, _⟩ => ⟨S32x2048x8x8, .f32⟩
  | .hbm, ⟨63, _⟩ => ⟨S32x2048x8x8, .f32⟩
  | .hbm, ⟨64, _⟩ => ⟨S32x2048x8x8, .f32⟩
  | .hbm, ⟨65, _⟩ => ⟨S1x2048x1x8, .f32⟩
  | .hbm, ⟨66, _⟩ => ⟨S32x2048x8x8, .f32⟩
  | .hbm, ⟨67, _⟩ => ⟨S32x2048x8x8, .f32⟩
  | .hbm, ⟨68, _⟩ => ⟨S1x2048x1x8, .f32⟩
  | .hbm, ⟨69, _⟩ => ⟨S32x2048x8x8, .f32⟩
  | .hbm, ⟨70, _⟩ => ⟨S32x2048x8x8, .f32⟩
  | .hbm, ⟨71, _⟩ => ⟨S32x2048x8x8, .f32⟩
  | .hbm, ⟨72, _⟩ => ⟨S32x2048x8x64, .f32⟩
  | .hbm, ⟨73, _⟩ => ⟨S65536x512, .f32⟩
  | .hbm, ⟨74, _⟩ => ⟨S32x2048x8x64, .f32⟩
  | .hbm, ⟨75, _⟩ => ⟨S32x2048x8x8, .f32⟩
  | .hbm, ⟨76, _⟩ => ⟨S32x2048x8x8, .f32⟩
  | .hbm, ⟨77, _⟩ => ⟨S32x2048x8x48, .f32⟩
  | .hbm, ⟨78, _⟩ => ⟨S1x2048x1x8, .f32⟩
  | .hbm, ⟨79, _⟩ => ⟨S32x2048x8x8, .f32⟩
  | .hbm, ⟨80, _⟩ => ⟨S32x2048x8x8, .f32⟩
  | .hbm, ⟨81, _⟩ => ⟨S1x2048x1x8, .f32⟩
  | .hbm, ⟨82, _⟩ => ⟨S32x2048x8x8, .f32⟩
  | .hbm, ⟨83, _⟩ => ⟨S32x2048x8x8, .f32⟩
  | .hbm, ⟨84, _⟩ => ⟨S32x2048x8x8, .f32⟩
  | .hbm, ⟨85, _⟩ => ⟨S1x2048x1x8, .f32⟩
  | .hbm, ⟨86, _⟩ => ⟨S32x2048x8x8, .f32⟩
  | .hbm, ⟨87, _⟩ => ⟨S32x2048x8x8, .f32⟩
  | .hbm, ⟨88, _⟩ => ⟨S1x2048x1x8, .f32⟩
  | .hbm, ⟨89, _⟩ => ⟨S32x2048x8x8, .f32⟩
  | .hbm, ⟨90, _⟩ => ⟨S32x2048x8x8, .f32⟩
  | .hbm, ⟨91, _⟩ => ⟨S32x2048x8x8, .f32⟩
  | .hbm, ⟨92, _⟩ => ⟨S32x2048x8x64, .f32⟩
  | .hbm, ⟨93, _⟩ => ⟨S65536x512, .f32⟩
  | .hbm, ⟨94, _⟩ => ⟨S32x2048x8x64, .f32⟩
  | .hbm, ⟨95, _⟩ => ⟨S32x2048x8x8, .f32⟩
  | .hbm, ⟨96, _⟩ => ⟨S32x2048x8x8, .f32⟩
  | .hbm, ⟨97, _⟩ => ⟨S32x2048x8x48, .f32⟩
  | .hbm, ⟨98, _⟩ => ⟨S1x2048x1x8, .f32⟩
  | .hbm, ⟨99, _⟩ => ⟨S32x2048x8x8, .f32⟩
  | .hbm, ⟨100, _⟩ => ⟨S32x2048x8x8, .f32⟩
  | .hbm, ⟨101, _⟩ => ⟨S1x2048x1x8, .f32⟩
  | .hbm, ⟨102, _⟩ => ⟨S32x2048x8x8, .f32⟩
  | .hbm, ⟨103, _⟩ => ⟨S32x2048x8x8, .f32⟩
  | .hbm, ⟨104, _⟩ => ⟨S32x2048x8x8, .f32⟩
  | .hbm, ⟨105, _⟩ => ⟨S1x2048x1x8, .f32⟩
  | .hbm, ⟨106, _⟩ => ⟨S32x2048x8x8, .f32⟩
  | .hbm, ⟨107, _⟩ => ⟨S32x2048x8x8, .f32⟩
  | .hbm, ⟨108, _⟩ => ⟨S1x2048x1x8, .f32⟩
  | .hbm, ⟨109, _⟩ => ⟨S32x2048x8x8, .f32⟩
  | .hbm, ⟨110, _⟩ => ⟨S32x2048x8x8, .f32⟩
  | .hbm, ⟨111, _⟩ => ⟨S32x2048x8x8, .f32⟩
  | .hbm, ⟨112, _⟩ => ⟨S32x2048x8x64, .f32⟩
  | .hbm, ⟨113, _⟩ => ⟨S65536x512, .f32⟩
  | .hbm, ⟨114, _⟩ => ⟨S256x256x512, .f32⟩
  | .hbm, ⟨115, _⟩ => ⟨S_, .f32⟩
  | .hbm, ⟨116, _⟩ => ⟨S256x512, .f32⟩
  | .hbm, ⟨117, _⟩ => ⟨S256x1x512, .f32⟩
  | .hbm, ⟨118, _⟩ => ⟨S_, .f32⟩
  | .hbm, ⟨119, _⟩ => ⟨S256x1x512, .f32⟩
  | .hbm, ⟨120, _⟩ => ⟨S256x1x512, .f32⟩
  | .hbm, ⟨121, _⟩ => ⟨S65536x3072, .f32⟩
  | .hbm, ⟨122, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_cst_3 : Ref sig .tc := ⟨.hbm, 115, rfl⟩
abbrev main_v109 : Ref sig .tc := ⟨.hbm, 116, rfl⟩
abbrev main_v110 : Ref sig .tc := ⟨.hbm, 117, rfl⟩
abbrev main_cst_4 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩

abbrev nD : Nat := 1
abbrev τ : Topo := Topo.v7x

variable {F : FTy → Type} [FloatOps F]
-- ==== Moba.lean ====
abbrev S65536x3072 : Shape := ⟨2, ![65536, 3072]⟩
abbrev S256x1x512 : Shape := ⟨3, ![256, 1, 512]⟩
abbrev S32x8x512 : Shape := ⟨3, ![32, 8, 512]⟩
abbrev S65536x512 : Shape := ⟨2, ![65536, 512]⟩
abbrev S2048x128 : Shape := ⟨2, ![2048, 128]⟩
abbrev S1x8x128 : Shape := ⟨3, ![1, 8, 128]⟩
abbrev S256x128 : Shape := ⟨2, ![256, 128]⟩
abbrev S256x256 : Shape := ⟨2, ![256, 256]⟩
abbrev S8x128 : Shape := ⟨2, ![8, 128]⟩
abbrev S256 : Shape := ⟨1, ![256]⟩
abbrev S256x1 : Shape := ⟨2, ![256, 1]⟩
abbrev S256x512 : Shape := ⟨2, ![256, 512]⟩
abbrev S512x128 : Shape := ⟨2, ![512, 128]⟩
abbrev S256x768 : Shape := ⟨2, ![256, 768]⟩
abbrev S768x128 : Shape := ⟨2, ![768, 128]⟩
abbrev S256x1024 : Shape := ⟨2, ![256, 1024]⟩
abbrev S1024x128 : Shape := ⟨2, ![1024, 128]⟩
abbrev S8x256 : Shape := ⟨2, ![8, 256]⟩
abbrev S1x256 : Shape := ⟨2, ![1, 256]⟩
abbrev S120x256 : Shape := ⟨2, ![120, 256]⟩
abbrev S128x256 : Shape := ⟨2, ![128, 256]⟩
abbrev S256x1280 : Shape := ⟨2, ![256, 1280]⟩
abbrev S1280x128 : Shape := ⟨2, ![1280, 128]⟩
abbrev S256x1536 : Shape := ⟨2, ![256, 1536]⟩
abbrev S1536x128 : Shape := ⟨2, ![1536, 128]⟩
abbrev S256x1792 : Shape := ⟨2, ![256, 1792]⟩
abbrev S1792x128 : Shape := ⟨2, ![1792, 128]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S65536x3072, .bf16⟩
  | .hbm, ⟨1, _⟩ => ⟨S256x1x512, .f32⟩
  | .hbm, ⟨2, _⟩ => ⟨S32x8x512, .f32⟩
  | .hbm, ⟨3, _⟩ => ⟨S65536x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x8x128, .f32⟩
  | .local _ .vmem, ⟨7, _⟩ => ⟨S1x8x128, .f32⟩
  | .local _ .vmem, ⟨8, _⟩ => ⟨S2048x128, .bf16⟩
  | .local _ .vmem, ⟨9, _⟩ => ⟨S2048x128, .bf16⟩
  | _, _ => ⟨S65536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MobaIdeal.lean ====
variable {F : FTy → Type} [FloatOps F] [Named F]
def κ : String → Option EReal := fun
  | "mask" => some ⊥
  | _ => none
-- ==== MobaRefIdeal.lean ====
abbrev S65536x3072 : Shape := ⟨2, ![65536, 3072]⟩
abbrev S256x1x512 : Shape := ⟨3, ![256, 1, 512]⟩
abbrev S32x2048x3072 : Shape := ⟨3, ![32, 2048, 3072]⟩
abbrev S32x2048x512 : Shape := ⟨3, ![32, 2048, 512]⟩
abbrev S32x2048x8x64 : Shape := ⟨4, ![32, 2048, 8, 64]⟩
abbrev S32x8x8x64 : Shape := ⟨4, ![32, 8, 8, 64]⟩
abbrev S32x8x2048x8 : Shape := ⟨4, ![32, 8, 2048, 8]⟩
abbrev S2048 : Shape := ⟨1, ![2048]⟩
abbrev S_ : Shape := ⟨0, ![]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S32x8x2048x3 : Shape := ⟨4, ![32, 8, 2048, 3]⟩
abbrev S3 : Shape := ⟨1, ![3]⟩
abbrev S1x3 : Shape := ⟨2, ![1, 3]⟩
abbrev S2048x3 : Shape := ⟨2, ![2048, 3]⟩
abbrev S32x8x2048x3x1 : Shape := ⟨5, ![32, 8, 2048, 3, 1]⟩
abbrev S1x1x1x1x8 : Shape := ⟨5, ![1, 1, 1, 1, 8]⟩
abbrev S32x8x2048x3x8 : Shape := ⟨5, ![32, 8, 2048, 3, 8]⟩
abbrev S2048x3x1 : Shape := ⟨3, ![2048, 3, 1]⟩
abbrev S1x1x2048x3x1 : Shape := ⟨5, ![1, 1, 2048, 3, 1]⟩
abbrev S1x2048 : Shape := ⟨2, ![1, 2048]⟩
abbrev S2048x2048 : Shape := ⟨2, ![2048, 2048]⟩
abbrev S32x8x2048x8x256 : Shape := ⟨5, ![32, 8, 2048, 8, 256]⟩
abbrev S32x8x2048x2048 : Shape := ⟨4, ![32, 8, 2048, 2048]⟩
abbrev S1x1x2048x2048 : Shape := ⟨4, ![1, 1, 2048, 2048]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩
abbrev S65536x512 : Shape := ⟨2, ![65536, 512]⟩

abbrev nBuf : Space → Nat
  | .hbm => 106
  | .vmem => 0
  | .smem => 0
  | _ => 0

abbrev bufTy : (tb : Table) → Fin (tcTables nBuf tb) → BufTy
  | .hbm, ⟨0, _⟩ => ⟨S65536x3072, .bf16⟩
  | .hbm, ⟨1, _⟩ => ⟨S256x1x512, .f32⟩
  | .hbm, ⟨2, _⟩ => ⟨S65536x3072, .f32⟩
  | .hbm, ⟨3, _⟩ => ⟨S32x2048x3072, .f32⟩
  | .hbm, ⟨4, _⟩ => ⟨S32x2048x512, .f32⟩
  | .hbm, ⟨5, _⟩ => ⟨S32x2048x8x64, .f32⟩
  | .hbm, ⟨6, _⟩ => ⟨S32x2048x512, .f32⟩
  | .hbm, ⟨7, _⟩ => ⟨S32x2048x8x64, .f32⟩
  | .hbm, ⟨8, _⟩ => ⟨S32x2048x512, .f32⟩
  | .hbm, ⟨9, _⟩ => ⟨S32x2048x8x64, .f32⟩
  | .hbm, ⟨10, _⟩ => ⟨S32x8x8x64, .f32⟩
  | .hbm, ⟨11, _⟩ => ⟨S32x8x2048x8, .f32⟩
  | .hbm, ⟨12, _⟩ => ⟨S2048, .i32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S8, .i32⟩
  | .hbm, ⟨32, _⟩ => ⟨S1x8, .i32⟩
  | .hbm, ⟨33, _⟩ => ⟨S2048x1, .i32⟩
  | .hbm, ⟨34, _⟩ => ⟨S2048x8, .i32⟩
  | .hbm, ⟨35, _⟩ => ⟨S2048x8, .i32⟩
  | .hbm, ⟨36, _⟩ => ⟨S2048x8, .i1⟩
  | .hbm, ⟨37, _⟩ => ⟨S_, .f32⟩
  | .hbm, ⟨38, _⟩ => ⟨S_, .f32⟩
  | .hbm, ⟨39, _⟩ => ⟨S32x8x2048x8, .i1⟩
  | .hbm, ⟨40, _⟩ => ⟨S32x8x2048x8, .f32⟩
  | .hbm, ⟨41, _⟩ => ⟨S32x8x2048x8, .f32⟩
  | .hbm, ⟨42, _⟩ => ⟨S32x8x2048x3, .f32⟩
  | .hbm, ⟨43, _⟩ => ⟨S32x8x2048x3, .i32⟩
  | .hbm, ⟨44, _⟩ => ⟨S3, .i32⟩
  | .hbm, ⟨45, _⟩ => ⟨S1x3, .i32⟩
  | .hbm, ⟨46, _⟩ => ⟨S2048x1, .i32⟩
  | .hbm, ⟨47, _⟩ => ⟨S2048x3, .i32⟩
  | .hbm, ⟨48, _⟩ => ⟨S2048x3, .i32⟩
  | .hbm, ⟨49, _⟩ => ⟨S2048x3, .i1⟩
  | .hbm, ⟨50, _⟩ => ⟨S32x8x2048x3x1, .i32⟩
  | .hbm, ⟨51, _⟩ => ⟨S8, .i32⟩
  | .hbm, ⟨52, _⟩ => ⟨S1x1x1x1x8, .i32⟩
  | .hbm, ⟨53, _⟩ => ⟨S32x8x2048x3x8, .i32⟩
  | .hbm, ⟨54, _⟩ => ⟨S32x8x2048x3x8, .i32⟩
  | .hbm, ⟨55, _⟩ => ⟨S32x8x2048x3x8, .i1⟩
  | .hbm, ⟨56, _⟩ => ⟨S2048x3x1, .i1⟩
  | .hbm, ⟨57, _⟩ => ⟨S1x1x2048x3x1, .i1⟩
  | .hbm, ⟨58, _⟩ => ⟨S32x8x2048x3x8, .i1⟩
  | .hbm, ⟨59, _⟩ => ⟨S32x8x2048x3x8, .i1⟩
  | .hbm, ⟨60, _⟩ => ⟨S_, .i1⟩
  | .hbm, ⟨61, _⟩ => ⟨S32x8x2048x8, .i1⟩
  | .hbm, ⟨62, _⟩ => ⟨S2048, .i32⟩
  | .hbm, ⟨63, _⟩ => ⟨S1x2048, .i32⟩
  | .hbm, ⟨64, _⟩ => ⟨S2048x1, .i32⟩
  | .hbm, ⟨65, _⟩ => ⟨S2048x2048, .i32⟩
  | .hbm, ⟨66, _⟩ => ⟨S2048x2048, .i32⟩
  | .hbm, ⟨67, _⟩ => ⟨S2048x2048, .i1⟩
  | .hbm, ⟨68, _⟩ => ⟨S1x2048, .i32⟩
  | .hbm, ⟨69, _⟩ => ⟨S2048x1, .i32⟩
  | .hbm, ⟨70, _⟩ => ⟨S2048x2048, .i32⟩
  | .hbm, ⟨71, _⟩ => ⟨S2048x2048, .i32⟩
  | .hbm, ⟨72, _⟩ => ⟨S2048x2048, .i1⟩
  | .hbm, ⟨73, _⟩ => ⟨S2048x2048, .i1⟩
  | .hbm, ⟨74, _⟩ => ⟨S32x8x2048x8x256, .i1⟩
  | .hbm, ⟨75, _⟩ => ⟨S32x8x2048x2048, .i1⟩
  | .hbm, ⟨76, _⟩ => ⟨S1x1x2048x2048, .i1⟩
  | .hbm, ⟨77, _⟩ => ⟨S32x8x2048x2048, .i1⟩
  | .hbm, ⟨78, _⟩ => ⟨S32x8x2048x2048, .i1⟩
  | .hbm, ⟨79, _⟩ => ⟨S32x8x2048x2048, .f32⟩
  | .hbm, ⟨80, _⟩ => ⟨S_, .f32⟩
  | .hbm, ⟨81, _⟩ => ⟨S_, .f32⟩
  | .hbm, ⟨82, _⟩ => ⟨S32x8x2048x2048, .f32⟩
  | .hbm, ⟨83, _⟩ => ⟨S32x8x2048x2048, .f32⟩
  | .hbm, ⟨84, _⟩ => ⟨S_, .f32⟩
  | .hbm, ⟨85, _⟩ => ⟨S_, .f32⟩
  | .hbm, ⟨86, _⟩ => ⟨S32x8x2048x2048, .f32⟩
  | .hbm, ⟨87, _⟩ => ⟨S32x8x2048x2048, .f32⟩
  | .hbm, ⟨88, _⟩ => ⟨S_, .f32⟩
  | .hbm, ⟨89, _⟩ => ⟨S32x8x2048, .f32⟩
  | .hbm, ⟨90, _⟩ => ⟨S_, .f32⟩
  | .hbm, ⟨91, _⟩ => ⟨S32x8x2048, .f32⟩
  | .hbm, ⟨92, _⟩ => ⟨S32x8x2048, .f32⟩
  | .hbm, ⟨93, _⟩ => ⟨S32x8x2048x1, .f32⟩
  | .hbm, ⟨94, _⟩ => ⟨S32x8x2048x2048, .f32⟩
  | .hbm, ⟨95, _⟩ => ⟨S32x8x2048x2048, .f32⟩
  | .hbm, ⟨96, _⟩ => ⟨S32x8x2048x2048, .f32⟩
  | .hbm, ⟨97, _⟩ => ⟨S_, .f32⟩
  | .hbm, ⟨98, _⟩ => ⟨S32x8x2048, .f32⟩
  | .hbm, ⟨99, _⟩ => ⟨S32x8x2048x1, .f32⟩
  | .hbm, ⟨100, _⟩ => ⟨S32x8x2048x2048, .f32⟩
  | .hbm, ⟨101, _⟩ => ⟨S32x8x2048x2048, .f32⟩
  | .hbm, ⟨102, _⟩ => ⟨S32x8x64x2048, .f32⟩
  | .hbm, ⟨103, _⟩ => ⟨S32x2048x8x64, .f32⟩
  | .hbm, ⟨104, _⟩ => ⟨S65536x512, .f32⟩
  | .hbm, ⟨105, _⟩ => ⟨S65536x512, .bf16⟩
  | _, _ => ⟨S65536x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_values : Ref sig .tc := ⟨.hbm, 42, rfl⟩
abbrev main_indices : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_0 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_1 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_2 : Ref sig .tc := ⟨.hbm, 84, rfl⟩
abbrev main_call2_v0 : Ref sig .tc := ⟨.hbm, 85, rfl⟩
abbrev main_call2_v1 : Ref sig .tc := ⟨.hbm, 86, rfl⟩
abbrev main_v57 : Ref sig .tc := ⟨.hbm, 87, rfl⟩
abbrev main_cst_3 : Ref sig .tc := ⟨.hbm, 88, rfl⟩
abbrev main_v58 : Ref sig .tc := ⟨.hbm, 89, rfl⟩
abbrev main_cst_4 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_5 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩

abbrev nD : Nat := 1
abbrev τ : Topo := Topo.v7x

variable {F : FTy → Type} [FloatOps F]
-- ==== Proof.Diff.Tile.lean ====
/-
  One tile of 256 query rows of the differential attention, written once for every number of keys: the score product, the
  causal mask, the weights 2^(score - row value), the product with the values and the ones beside them, the quotient, and the
  row normalisation. Each lemma reads one of these vectors at a row and a column, over the extended reals.
-/
module

public import Idealize.ShloMosaic.Lib.Pipeline.ValueKit
public import Idealize.ShloMosaic.Lib.Pointwise
public import Idealize.ShloMosaic.Lib.Pointwise.IndexVar
public import Idealize.ShloMosaic.Lib.MatmulPlain
public import Idealize.ShloMosaic.Lib.WordCmp
public import Idealize.ShloMosaic.Lib.ValueLayout
public import Idealize.ShloMosaic.Lib.ValueLayoutCasts

@[expose] public section

set_option maxRecDepth 16384

noncomputable section

namespace Cert.DiffTile

open Idealize.ShloMosaic Idealize.ShloMosaic.TcCoe Idealize.ShloMosaic.WordCmp

/-- The shape of a matrix. -/
abbrev mat (a b : ℕ) : Shape := ⟨2, ![a, b]⟩

/-- The weights of one row block: two to the power of the score less the row's value. -/
def wts {n : ℕ} (s : FVec Ideal (mat 256 n) .f32) (mx : FVec Ideal (mat 256 1) .f32) (hb : (mat 256 1).Broadcasts (mat 256 n)) :
    FVec Ideal (mat 256 n) .bf16 :=
  truncf .bf16 (exp2 (subf s (broadcastTo (mat 256 n) mx hb))) (by decide)

/-- The values with a block of ones to their right. -/
def withOnes {K : ℕ} (v : FVec Ideal (mat K 128) .bf16) (hc : Shape.Concatenates [mat K 128, mat K 128] (mat K 256) 1) :
    FVec Ideal (mat K 256) .bf16 :=
  concatenate (mat K 256) 1 [⟨mat K 128, v⟩, ⟨mat K 128, broadcast (mat K 128) (Scalar.ofBits .bf16 0x3F80#16 : Ideal .bf16)⟩] hc

/-- The weighted sum of the values over the sum of the weights, the latter read off the product with the ones. -/
def quot (A : FVec Ideal (mat 256 256) .f32) : FVec Ideal (mat 256 128) .f32 :=
  divf (extractStridedSlice (mat 256 128) ![0, 0] A (by decide))
    (broadcastTo (mat 256 128) (extractStridedSlice (mat 256 1) ![0, 128] A (by decide)) (by decide))

/-- The product of the weights with the values and ones. -/
def attend {K : ℕ} (E : FVec Ideal (mat 256 K) .bf16) (v : FVec Ideal (mat K 128) .bf16)
    (hc : Shape.Concatenates [mat K 128, mat K 128] (mat K 256) 1) : FVec Ideal (mat 256 256) .f32 :=
  matmul (DotDims.plain 256 K 256) none E (withOnes v hc) (constant (mat 256 256) .f32 0x00000000#32)

/-- The weights of the past keys followed by those of the row's own block. -/
def joined {n K : ℕ} (p : FVec Ideal (mat 256 n) .bf16) (d : FVec Ideal (mat 256 256) .bf16)
    (hc : Shape.Concatenates [mat 256 n, mat 256 256] (mat 256 K) 1) : FVec Ideal (mat 256 K) .bf16 :=
  concatenate (mat 256 K) 1 [⟨mat 256 n, p⟩, ⟨mat 256 256, d⟩] hc

/-- The difference of the two attentions, normalised over its row and scaled by the gain. -/
def finish (lam : FVec Ideal (mat 1 1) .f32) (gain : FVec Ideal (mat 1 128) .f32) (a b : FVec Ideal (mat 256 128) .f32) :
    FVec Ideal (mat 256 128) .bf16 :=
  let o := subf a (mulf (broadcastTo (mat 256 128) lam (by decide)) b)
  let ms := shapeCast (mat 256 1) (multiReduction .add [1] ⟨1, ![256]⟩ (mulf o o) 0x00000000#32 (by decide) (.inl rfl) rfl) (by decide)
  truncf .bf16 (mulf (mulf o (broadcastTo (mat 256 128) (rsqrt (addf (divf ms (broadcast (mat 256 1) (Scalar.ofBits .f32 0x43000000#32 : Ideal .f32)))
    (broadcast (mat 256 1) (Scalar.ofBits .f32 0x3727C5AC#32 : Ideal .f32)))) (by decide))) (broadcastTo (mat 256 128) gain (by decide))) (by decide)

/-- The lane numbers of a block of 128 lanes. -/
def lanes : IVec (mat 256 128) 32 := iota .tc (mat 256 128) 32 [1] (by decide)

/-- The queries with the lanes of the second component set to zero. -/
def lowHalf (q : FVec Ideal (mat 256 128) .bf16) : FVec Ideal (mat 256 128) .bf16 :=
  select (cmpi .slt lanes (broadcast (mat 256 128) 64#32)) q (broadcast (mat 256 128) (Scalar.ofBits .bf16 0x0000#16 : Ideal .bf16))

/-- The queries with the lanes of the first component set to zero. -/
def highHalf (q : FVec Ideal (mat 256 128) .bf16) : FVec Ideal (mat 256 128) .bf16 :=
  select (cmpi .sge lanes (broadcast (mat 256 128) 64#32)) q (broadcast (mat 256 128) (Scalar.ofBits .bf16 0x0000#16 : Ideal .bf16))

/-- The scores of the queries against `n` keys. -/
def score {n : ℕ} (q : FVec Ideal (mat 256 128) .bf16) (k : FVec Ideal (mat n 128) .bf16) : FVec Ideal (mat 256 n) .f32 :=
  matmul (DotDims.transposedRhs 256 128 n) none q k (constant (mat 256 n) .f32 0x00000000#32)

/-- Scores of a block against its own keys, keys after the row set to the mask's value. -/
def masked (s : FVec Ideal (mat 256 256) .f32) (m : Ideal .f32) : FVec Ideal (mat 256 256) .f32 :=
  select (cmpi .sle (iota .tc (mat 256 256) 32 [1] (by decide)) (iota .tc (mat 256 256) 32 [0] (by decide))) s (broadcast (mat 256 256) m)

/-! ## Read at a row and a column -/

theorem wts_apply {n : ℕ} (s : FVec Ideal (mat 256 n) .f32) (mx : FVec Ideal (mat 256 1) .f32) (hb) (r : Fin 256) (k : Fin n) :
    wts s mx hb (ix2 r k) = Ideal.exp2 (s (ix2 r k) - mx (ix2 r 0)) := by
  have : broadcastTo (mat 256 n) mx hb (ix2 r k) = mx (ix2 r 0) :=
    broadcastTo_apply mx hb _ _ fun a => by
      match a with
      | ⟨0, _⟩ => rfl
      | ⟨1, _⟩ => rfl
  show Ideal.exp2 (s (ix2 r k) - broadcastTo (mat 256 n) mx hb (ix2 r k)) = _
  rw [this]

theorem withOnes_left {K : ℕ} (v : FVec Ideal (mat K 128) .bf16) (hc) (k : Fin K) (e : Fin 128) :
    withOnes v hc (ix2 k (⟨e.val, by omega⟩ : Fin 256)) = v (ix2 k e) :=
  concatenate_pair_apply_left (t := mat K 256) (s₁ := mat K 128) (s₂ := mat K 128) 1 _ _ hc _ rfl (ix2 k e) fun b => by
    match b with
    | ⟨0, _⟩ => rfl
    | ⟨1, _⟩ => rfl

theorem withOnes_right {K : ℕ} (v : FVec Ideal (mat K 128) .bf16) (hc) (k : Fin K) :
    withOnes v hc (ix2 k (⟨128, by omega⟩ : Fin 256)) = Ideal.ofBits .bf16 0x3F80#16 :=
  concatenate_pair_apply_right (t := mat K 256) (s₁ := mat K 128) (s₂ := mat K 128) 1 _ _ hc _ rfl rfl (ix2 k (0 : Fin 128))
    (fun b hb => by
      match b, hb with
      | ⟨0, _⟩, _ => rfl
      | ⟨1, _⟩, hb => exact absurd rfl hb) rfl

theorem quot_apply (A : FVec Ideal (mat 256 256) .f32) (r : Fin 256) (e : Fin 128) :
    quot A (ix2 r e) = Ideal.div (A (ix2 r (⟨e.val, by omega⟩ : Fin 256))) (A (ix2 r (⟨128, by omega⟩ : Fin 256))) := by
  unfold quot
  pointwise
  first | done | (congr 2 <;> simp)

theorem attend_apply {K : ℕ} (E : FVec Ideal (mat 256 K) .bf16) (v : FVec Ideal (mat K 128) .bf16) (hc) (r : Fin 256) (c : Fin 256) :
    attend E v hc (ix2 r c) = ∑ k : Fin K, E (ix2 r k) * withOnes v hc (ix2 k c) := by
  show FloatOps.matmul (DotDims.plain 256 K 256) none E (withOnes v hc) _ (ix2 r c) = _
  refine (Ideal.matmul_plain_apply none E (withOnes v hc) _ r c).trans ?_
  show Ideal.ofBits .f32 0x00000000#32 + _ = _
  rw [Ideal.ofBits_zero]
  exact zero_add _

theorem joined_apply {n K : ℕ} (p : FVec Ideal (mat 256 n) .bf16) (d : FVec Ideal (mat 256 256) .bf16) (hc) (hK : K = n + 256)
    (r : Fin 256) (k : Fin K) :
    joined p d hc (ix2 r k) = if h : k.val < n then p (ix2 r ⟨k.val, h⟩) else d (ix2 r ⟨k.val - n, by omega⟩) := by
  split
  · rename_i h
    exact concatenate_pair_apply_left (t := mat 256 K) (s₁ := mat 256 n) (s₂ := mat 256 256) 1 _ _ hc _ rfl (ix2 r ⟨k.val, h⟩) fun b => by
      match b with
      | ⟨0, _⟩ => rfl
      | ⟨1, _⟩ => rfl
  · rename_i h
    exact concatenate_pair_apply_right (t := mat 256 K) (s₁ := mat 256 n) (s₂ := mat 256 256) 1 _ _ hc _ rfl rfl (ix2 r (⟨k.val - n, by omega⟩ : Fin 256))
      (fun b hb => by
        match b, hb with
        | ⟨0, _⟩, _ => rfl
        | ⟨1, _⟩, hb => exact absurd rfl hb)
      (by show k.val - n + n = k.val; omega)

theorem score_apply {n : ℕ} (q : FVec Ideal (mat 256 128) .bf16) (k : FVec Ideal (mat n 128) .bf16) (r : Fin 256) (c : Fin n) :
    score q k (ix2 r c) = ∑ j : Fin 128, q (ix2 r j) * k (ix2 c j) := by
  show FloatOps.matmul (DotDims.transposedRhs 256 128 n) none q k _ (ix2 r c) = _
  refine (Ideal.matmul_transposedRhs_apply none q k _ r c).trans ?_
  show Ideal.ofBits .f32 0x00000000#32 + _ = _
  rw [Ideal.ofBits_zero]
  exact zero_add _

theorem lowHalf_apply (q : FVec Ideal (mat 256 128) .bf16) (r : Fin 256) (j : Fin 128) :
    lowHalf q (ix2 r j) = if j.val < 64 then q (ix2 r j) else 0 := by
  unfold lowHalf lanes
  pointwise
  rw [show (64#32 : BitVec 32) = BitVec.ofNat 32 64 from rfl, cmpi_slt_ofNat (by omega) (by omega)]
  by_cases h : j.val < 64 <;> simp [Scalar.select, h]

theorem highHalf_apply (q : FVec Ideal (mat 256 128) .bf16) (r : Fin 256) (j : Fin 128) :
    highHalf q (ix2 r j) = if j.val < 64 then 0 else q (ix2 r j) := by
  unfold highHalf lanes
  pointwise
  rw [show (64#32 : BitVec 32) = BitVec.ofNat 32 64 from rfl, cmpi_sge_ofNat (by omega) (by omega)]
  by_cases h : j.val < 64
  · simp [Scalar.select, h, show ¬ 64 ≤ j.val by omega]
  · simp [Scalar.select, h, show 64 ≤ j.val by omega]

theorem masked_apply (s : FVec Ideal (mat 256 256) .f32) (m : Ideal .f32) (r k : Fin 256) :
    masked s m (ix2 r k) = if k.val ≤ r.val then s (ix2 r k) else m := by
  unfold masked
  pointwise
  rw [cmpi_sle_ofNat (by omega) (by omega)]
  by_cases h : k.val ≤ r.val <;> simp [Scalar.select, h]

theorem finish_apply (lam : FVec Ideal (mat 1 1) .f32) (gain : FVec Ideal (mat 1 128) .f32) (a b : FVec Ideal (mat 256 128) .f32)
    (r : Fin 256) (e : Fin 128) (o : Fin 128 → EReal) (ho : ∀ j, a (ix2 r j) - lam (ix2 0 0) * b (ix2 r j) = o j) :
    finish lam gain a b (ix2 r e) =
      o e * Ideal.rsqrt (Ideal.div (∑ j, o j * o j) (Ideal.ofBits .f32 0x43000000#32) + Ideal.ofBits .f32 0x3727C5AC#32) * gain (ix2 0 e) := by
  simp only [← ho]
  unfold finish
  pointwise

end Cert.DiffTile

end
-- ==== Proof.Diff.Softmax.lean ====
/-
  The causal softmax over the extended reals, in both of the forms the two programs compute it: with powers of two and any real
  number taken off the scores, the quotient last; and with powers of e, each weight divided first. Both are the one real number
  `att`. A score is a real number up to the row's own key and minus infinity after it.
-/
module

public import Idealize.ShloMosaic.PureOps.Ideal

@[expose] public section

noncomputable section

namespace Cert.DiffSoftmax

open Idealize.ShloMosaic

/-- The weighted mean of the first `n` values, the weights two to the power of the scores. -/
def att (x v : ℕ → ℝ) (n : ℕ) : ℝ :=
  (∑ k ∈ Finset.range n, Real.rpow 2 (x k) * v k) / ∑ k ∈ Finset.range n, Real.rpow 2 (x k)

/-- The scores of a row: real numbers up to key `R`, minus infinity after it. -/
def causal (x : ℕ → ℝ) (R k : ℕ) : EReal := if k ≤ R then (x k : EReal) else ⊥

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_div {x y : ℝ} (hy : y ≠ 0) : Ideal.div (x : EReal) (y : EReal) = ((x / y : ℝ) : EReal) := by
  rw [Ideal.div_coe hy, ← EReal.coe_mul, mul_one_div]

theorem two_rpow_pos (x : ℝ) : 0 < Real.rpow 2 x := Real.rpow_pos_of_pos (by norm_num) x

/-- A sum over `K` keys of which those after key `R` contribute nothing. -/
theorem sum_causal {K R : ℕ} (h : R < K) (f : ℕ → ℝ) :
    ∑ k : Fin K, (if k.val ≤ R then f k.val else 0) = ∑ k ∈ Finset.range (R + 1), f k := by
  rw [Fin.sum_univ_eq_sum_range (fun k => if k ≤ R then f k else 0) K,
    ← Finset.sum_subset (Finset.range_subset_range.2 h : Finset.range (R + 1) ⊆ Finset.range K)]
  · exact Finset.sum_congr rfl fun k hk => if_pos (Nat.lt_succ_iff.1 (Finset.mem_range.1 hk))
  · intro k _ hk
    exact if_neg fun hle => hk (Finset.mem_range.2 (Nat.lt_succ_iff.2 hle))

theorem exp2_causal (x : ℕ → ℝ) (R k : ℕ) (M : ℝ) :
    Ideal.exp2 (causal x R k - (M : EReal)) = (((if k ≤ R then Real.rpow 2 (x k) * Real.rpow 2 (-M) else 0) : ℝ) : EReal) := by
  unfold causal
  split
  · rw [← EReal.coe_sub, Ideal.exp2_coe, sub_eq_add_neg]
    exact congrArg _ (Real.rpow_add (by norm_num) _ _)
  · rw [EReal.bot_sub, Ideal.exp2_bot, EReal.coe_zero]

/-- Powers of two, the quotient last. -/
theorem exp2_form {K R : ℕ} (h : R < K) (x v : ℕ → ℝ) (M : ℝ) :
    Ideal.div (∑ k : Fin K, Ideal.exp2 (causal x R k.val - (M : EReal)) * (v k.val : EReal))
        (∑ k : Fin K, Ideal.exp2 (causal x R k.val - (M : EReal)) * 1) = (att x v (R + 1) : EReal) := by
  have hn : ∑ k : Fin K, Ideal.exp2 (causal x R k.val - (M : EReal)) * (v k.val : EReal)
      = (((∑ k ∈ Finset.range (R + 1), Real.rpow 2 (x k) * v k) * Real.rpow 2 (-M) : ℝ) : EReal) := by
    simp only [exp2_causal, ← EReal.coe_mul, coe_sum, ite_mul, zero_mul]
    rw [sum_causal h (fun k => Real.rpow 2 (x k) * Real.rpow 2 (-M) * v k), Finset.sum_mul]
    exact congrArg _ (Finset.sum_congr rfl fun k _ => by ring)
  have hd : ∑ k : Fin K, Ideal.exp2 (causal x R k.val - (M : EReal)) * 1
      = (((∑ k ∈ Finset.range (R + 1), Real.rpow 2 (x k)) * Real.rpow 2 (-M) : ℝ) : EReal) := by
    simp only [mul_one, exp2_causal, coe_sum]
    rw [sum_causal h (fun k => Real.rpow 2 (x k) * Real.rpow 2 (-M)), Finset.sum_mul]
  have hp : 0 < ∑ k ∈ Finset.range (R + 1), Real.rpow 2 (x k) :=
    Finset.sum_pos (fun k _ => two_rpow_pos _) ⟨0, by simp⟩
  rw [hn, hd, coe_div (mul_pos hp (two_rpow_pos _)).ne', mul_div_mul_right _ _ (two_rpow_pos _).ne']
  rfl

theorem exp_causal (x : ℕ → ℝ) (R k : ℕ) (M : ℝ) :
    Ideal.exp (causal (fun k => x k * Real.log 2) R k - (M : EReal))
      = (((if k ≤ R then Real.rpow 2 (x k) * Real.exp (-M) else 0) : ℝ) : EReal) := by
  unfold causal
  split
  · rw [← EReal.coe_sub, Ideal.exp_coe, sub_eq_add_neg, Real.exp_add]
    refine congrArg _ (congrArg (· * _) ?_)
    show _ = (2 : ℝ) ^ x k
    rw [Real.rpow_def_of_pos (by norm_num), mul_comm]
  · rw [EReal.bot_sub, Ideal.exp_bot, EReal.coe_zero]

/-- One weight in powers of e, divided by the sum of them. -/
theorem exp_weight {K R : ℕ} (h : R < K) (x : ℕ → ℝ) (M : ℝ) (k : ℕ) :
    Ideal.div (Ideal.exp (causal (fun k => x k * Real.log 2) R k - (M : EReal)))
        (∑ k : Fin K, Ideal.exp (causal (fun k => x k * Real.log 2) R k.val - (M : EReal)))
      = (((if k ≤ R then Real.rpow 2 (x k) else 0) / ∑ k ∈ Finset.range (R + 1), Real.rpow 2 (x k) : ℝ) : EReal) := by
  have hd : ∑ k : Fin K, Ideal.exp (causal (fun k => x k * Real.log 2) R k.val - (M : EReal))
      = (((∑ k ∈ Finset.range (R + 1), Real.rpow 2 (x k)) * Real.exp (-M) : ℝ) : EReal) := by
    simp only [exp_causal, coe_sum]
    rw [sum_causal h (fun k => Real.rpow 2 (x k) * Real.exp (-M)), Finset.sum_mul]
  have hp : 0 < ∑ k ∈ Finset.range (R + 1), Real.rpow 2 (x k) :=
    Finset.sum_pos (fun k _ => two_rpow_pos _) ⟨0, by simp⟩
  rw [hd, exp_causal, coe_div (mul_pos hp (Real.exp_pos _)).ne']
  refine congrArg _ ?_
  rw [show (if k ≤ R then Real.rpow 2 (x k) * Real.exp (-M) else 0) = (if k ≤ R then Real.rpow 2 (x k) else 0) * Real.exp (-M) by
    split <;> simp, mul_div_mul_right _ _ (Real.exp_pos _).ne']

/-- The values weighted by the difference of two softmaxes, each weight formed first. -/
theorem exp_form {K R : ℕ} (h : R < K) (x y v : ℕ → ℝ) (lam : ℝ) (p q : Fin K → EReal)
    (hp : ∀ k : Fin K, p k = (((if k.val ≤ R then Real.rpow 2 (x k.val) else 0) / ∑ k ∈ Finset.range (R + 1), Real.rpow 2 (x k) : ℝ) : EReal))
    (hq : ∀ k : Fin K, q k = (((if k.val ≤ R then Real.rpow 2 (y k.val) else 0) / ∑ k ∈ Finset.range (R + 1), Real.rpow 2 (y k) : ℝ) : EReal)) :
    ∑ k : Fin K, (v k.val : EReal) * (p k - (lam : EReal) * q k) = ((att x v (R + 1) - lam * att y v (R + 1) : ℝ) : EReal) := by
  simp only [hp, hq, ← EReal.coe_mul, ← EReal.coe_sub, coe_sum]
  refine congrArg _ ?_
  unfold att
  set A := ∑ k ∈ Finset.range (R + 1), Real.rpow 2 (x k)
  set B := ∑ k ∈ Finset.range (R + 1), Real.rpow 2 (y k)
  have hs : ∀ k : Fin K, v k.val * ((if k.val ≤ R then Real.rpow 2 (x k.val) else 0) / A - lam * ((if k.val ≤ R then Real.rpow 2 (y k.val) else 0) / B))
      = if k.val ≤ R then (Real.rpow 2 (x k.val) * v k.val) / A - lam * ((Real.rpow 2 (y k.val) * v k.val) / B) else 0 := by
    intro k
    split <;> ring
  rw [Finset.sum_congr rfl fun k _ => hs k,
    sum_causal h (fun k => (Real.rpow 2 (x k) * v k) / A - lam * ((Real.rpow 2 (y k) * v k) / B)),
    Finset.sum_sub_distrib, Finset.sum_div, Finset.sum_div, Finset.mul_sum]

end Cert.DiffSoftmax

end
-- ==== Proof.Diff.Rows.lean ====
/-
  One row of the differential attention's tile: the row's maximum is a real number, so the quotient is the causal softmax, whatever
  the maximum is; and the tile over a head's whole blocks of queries, keys and values.
-/
module

public import proofs.«01_k».proof.Proof.Diff.Tile
public import proofs.«01_k».proof.Proof.Diff.Softmax
public import Idealize.ShloMosaic.Lib.IdealHost
public import Idealize.ShloMosaic.Lib.Pipeline.ValueKit.Tiles

@[expose] public section

set_option maxRecDepth 16384

noncomputable section

namespace Cert.DiffTile

open Idealize.ShloMosaic Idealize.ShloMosaic.TcCoe Cert.DiffSoftmax

/-! ## The row's maximum -/

/-- The first column block of width 128 of a row block, and the further ones. -/
abbrev cols {n : ℕ} (s : FVec Ideal (mat 256 n) .f32) (o : ℕ) (h : Shape.Slices (mat 256 n) ![0, o] (mat 256 128)) :
    FVec Ideal (mat 256 128) .f32 := extractStridedSlice (mat 256 128) ![0, o] s h

theorem cols_slices {n o : ℕ} (h : o + 128 ≤ n) : Shape.Slices (mat 256 n) ![0, o] (mat 256 128) :=
  ⟨rfl, fun a => by
    match a with
    | ⟨0, _⟩ => exact Nat.le_refl 256
    | ⟨1, _⟩ => exact h⟩

/-- The greatest of the columns `c, c+128, …`: of the block's own scores, then of the first `j` column blocks of the past ones. -/
def colMax {n : ℕ} (d : FVec Ideal (mat 256 256) .f32) (p : FVec Ideal (mat 256 n) .f32) :
    (j : ℕ) → 128 * j ≤ n → FVec Ideal (mat 256 128) .f32
  | 0, _ => maximumf (cols d 0 (cols_slices (by decide))) (cols d 128 (cols_slices (by decide)))
  | j + 1, h => maximumf (colMax d p j (by omega)) (cols p (128 * j) (cols_slices (by omega)))

/-- The greatest of a row. -/
def rowMax (t : FVec Ideal (mat 256 128) .f32) : FVec Ideal (mat 256 1) .f32 :=
  shapeCast (mat 256 1) (multiReduction .maximumf [1] ⟨1, ![256]⟩ t 0xFF800000#32 (by decide) (.inl rfl) rfl) (by decide)

theorem cols_apply {n : ℕ} (s : FVec Ideal (mat 256 n) .f32) (o : ℕ) (h : o + 128 ≤ n) (r : Fin 256) (c : Fin 128) :
    cols s o (cols_slices h) (ix2 r c) = s (ix2 r ⟨o + c.val, by omega⟩) :=
  extractStridedSlice_apply ![0, o] s _ (ix2 r c) _ fun a => by
    match a with
    | ⟨0, _⟩ => show r.val = 0 + r.val; omega
    | ⟨1, _⟩ => rfl

theorem colMax_ne_top {n : ℕ} (d : FVec Ideal (mat 256 256) .f32) (p : FVec Ideal (mat 256 n) .f32) (r : Fin 256)
    (hd : ∀ k, d (ix2 r k) ≠ ⊤) (hp : ∀ k, p (ix2 r k) ≠ ⊤) (c : Fin 128) : ∀ (j : ℕ) (h : 128 * j ≤ n), colMax d p j h (ix2 r c) ≠ ⊤
  | 0, h => by
    show max (cols d 0 _ (ix2 r c)) (cols d 128 _ (ix2 r c)) ≠ (⊤ : EReal)
    rw [cols_apply d 0 (by decide), cols_apply d 128 (by decide)]
    exact (max_lt (hd _).lt_top (hd _).lt_top).ne
  | j + 1, h => by
    show max (colMax d p j _ (ix2 r c)) (cols p (128 * j) _ (ix2 r c)) ≠ (⊤ : EReal)
    rw [cols_apply p (128 * j) (by omega)]
    exact (max_lt (colMax_ne_top d p r hd hp c j (by omega)).lt_top (hp _).lt_top).ne

theorem colMax_ne_bot {n : ℕ} (d : FVec Ideal (mat 256 256) .f32) (p : FVec Ideal (mat 256 n) .f32) (r : Fin 256)
    (hd : d (ix2 r 0) ≠ ⊥) : ∀ (j : ℕ) (h : 128 * j ≤ n), colMax d p j h (ix2 r 0) ≠ ⊥
  | 0, h => by
    show max (cols d 0 _ (ix2 r 0)) (cols d 128 _ (ix2 r 0)) ≠ (⊥ : EReal)
    rw [cols_apply d 0 (by decide)]
    exact (lt_of_lt_of_le (bot_lt_iff_ne_bot.2 hd) (le_max_left _ _)).ne'
  | j + 1, h => by
    show max (colMax d p j _ (ix2 r 0)) (cols p (128 * j) _ (ix2 r 0)) ≠ (⊥ : EReal)
    exact (lt_of_lt_of_le (bot_lt_iff_ne_bot.2 (colMax_ne_bot d p r hd j (by omega))) (le_max_left _ _)).ne'

theorem ofBits_negInf : Ideal.ofBits .f32 0xFF800000#32 = ⊥ := by simp [Ideal.ofBits, Ideal.ieee]

/-- A fold of `max` from minus infinity over values none of which is plus infinity and one of which is not minus infinity. -/
theorem fold_max_real {ι : Type*} (s : Finset ι) (f : ι → EReal) (ht : ∀ i ∈ s, f i ≠ ⊤) {i₀ : ι} (h₀ : i₀ ∈ s) (hb : f i₀ ≠ ⊥) :
    ∃ M : ℝ, s.fold max ⊥ f = (M : EReal) := by
  have h1 : s.fold max ⊥ f ≠ ⊤ := ((Finset.fold_max_lt _).2 ⟨bot_lt_top, fun i hi => (ht i hi).lt_top⟩).ne
  have h2 : s.fold max ⊥ f ≠ ⊥ := ((Finset.lt_fold_max _).2 (.inr ⟨i₀, h₀, bot_lt_iff_ne_bot.2 hb⟩)).ne'
  exact ⟨_, (EReal.coe_toReal h1 h2).symm⟩

theorem rowMax_real (t : FVec Ideal (mat 256 128) .f32) (r : Fin 256) (ht : ∀ c, t (ix2 r c) ≠ ⊤) (hb : t (ix2 r 0) ≠ ⊥) :
    ∃ M : ℝ, rowMax t (ix2 r 0) = (M : EReal) := by
  have hr : (mat 256 128).Reduces [1] ⟨1, ![256]⟩ := by decide
  have hx : rowMax t (ix2 r 0) = (Finset.univ : Finset (Fin 128)).fold max ⊥ (fun c => t (ix2 r c)) := by
    have h1 : rowMax t (ix2 r 0) = multiReduction .maximumf [1] ⟨1, ![256]⟩ t 0xFF800000#32 hr (.inl rfl) rfl (ix1 r) := by
      unfold rowMax
      pointwise
    rw [h1]
    refine (Ideal.multiReduction_maximumf_single t _ hr _ _ _).trans ?_
    rw [show (FloatOps.ofBits .f32 0xFF800000#32 : Ideal .f32) = (⊥ : EReal) from ofBits_negInf]
    refine congrArg (fun f => Finset.fold max (⊥ : EReal) f (Finset.univ : Finset (Fin 128))) (funext fun c => congrArg t (funext fun a => ?_))
    match a with
    | ⟨0, _⟩ => rfl
    | ⟨1, _⟩ => rfl
  rw [hx]
  exact fold_max_real _ _ (fun c _ => ht c) (Finset.mem_univ 0) hb

/-! ## The softmax of a row -/

theorem causal_ne_top (x : ℕ → ℝ) (R k : ℕ) : causal x R k ≠ ⊤ := by
  unfold causal
  split
  · exact EReal.coe_ne_top _
  · exact bot_ne_top

theorem causal_ne_bot (x : ℕ → ℝ) {R k : ℕ} (h : k ≤ R) : causal x R k ≠ ⊥ := by
  unfold causal
  rw [if_pos h]
  exact EReal.coe_ne_bot _

/-- The quotient at a row, the weights being those of the causal scores less any real number. -/
theorem quot_attend {K : ℕ} (E : FVec Ideal (mat 256 K) .bf16) (v : FVec Ideal (mat K 128) .bf16) (hc) (r : Fin 256) (e : Fin 128)
    (x w : ℕ → ℝ) (R : ℕ) (hR : R < K) (M : ℝ)
    (hE : ∀ k : Fin K, E (ix2 r k) = Ideal.exp2 (causal x R k.val - (M : EReal)))
    (hv : ∀ k : Fin K, v (ix2 k e) = (w k.val : EReal)) :
    quot (attend E v hc) (ix2 r e) = (att x w (R + 1) : EReal) := by
  rw [quot_apply, attend_apply, attend_apply]
  simp only [withOnes_left, withOnes_right, hE, hv, Idealize.ShloMosaic.Ideal.ofBits_one_bf16]
  exact exp2_form hR x w M

/-- The first block's attention: its own keys only. -/
def softFirst (d : FVec Ideal (mat 256 256) .f32) (v : FVec Ideal (mat 256 128) .bf16)
    (hb : (mat 256 1).Broadcasts (mat 256 256)) (hc : Shape.Concatenates [mat 256 128, mat 256 128] (mat 256 256) 1) :
    FVec Ideal (mat 256 128) .f32 :=
  quot (attend (wts d (rowMax (colMax d d 0 (by decide))) hb) v hc)

/-- A later block's attention: `j` blocks of 128 past keys, then its own. -/
def softLater {n K : ℕ} (d : FVec Ideal (mat 256 256) .f32) (p : FVec Ideal (mat 256 n) .f32) (v : FVec Ideal (mat K 128) .bf16)
    (j : ℕ) (hj : 128 * j ≤ n) (hb : (mat 256 1).Broadcasts (mat 256 256)) (hb' : (mat 256 1).Broadcasts (mat 256 n))
    (hc : Shape.Concatenates [mat 256 n, mat 256 256] (mat 256 K) 1) (hc' : Shape.Concatenates [mat K 128, mat K 128] (mat K 256) 1) :
    FVec Ideal (mat 256 128) .f32 :=
  quot (attend (joined (wts p (rowMax (colMax d p j hj)) hb') (wts d (rowMax (colMax d p j hj)) hb) hc) v hc')

theorem softFirst_apply (d : FVec Ideal (mat 256 256) .f32) (v : FVec Ideal (mat 256 128) .bf16) (hb hc) (r : Fin 256) (e : Fin 128)
    (x w : ℕ → ℝ) (hd : ∀ k : Fin 256, d (ix2 r k) = causal x r.val k.val) (hv : ∀ k : Fin 256, v (ix2 k e) = (w k.val : EReal)) :
    softFirst d v hb hc (ix2 r e) = (att x w (r.val + 1) : EReal) := by
  have ht : ∀ k, d (ix2 r k) ≠ ⊤ := fun k => by rw [hd]; exact causal_ne_top _ _ _
  obtain ⟨M, hM⟩ := rowMax_real (colMax d d 0 (by decide)) r (fun c => colMax_ne_top d d r ht ht c 0 _)
    (colMax_ne_bot d d r (by rw [hd]; exact causal_ne_bot _ (Nat.zero_le _)) 0 _)
  exact quot_attend _ v hc r e x w r.val r.isLt M (fun k => by rw [wts_apply, hM, hd]) hv

theorem softLater_apply {n K : ℕ} (hK : K = n + 256) (d : FVec Ideal (mat 256 256) .f32) (p : FVec Ideal (mat 256 n) .f32)
    (v : FVec Ideal (mat K 128) .bf16) (j : ℕ) (hj) (hb hb' hc hc') (r : Fin 256) (e : Fin 128)
    (x w : ℕ → ℝ) (hd : ∀ k : Fin 256, d (ix2 r k) = causal x (n + r.val) (n + k.val))
    (hp : ∀ k : Fin n, p (ix2 r k) = causal x (n + r.val) k.val) (hv : ∀ k : Fin K, v (ix2 k e) = (w k.val : EReal)) :
    softLater d p v j hj hb hb' hc hc' (ix2 r e) = (att x w (n + r.val + 1) : EReal) := by
  have ht : ∀ k, d (ix2 r k) ≠ ⊤ := fun k => by rw [hd]; exact causal_ne_top _ _ _
  have ht' : ∀ k, p (ix2 r k) ≠ ⊤ := fun k => by rw [hp]; exact causal_ne_top _ _ _
  obtain ⟨M, hM⟩ := rowMax_real (colMax d p j hj) r (fun c => colMax_ne_top d p r ht ht' c j _)
    (colMax_ne_bot d p r (by rw [hd]; exact causal_ne_bot _ (by simp)) j _)
  refine quot_attend _ v hc' r e x w (n + r.val) (by omega) M (fun k => ?_) hv
  rw [joined_apply _ _ hc hK]
  split
  · rw [wts_apply, hM, hp]
  · rename_i h
    rw [wts_apply, hM, hd]
    refine congrArg (fun i => Ideal.exp2 (causal x (n + r.val) i - (M : EReal))) ?_
    show n + (k.val - n) = k.val
    omega

end Cert.DiffTile

end
-- ==== Proof.Diff.Block.lean ====
/-
  A block of 256 rows of one head, from the head's whole queries, keys and values: its entry at a row and a column is the
  normalised difference of the two causal softmaxes of that row.
-/
module

public import proofs.«01_k».proof.Proof.Diff.Rows

@[expose] public section

set_option maxRecDepth 16384

noncomputable section

namespace Cert.DiffTile

open Idealize.ShloMosaic Idealize.ShloMosaic.TcCoe Cert.DiffSoftmax

/-! ## The mathematics of a row -/

/-- The score of query row `R` against key row `k` in component `c`: the product over the component's 64 lanes. -/
def lane (Q K : ℕ → ℕ → ℝ) (c R k : ℕ) : ℝ := ∑ j ∈ Finset.range 64, Q R (64 * c + j) * K k (64 * c + j)

/-- The difference of the two components' attentions. -/
def headRow (Q K V : ℕ → ℕ → ℝ) (lam : ℝ) (R e : ℕ) : ℝ :=
  att (lane Q K 0 R) (fun k => V k e) (R + 1) - lam * att (lane Q K 1 R) (fun k => V k e) (R + 1)

/-- A row divided by its root mean square and scaled by the gain. -/
def normRow (o : ℕ → ℝ) (gain : EReal) (e : ℕ) : EReal :=
  (o e : EReal) * Ideal.rsqrt (Ideal.div (∑ j : Fin 128, (o j.val : EReal) * (o j.val : EReal)) (Ideal.ofBits .f32 0x43000000#32)
    + Ideal.ofBits .f32 0x3727C5AC#32) * gain

/-! ## The scores -/

theorem score_low {n : ℕ} (q : FVec Ideal (mat 256 128) .bf16) (k : FVec Ideal (mat n 128) .bf16) (r : Fin 256) (c : Fin n)
    (Q K : ℕ → ℕ → ℝ) (R k' : ℕ) (hq : ∀ j : Fin 128, q (ix2 r j) = (Q R j.val : EReal)) (hk : ∀ j : Fin 128, k (ix2 c j) = (K k' j.val : EReal)) :
    score (lowHalf q) k (ix2 r c) = (lane Q K 0 R k' : EReal) := by
  rw [score_apply]
  simp only [lowHalf_apply, hq, hk]
  have h : ∀ j : Fin 128, (if j.val < 64 then (Q R j.val : EReal) else 0) * (K k' j.val : EReal)
      = (((if j.val ≤ 63 then Q R j.val * K k' j.val else 0) : ℝ) : EReal) := fun j => by
    by_cases hj : j.val < 64
    · rw [if_pos hj, if_pos (by omega), EReal.coe_mul]
    · rw [if_neg hj, if_neg (by omega), zero_mul, EReal.coe_zero]
  rw [Finset.sum_congr rfl fun j _ => h j, coe_sum, sum_causal (by decide) (fun j => Q R j * K k' j)]
  refine congrArg _ (Finset.sum_congr rfl fun j _ => ?_)
  rw [Nat.mul_zero, Nat.zero_add]

theorem score_high {n : ℕ} (q : FVec Ideal (mat 256 128) .bf16) (k : FVec Ideal (mat n 128) .bf16) (r : Fin 256) (c : Fin n)
    (Q K : ℕ → ℕ → ℝ) (R k' : ℕ) (hq : ∀ j : Fin 128, q (ix2 r j) = (Q R j.val : EReal)) (hk : ∀ j : Fin 128, k (ix2 c j) = (K k' j.val : EReal)) :
    score (highHalf q) k (ix2 r c) = (lane Q K 1 R k' : EReal) := by
  rw [score_apply]
  simp only [highHalf_apply, hq, hk]
  have h : ∀ j : Fin 128, (if j.val < 64 then 0 else (Q R j.val : EReal)) * (K k' j.val : EReal)
      = (((if j.val < 64 then 0 else Q R j.val * K k' j.val) : ℝ) : EReal) := fun j => by
    by_cases hj : j.val < 64
    · rw [if_pos hj, if_pos hj, zero_mul, EReal.coe_zero]
    · rw [if_neg hj, if_neg hj, EReal.coe_mul]
  rw [Finset.sum_congr rfl fun j _ => h j, coe_sum,
    Fin.sum_univ_eq_sum_range (fun j => if j < 64 then 0 else Q R j * K k' j) 128, show (128 : ℕ) = 64 + 64 from rfl, Finset.sum_range_add,
    Finset.sum_eq_zero (fun j hj => if_pos (Finset.mem_range.1 hj)), zero_add]
  refine congrArg _ (Finset.sum_congr rfl fun j _ => ?_)
  rw [if_neg (by omega), Nat.mul_one]

/-! ## The block -/

/-- The first block of a head. -/
def blockFirst (lam : FVec Ideal (mat 1 1) .f32) (gain : FVec Ideal (mat 1 128) .f32) (m : Ideal .f32)
    (q k v : FVec Ideal (mat 256 128) .bf16) (hb : (mat 256 1).Broadcasts (mat 256 256))
    (hc : Shape.Concatenates [mat 256 128, mat 256 128] (mat 256 256) 1) : FVec Ideal (mat 256 128) .bf16 :=
  finish lam gain (softFirst (masked (score (lowHalf q) k) m) v hb hc) (softFirst (masked (score (highHalf q) k) m) v hb hc)

/-- A later block of a head: `kp` the keys before it, `kd` its own, `v` the values of both. -/
def blockLater {n K : ℕ} (lam : FVec Ideal (mat 1 1) .f32) (gain : FVec Ideal (mat 1 128) .f32) (m : Ideal .f32)
    (q kd : FVec Ideal (mat 256 128) .bf16) (kp : FVec Ideal (mat n 128) .bf16) (v : FVec Ideal (mat K 128) .bf16)
    (j : ℕ) (hj : 128 * j ≤ n) (hb : (mat 256 1).Broadcasts (mat 256 256)) (hb' : (mat 256 1).Broadcasts (mat 256 n))
    (hc : Shape.Concatenates [mat 256 n, mat 256 256] (mat 256 K) 1) (hc' : Shape.Concatenates [mat K 128, mat K 128] (mat K 256) 1) :
    FVec Ideal (mat 256 128) .bf16 :=
  finish lam gain (softLater (masked (score (lowHalf q) kd) m) (score (lowHalf q) kp) v j hj hb hb' hc hc')
    (softLater (masked (score (highHalf q) kd) m) (score (highHalf q) kp) v j hj hb hb' hc hc')

theorem finish_row (lam : FVec Ideal (mat 1 1) .f32) (gain : FVec Ideal (mat 1 128) .f32) (a b : FVec Ideal (mat 256 128) .f32)
    (r : Fin 256) (e : Fin 128) (l : ℝ) (hl : lam (ix2 0 0) = (l : EReal)) (A B : ℕ → ℝ)
    (ha : ∀ j : Fin 128, a (ix2 r j) = (A j.val : EReal)) (hb : ∀ j : Fin 128, b (ix2 r j) = (B j.val : EReal)) :
    finish lam gain a b (ix2 r e) = normRow (fun j => A j - l * B j) (gain (ix2 0 e)) e.val :=
  finish_apply lam gain a b r e (fun j => ((A j.val - l * B j.val : ℝ) : EReal)) fun j => by
    rw [ha, hb, hl, ← EReal.coe_mul, ← EReal.coe_sub]

theorem blockFirst_apply (lam : FVec Ideal (mat 1 1) .f32) (gain : FVec Ideal (mat 1 128) .f32) (m : Ideal .f32) (hm : m = (⊥ : EReal))
    (q k v : FVec Ideal (mat 256 128) .bf16) (hb hc) (r : Fin 256) (e : Fin 128) (l : ℝ) (hl : lam (ix2 0 0) = (l : EReal))
    (Q K V : ℕ → ℕ → ℝ) (hq : ∀ (i : Fin 256) (j : Fin 128), q (ix2 i j) = (Q i.val j.val : EReal))
    (hk : ∀ (i : Fin 256) (j : Fin 128), k (ix2 i j) = (K i.val j.val : EReal))
    (hv : ∀ (i : Fin 256) (j : Fin 128), v (ix2 i j) = (V i.val j.val : EReal)) :
    blockFirst lam gain m q k v hb hc (ix2 r e) = normRow (headRow Q K V l r.val) (gain (ix2 0 e)) e.val := by
  refine finish_row lam gain _ _ r e l hl (fun j => att (lane Q K 0 r.val) (fun k => V k j) (r.val + 1))
    (fun j => att (lane Q K 1 r.val) (fun k => V k j) (r.val + 1)) (fun j => ?_) (fun j => ?_)
  · refine softFirst_apply _ v hb hc r j (lane Q K 0 r.val) (fun k => V k j.val) (fun c => ?_) (fun c => hv c j)
    rw [masked_apply, score_low q k r c Q K r.val c.val (hq r) (hk c), hm]
    rfl
  · refine softFirst_apply _ v hb hc r j (lane Q K 1 r.val) (fun k => V k j.val) (fun c => ?_) (fun c => hv c j)
    rw [masked_apply, score_high q k r c Q K r.val c.val (hq r) (hk c), hm]
    rfl

theorem blockLater_apply {n K' : ℕ} (hK : K' = n + 256) (lam : FVec Ideal (mat 1 1) .f32) (gain : FVec Ideal (mat 1 128) .f32)
    (m : Ideal .f32) (hm : m = (⊥ : EReal))
    (q kd : FVec Ideal (mat 256 128) .bf16) (kp : FVec Ideal (mat n 128) .bf16) (v : FVec Ideal (mat K' 128) .bf16)
    (j : ℕ) (hj hb hb' hc hc') (r : Fin 256) (e : Fin 128) (l : ℝ) (hl : lam (ix2 0 0) = (l : EReal))
    (Q K V : ℕ → ℕ → ℝ) (hq : ∀ (i : Fin 256) (j : Fin 128), q (ix2 i j) = (Q (n + i.val) j.val : EReal))
    (hkd : ∀ (i : Fin 256) (j : Fin 128), kd (ix2 i j) = (K (n + i.val) j.val : EReal))
    (hkp : ∀ (i : Fin n) (j : Fin 128), kp (ix2 i j) = (K i.val j.val : EReal))
    (hv : ∀ (i : Fin K') (j : Fin 128), v (ix2 i j) = (V i.val j.val : EReal)) :
    blockLater lam gain m q kd kp v j hj hb hb' hc hc' (ix2 r e) = normRow (headRow Q K V l (n + r.val)) (gain (ix2 0 e)) e.val := by
  refine finish_row lam gain _ _ r e l hl (fun j => att (lane Q K 0 (n + r.val)) (fun k => V k j) (n + r.val + 1))
    (fun j => att (lane Q K 1 (n + r.val)) (fun k => V k j) (n + r.val + 1)) (fun i => ?_) (fun i => ?_)
  · refine softLater_apply hK _ _ v j hj hb hb' hc hc' r i (lane Q K 0 (n + r.val)) (fun k => V k i.val) (fun c => ?_) (fun c => ?_) (fun c => hv c i)
    · rw [masked_apply, score_low q kd r c Q K (n + r.val) (n + c.val) (hq r) (hkd c), hm]
      simp [causal]
    · rw [score_low q kp r c Q K (n + r.val) c.val (hq r) (hkp c), causal, if_pos (by omega)]
  · refine softLater_apply hK _ _ v j hj hb hb' hc hc' r i (lane Q K 1 (n + r.val)) (fun k => V k i.val) (fun c => ?_) (fun c => ?_) (fun c => hv c i)
    · rw [masked_apply, score_high q kd r c Q K (n + r.val) (n + c.val) (hq r) (hkd c), hm]
      simp [causal]
    · rw [score_high q kp r c Q K (n + r.val) c.val (hq r) (hkp c), causal, if_pos (by omega)]

end Cert.DiffTile

end
-- ==== Proof.Diff.Pieces.lean ====
/-
  The kernel's eight stores of one grid point are the eight blocks of a head: each is `blockFirst` or `blockLater` of the rows it
  reads. The head's queries, keys and values are the point's three blocks of the projections.
-/
module

public import proofs.«01_k».proof.Proof.Diff.Block
public import proofs.«01_k».proof.Proof.Gen.DiffIdeal.Frame
public import Idealize.ShloMosaic.Lib.Pipeline.ValueKit

@[expose] public section

set_option maxRecDepth 16384

noncomputable section

namespace Cert.DiffPieces

open Idealize.ShloMosaic Idealize.ShloMosaic.TcCoe Idealize.SL.Sem
open Cert.DiffIdeal Cert.DiffIdeal.Gen Cert.DiffTile Cert.DiffSoftmax

/-- What the program writes for the mask: minus infinity. -/
abbrev maskVal : Ideal .f32 := Named.named κ "mask" 0xF149F2CA#32

theorem maskVal_eq : maskVal = (⊥ : EReal) := IdealRules.named_const.ideal_named_scalar _ _ _ _ rfl

variable (x0 x1 x2 : Vec Ideal S2048x128 .bf16) (x3 : Vec Ideal S4x64 .f32) (x4 : Vec Ideal S1x128 .f32)

/-- The weight of the second component, and the scaled gain. -/
abbrev lamVec : FVec Ideal (mat 1 1) .f32 := k0_pay143 x0 x1 x2 x3 x4
abbrev gainVec : FVec Ideal (mat 1 128) .f32 := k0_pay144 x0 x1 x2 x3 x4

theorem piece0 :
    k0_pay18 (k0_pay143 x0 x1 x2 x3 x4) (k0_pay144 x0 x1 x2 x3 x4) (k0_pay145 x0 x1 x2 x3 x4) (k0_pay15 (View.ld x2 r0_2)) (k0_pay16 (k0_pay6 (View.ld x0 r0_2) (View.ld x1 r0_2)) (View.ld x2 r0_2)) (k0_pay17 (k0_pay145 x0 x1 x2 x3 x4))
      = blockFirst (lamVec x0 x1 x2 x3 x4) (gainVec x0 x1 x2 x3 x4) maskVal (View.ld x0 r0_2) (View.ld x1 r0_2) (View.ld x2 r0_2) (by decide) (by decide) := rfl

theorem piece1 :
    k0_pay31 (k0_pay143 x0 x1 x2 x3 x4) (k0_pay144 x0 x1 x2 x3 x4) (k0_pay27 (k0_pay11 (k0_pay141 x0 x1 x2 x3 x4) (k0_pay142 x0 x1 x2 x3 x4) (View.ld x0 r0_3) (View.ld x1 r0_3)) (k0_pay13 (k0_pay141 x0 x1 x2 x3 x4) (View.ld x0 r0_3) (View.ld x1 r0_2)) (View.ld x2 r0_5)) (k0_pay29 (k0_pay146 x0 x1 x2 x3 x4) (k0_pay147 x0 x1 x2 x3 x4) (View.ld x2 r0_5)) (k0_pay30 (k0_pay146 x0 x1 x2 x3 x4) (k0_pay147 x0 x1 x2 x3 x4) (View.ld x2 r0_5))
      = blockLater (n := 256) (K := 512) (lamVec x0 x1 x2 x3 x4) (gainVec x0 x1 x2 x3 x4) maskVal (View.ld x0 r0_3) (View.ld x1 r0_3) (View.ld x1 r0_2)
        (View.ld x2 r0_5) 2 (by decide) (by decide) (by decide) (by decide) (by decide) := rfl

theorem piece2 :
    k0_pay44 (k0_pay143 x0 x1 x2 x3 x4) (k0_pay144 x0 x1 x2 x3 x4) (k0_pay40 (k0_pay22 (k0_pay141 x0 x1 x2 x3 x4) (k0_pay142 x0 x1 x2 x3 x4) (View.ld x0 r0_4) (View.ld x1 r0_4)) (k0_pay24 (k0_pay20 (k0_pay141 x0 x1 x2 x3 x4) (View.ld x0 r0_4)) (View.ld x1 r0_5)) (View.ld x2 r0_7)) (k0_pay42 (k0_pay148 x0 x1 x2 x3 x4) (k0_pay149 x0 x1 x2 x3 x4) (View.ld x2 r0_7)) (k0_pay43 (k0_pay148 x0 x1 x2 x3 x4) (k0_pay149 x0 x1 x2 x3 x4) (View.ld x2 r0_7))
      = blockLater (n := 512) (K := 768) (lamVec x0 x1 x2 x3 x4) (gainVec x0 x1 x2 x3 x4) maskVal (View.ld x0 r0_4) (View.ld x1 r0_4) (View.ld x1 r0_5)
        (View.ld x2 r0_7) 4 (by decide) (by decide) (by decide) (by decide) (by decide) := rfl

theorem piece3 :
    k0_pay57 (k0_pay143 x0 x1 x2 x3 x4) (k0_pay144 x0 x1 x2 x3 x4) (k0_pay151 x0 x1 x2 x3 x4) (k0_pay52 (View.ld x2 r0_9)) (k0_pay53 (k0_pay35 (k0_pay141 x0 x1 x2 x3 x4) (k0_pay142 x0 x1 x2 x3 x4) (View.ld x0 r0_6) (View.ld x1 r0_6)) (k0_pay37 (k0_pay141 x0 x1 x2 x3 x4) (View.ld x0 r0_6) (View.ld x1 r0_7)) (View.ld x2 r0_9)) (k0_pay55 (k0_pay150 x0 x1 x2 x3 x4) (k0_pay151 x0 x1 x2 x3 x4)) (k0_pay56 (k0_pay150 x0 x1 x2 x3 x4) (k0_pay151 x0 x1 x2 x3 x4))
      = blockLater (n := 768) (K := 1024) (lamVec x0 x1 x2 x3 x4) (gainVec x0 x1 x2 x3 x4) maskVal (View.ld x0 r0_6) (View.ld x1 r0_6) (View.ld x1 r0_7)
        (View.ld x2 r0_9) 6 (by decide) (by decide) (by decide) (by decide) (by decide) := rfl

theorem piece4 :
    k0_pay76 (k0_pay143 x0 x1 x2 x3 x4) (k0_pay144 x0 x1 x2 x3 x4) (k0_pay152 x0 x1 x2 x3 x4) (k0_pay153 x0 x1 x2 x3 x4) (k0_pay65 (View.ld x2 r0_11)) (k0_pay66 (k0_pay48 (k0_pay141 x0 x1 x2 x3 x4) (k0_pay142 x0 x1 x2 x3 x4) (View.ld x0 r0_8) (View.ld x1 r0_8)) (k0_pay50 (k0_pay141 x0 x1 x2 x3 x4) (View.ld x0 r0_8) (View.ld x1 r0_9)) (View.ld x2 r0_11)) (k0_pay67 (k0_pay153 x0 x1 x2 x3 x4)) (k0_pay68 (k0_pay153 x0 x1 x2 x3 x4)) (k0_pay69 (k0_pay153 x0 x1 x2 x3 x4)) (k0_pay70 (k0_pay153 x0 x1 x2 x3 x4)) (k0_pay71 (k0_pay153 x0 x1 x2 x3 x4)) (k0_pay72 (k0_pay153 x0 x1 x2 x3 x4)) (k0_pay73 (k0_pay153 x0 x1 x2 x3 x4)) (k0_pay74 (k0_pay153 x0 x1 x2 x3 x4)) (k0_pay75 (k0_pay152 x0 x1 x2 x3 x4))
      = blockLater (n := 1024) (K := 1280) (lamVec x0 x1 x2 x3 x4) (gainVec x0 x1 x2 x3 x4) maskVal (View.ld x0 r0_8) (View.ld x1 r0_8) (View.ld x1 r0_9)
        (View.ld x2 r0_11) 8 (by decide) (by decide) (by decide) (by decide) (by decide) := rfl

theorem piece5 :
    k0_pay91 (k0_pay144 x0 x1 x2 x3 x4) (k0_pay89 (k0_pay143 x0 x1 x2 x3 x4) (k0_pay155 x0 x1 x2 x3 x4) (k0_pay157 x0 x1 x2 x3 x4) (k0_pay165 x0 x1 x2 x3 x4) (k0_pay166 x0 x1 x2 x3 x4) (k0_pay167 x0 x1 x2 x3 x4)) (k0_pay90 (k0_pay143 x0 x1 x2 x3 x4) (k0_pay155 x0 x1 x2 x3 x4) (k0_pay157 x0 x1 x2 x3 x4) (k0_pay165 x0 x1 x2 x3 x4) (k0_pay166 x0 x1 x2 x3 x4) (k0_pay167 x0 x1 x2 x3 x4))
      = blockLater (n := 1280) (K := 1536) (lamVec x0 x1 x2 x3 x4) (gainVec x0 x1 x2 x3 x4) maskVal (View.ld x0 r0_10) (View.ld x1 r0_10) (View.ld x1 r0_11)
        (View.ld x2 r0_13) 10 (by decide) (by decide) (by decide) (by decide) (by decide) := rfl

theorem piece6 :
    k0_pay114 (k0_pay143 x0 x1 x2 x3 x4) (k0_pay144 x0 x1 x2 x3 x4) (k0_pay162 x0 x1 x2 x3 x4) (k0_pay164 x0 x1 x2 x3 x4) (k0_pay172 x0 x1 x2 x3 x4) (k0_pay108 (k0_pay161 x0 x1 x2 x3 x4) (k0_pay163 x0 x1 x2 x3 x4) (k0_pay172 x0 x1 x2 x3 x4) (k0_pay100 (k0_pay161 x0 x1 x2 x3 x4)) (k0_pay101 (k0_pay161 x0 x1 x2 x3 x4)) (k0_pay102 (k0_pay163 x0 x1 x2 x3 x4)) (k0_pay103 (k0_pay163 x0 x1 x2 x3 x4)) (k0_pay104 (k0_pay163 x0 x1 x2 x3 x4)) (k0_pay105 (k0_pay163 x0 x1 x2 x3 x4)) (k0_pay106 (k0_pay163 x0 x1 x2 x3 x4)) (k0_pay107 (k0_pay163 x0 x1 x2 x3 x4))) (k0_pay109 (k0_pay164 x0 x1 x2 x3 x4)) (k0_pay110 (k0_pay164 x0 x1 x2 x3 x4)) (k0_pay111 (k0_pay164 x0 x1 x2 x3 x4)) (k0_pay112 (k0_pay164 x0 x1 x2 x3 x4)) (k0_pay113 (k0_pay162 x0 x1 x2 x3 x4) (k0_pay164 x0 x1 x2 x3 x4))
      = blockLater (n := 1536) (K := 1792) (lamVec x0 x1 x2 x3 x4) (gainVec x0 x1 x2 x3 x4) maskVal (View.ld x0 r0_12) (View.ld x1 r0_12) (View.ld x1 r0_13)
        (View.ld x2 r0_15) 12 (by decide) (by decide) (by decide) (by decide) (by decide) := rfl

theorem piece7 :
    k0_pay1 (k0_pay144 x0 x1 x2 x3 x4) (k0_pay174 x0 x1 x2 x3 x4) (k0_pay140 (k0_pay174 x0 x1 x2 x3 x4))
      = blockLater (n := 1792) (K := 2048) (lamVec x0 x1 x2 x3 x4) (gainVec x0 x1 x2 x3 x4) maskVal (View.ld x0 r0_14) (View.ld x1 r0_14) (View.ld x1 r0_15)
        (View.ld x2 r0_16) 14 (by decide) (by decide) (by decide) (by decide) (by decide) := rfl

/-- The weight of the second component from the four vectors that give it. -/
def lamOf (f : Fin 4 → Fin 64 → EReal) : EReal :=
  Ideal.exp (∑ j, f 0 j * f 1 j) - Ideal.exp (∑ j, f 2 j * f 3 j) + Ideal.ofBits .f32 0x3E4CCCCD#32

theorem lamVec_apply : lamVec x0 x1 x2 x3 x4 (ix2 0 0) = lamOf fun i j => x3 (ix2 i j) := by
  have h : View.ld x3 r0_0 = x3 := by
    funext y
    exact View.ld_unit_apply_of x3 _ _ _ y y fun a => by
      match a with
      | ⟨0, _⟩ => exact (Nat.zero_add _).symm
      | ⟨1, _⟩ => exact (Nat.zero_add _).symm
  unfold lamVec k0_pay143
  rw [h]
  unfold k0_pay3 lamOf
  pointwise

theorem gainVec_apply (e : Fin 128) : gainVec x0 x1 x2 x3 x4 (ix2 0 e) = x4 (ix2 0 e) * Ideal.ofBits .f32 0x3F4CCCCD#32 := by
  have h : View.ld x4 r0_1 = x4 := by
    funext y
    exact View.ld_unit_apply_of x4 _ _ _ y y fun a => by
      match a with
      | ⟨0, _⟩ => exact (Nat.zero_add _).symm
      | ⟨1, _⟩ => exact (Nat.zero_add _).symm
  unfold gainVec k0_pay144
  rw [h]
  unfold k0_pay4
  pointwise

/-- A head's block at a row and a column. -/
theorem out_apply (l : ℝ) (hl : lamOf (fun i j => x3 (ix2 i j)) = (l : EReal)) (Q K V : ℕ → ℕ → ℝ)
    (hq : ∀ (i : Fin 2048) (j : Fin 128), x0 (ix2 i j) = (Q i.val j.val : EReal))
    (hk : ∀ (i : Fin 2048) (j : Fin 128), x1 (ix2 i j) = (K i.val j.val : EReal))
    (hv : ∀ (i : Fin 2048) (j : Fin 128), x2 (ix2 i j) = (V i.val j.val : EReal)) (y : S2048x128.Idx) :
    out0_5 x0 x1 x2 x3 x4 y
      = normRow (headRow Q K V l (y 0).val) (x4 (ix2 0 (y 1)) * Ideal.ofBits .f32 0x3F4CCCCD#32) (y 1).val := by
  have hl' : lamVec x0 x1 x2 x3 x4 (ix2 0 0) = (l : EReal) := (lamVec_apply x0 x1 x2 x3 x4).trans hl
  have rows : ∀ (x : Vec Ideal S2048x128 .bf16) (W : ℕ → ℕ → ℝ) (_ : ∀ (i : Fin 2048) (j : Fin 128), x (ix2 i j) = (W i.val j.val : EReal))
      (o n : ℕ) (hin : ∀ a, (![o, 0] : Fin 2 → ℕ) a + (mat n 128).size a ≤ S2048x128.size a) (i : Fin n) (j : Fin 128),
      View.ld x (Rect.unit (s := S2048x128) ![o, 0] (mat n 128).size hin) (ix2 i j) = (W (o + i.val) j.val : EReal) := by
    intro x W hx o n hin i j
    have hb : o + n ≤ 2048 := hin 0
    refine (View.ld_unit_apply_of x _ _ _ (ix2 i j) (ix2 (⟨o + i.val, by omega⟩ : Fin 2048) j) fun a => ?_).trans (hx _ _)
    match a with
    | ⟨0, _⟩ => rfl
    | ⟨1, _⟩ => exact (Nat.zero_add _).symm
  have rows0 : ∀ (x : Vec Ideal S2048x128 .bf16) (W : ℕ → ℕ → ℝ) (_ : ∀ (i : Fin 2048) (j : Fin 128), x (ix2 i j) = (W i.val j.val : EReal))
      (n : ℕ) (hin : ∀ a, (![0, 0] : Fin 2 → ℕ) a + (mat n 128).size a ≤ S2048x128.size a) (i : Fin n) (j : Fin 128),
      View.ld x (Rect.unit (s := S2048x128) ![0, 0] (mat n 128).size hin) (ix2 i j) = (W i.val j.val : EReal) :=
    fun x W hx n hin i j => (rows x W hx 0 n hin i j).trans (by rw [Nat.zero_add])
  have eta : ∀ x : (mat 256 128).Idx, x = ix2 (x 0) (x 1) := fun x => funext fun a => by
    match a with
    | ⟨0, _⟩ => rfl
    | ⟨1, _⟩ => rfl
  have close : ∀ (n : ℕ) (x : (mat 256 128).Idx) (g : EReal),
      g = normRow (headRow Q K V l (n + (x 0).val)) (gainVec x0 x1 x2 x3 x4 (ix2 0 (x 1))) (x 1).val → (y 0).val = n + (x 0).val →
      (y 1).val = (x 1).val →
      g = normRow (headRow Q K V l (y 0).val) (x4 (ix2 0 (y 1)) * Ideal.ofBits .f32 0x3F4CCCCD#32) (y 1).val := by
    intro n x g hg h0 h1
    have hx : (y 1 : Fin 128) = x 1 := Fin.ext h1
    rw [hg, h0, h1]
    refine congrArg (fun w => normRow _ w _) ((gainVec_apply x0 x1 x2 x3 x4 (x 1)).trans ?_)
    rw [hx]
  have later : ∀ (n K' : ℕ) (hK : K' = n + 256) (q kd : FVec Ideal (mat 256 128) .bf16) (kp : FVec Ideal (mat n 128) .bf16)
      (v : FVec Ideal (mat K' 128) .bf16) (j : ℕ) (hj hb hb' hc hc') (x : (mat 256 128).Idx) {g : EReal}
      (_ : g = blockLater (lamVec x0 x1 x2 x3 x4) (gainVec x0 x1 x2 x3 x4) maskVal q kd kp v j hj hb hb' hc hc' x)
      (_ : ∀ (i : Fin 256) (j : Fin 128), q (ix2 i j) = (Q (n + i.val) j.val : EReal))
      (_ : ∀ (i : Fin 256) (j : Fin 128), kd (ix2 i j) = (K (n + i.val) j.val : EReal))
      (_ : ∀ (i : Fin n) (j : Fin 128), kp (ix2 i j) = (K i.val j.val : EReal))
      (_ : ∀ (i : Fin K') (j : Fin 128), v (ix2 i j) = (V i.val j.val : EReal)),
      g = normRow (headRow Q K V l (n + (x 0).val)) (gainVec x0 x1 x2 x3 x4 (ix2 0 (x 1))) (x 1).val := by
    intro n K' hK q kd kp v j hj hb hb' hc hc' x g hg h1 h2 h3 h4
    rw [hg, eta x]
    exact blockLater_apply hK _ _ _ maskVal_eq q kd kp v j hj hb hb' hc hc' (x 0) (x 1) l hl' Q K V h1 h2 h3 h4
  unfold out0_5
  canon_tiles x h
  · exact close 1792 x _ (later 1792 2048 rfl _ _ _ _ 14 _ _ _ _ _ _ (congrFun (piece7 x0 x1 x2 x3 x4) x) (rows x0 Q hq 1792 256 _) (rows x1 K hk 1792 256 _) (rows0 x1 K hk 1792 _) (rows0 x2 V hv 2048 _)) h0 h1
  · exact close 1536 x _ (later 1536 1792 rfl _ _ _ _ 12 _ _ _ _ _ _ (congrFun (piece6 x0 x1 x2 x3 x4) x) (rows x0 Q hq 1536 256 _) (rows x1 K hk 1536 256 _) (rows0 x1 K hk 1536 _) (rows0 x2 V hv 1792 _)) h0 h1
  · exact close 1280 x _ (later 1280 1536 rfl _ _ _ _ 10 _ _ _ _ _ _ (congrFun (piece5 x0 x1 x2 x3 x4) x) (rows x0 Q hq 1280 256 _) (rows x1 K hk 1280 256 _) (rows0 x1 K hk 1280 _) (rows0 x2 V hv 1536 _)) h0 h1
  · exact close 1024 x _ (later 1024 1280 rfl _ _ _ _ 8 _ _ _ _ _ _ (congrFun (piece4 x0 x1 x2 x3 x4) x) (rows x0 Q hq 1024 256 _) (rows x1 K hk 1024 256 _) (rows0 x1 K hk 1024 _) (rows0 x2 V hv 1280 _)) h0 h1
  · exact close 768 x _ (later 768 1024 rfl _ _ _ _ 6 _ _ _ _ _ _ (congrFun (piece3 x0 x1 x2 x3 x4) x) (rows x0 Q hq 768 256 _) (rows x1 K hk 768 256 _) (rows0 x1 K hk 768 _) (rows0 x2 V hv 1024 _)) h0 h1
  · exact close 512 x _ (later 512 768 rfl _ _ _ _ 4 _ _ _ _ _ _ (congrFun (piece2 x0 x1 x2 x3 x4) x) (rows x0 Q hq 512 256 _) (rows x1 K hk 512 256 _) (rows0 x1 K hk 512 _) (rows0 x2 V hv 768 _)) h0 h1
  · exact close 256 x _ (later 256 512 rfl _ _ _ _ 2 _ _ _ _ _ _ (congrFun (piece1 x0 x1 x2 x3 x4) x) (rows x0 Q hq 256 256 _) (rows x1 K hk 256 256 _) (rows0 x1 K hk 256 _) (rows0 x2 V hv 512 _)) h0 h1
  · refine close 0 x _ (((congrFun (piece0 x0 x1 x2 x3 x4) x).trans (congrArg _ (eta x))).trans ?_) (by omega) h1
    refine (blockFirst_apply _ _ _ maskVal_eq _ _ _ _ _ (x 0) (x 1) l hl' Q K V (rows0 x0 Q hq 256 _) (rows0 x1 K hk 256 _) (rows0 x2 V hv 256 _)).trans ?_
    rw [Nat.zero_add]

end Cert.DiffPieces

end
-- ==== Proof.Diff.Ref.lean ====
/-
  The reference at an index: the same normalised difference of two causal softmaxes, read off its operations one at a time. The
  projections are given as real numbers `P`; head `h` of sequence `b` reads rows 2048 b … and columns 128 h … of its three parts.
-/
module

public import proofs.«01_k».proof.Proof.Diff.Block
public import proofs.«01_k».proof.Proof.Gen.DiffRefIdeal.Read

@[expose] public section

set_option maxRecDepth 16384

noncomputable section

namespace Cert.DiffSpec

/-- The queries, keys and values of head `h` of sequence `b`. -/
def qOf (P : ℕ → ℕ → ℝ) (b h R j : ℕ) : ℝ := P (2048 * b + R) (128 * h + j)
def kOf (P : ℕ → ℕ → ℝ) (b h R j : ℕ) : ℝ := P (2048 * b + R) (512 + (128 * h + j))
def vOf (P : ℕ → ℕ → ℝ) (b h R j : ℕ) : ℝ := P (2048 * b + R) (1024 + (128 * h + j))

end Cert.DiffSpec

namespace Cert.DiffRefValue

open Idealize.ShloMosaic Idealize.ShloMosaic.TcCoe Idealize.SL.Sem
open Cert.DiffRefIdeal Cert.DiffRefIdeal.Gen Cert.DiffRefIdeal.Read Cert.DiffTile Cert.DiffSoftmax Cert.DiffSpec

variable (x0 : (⟨S65536x3072, .bf16⟩ : BufTy).Contents (Elt Ideal)) (x1 : (⟨S4x64, .f32⟩ : BufTy).Contents (Elt Ideal))
  (x2 : (⟨S1x128, .f32⟩ : BufTy).Contents (Elt Ideal)) (P : ℕ → ℕ → ℝ)
  (hx : ∀ y : S65536x3072.Idx, x0 y = (P (y 0).val (y 1).val : EReal))

include hx

theorem v1_at (i : S32x2048x3072.Idx) : val_main_v1 (F := Ideal) x0 i = (P (2048 * (i 0).val + (i 1).val) (i 2).val : EReal) := by
  have h2 : (i 2).val < 3072 := (i 2).isLt
  rw [val_main_v1_apply, val_main_v0_apply]
  refine (hx _).trans ?_
  show ((P ((((i 0).val * 2048 + (i 1).val) * 3072 + (i 2).val) / 3072) ((((i 0).val * 2048 + (i 1).val) * 3072 + (i 2).val) % 3072) : ℝ) : EReal) = _
  rw [show (((i 0).val * 2048 + (i 1).val) * 3072 + (i 2).val) / 3072 = 2048 * (i 0).val + (i 1).val by omega,
    show (((i 0).val * 2048 + (i 1).val) * 3072 + (i 2).val) % 3072 = (i 2).val by omega]

theorem q_at (b : Fin 32) (R : Fin 2048) (h : Fin 4) (c : Fin 2) (l : Fin 64) :
    val_main_v3 (F := Ideal) x0 (ix5 b R h c l) = (qOf P b.val h.val R.val (64 * c.val + l.val) : EReal) := by
  rw [val_main_v3_apply, val_main_v2_apply, v1_at x0 P hx]
  show ((P (2048 * (((((b.val * 2048 + R.val) * 4 + h.val) * 2 + c.val) * 64 + l.val) / 1048576)
    + ((((b.val * 2048 + R.val) * 4 + h.val) * 2 + c.val) * 64 + l.val) / 512 % 2048)
    (((((b.val * 2048 + R.val) * 4 + h.val) * 2 + c.val) * 64 + l.val) % 512) : ℝ) : EReal) = _
  unfold qOf
  congr 2 <;> omega

theorem k_at (b : Fin 32) (R : Fin 2048) (h : Fin 4) (c : Fin 2) (l : Fin 64) :
    val_main_v5 (F := Ideal) x0 (ix5 b R h c l) = (kOf P b.val h.val R.val (64 * c.val + l.val) : EReal) := by
  rw [val_main_v5_apply, val_main_v4_apply, v1_at x0 P hx]
  show ((P (2048 * (((((b.val * 2048 + R.val) * 4 + h.val) * 2 + c.val) * 64 + l.val) / 1048576)
    + ((((b.val * 2048 + R.val) * 4 + h.val) * 2 + c.val) * 64 + l.val) / 512 % 2048)
    (512 + ((((b.val * 2048 + R.val) * 4 + h.val) * 2 + c.val) * 64 + l.val) % 512) : ℝ) : EReal) = _
  unfold kOf
  congr 2 <;> omega

theorem v_at (b : Fin 32) (R : Fin 2048) (h : Fin 4) (e : Fin 128) :
    val_main_v7 (F := Ideal) x0 (ix4 b R h e) = (vOf P b.val h.val R.val e.val : EReal) := by
  rw [val_main_v7_apply, val_main_v6_apply, v1_at x0 P hx]
  show ((P (2048 * ((((b.val * 2048 + R.val) * 4 + h.val) * 128 + e.val) / 1048576)
    + (((b.val * 2048 + R.val) * 4 + h.val) * 128 + e.val) / 512 % 2048)
    (1024 + (((b.val * 2048 + R.val) * 4 + h.val) * 128 + e.val) % 512) : ℝ) : EReal) = _
  unfold vOf
  congr 2 <;> omega

theorem dot_at (b : Fin 32) (h : Fin 4) (c : Fin 2) (R k : Fin 2048) :
    val_main_v24 (F := Ideal) x0 (ix5 b h c R k) = (lane (qOf P b.val h.val) (kOf P b.val h.val) c.val R.val k.val : EReal) := by
  rw [val_main_v24_apply]
  have hl : ∀ l : Fin 64, lidx_main_v24 (ix5 b h c R k) l = ix5 b R h c l := fun l => funext fun a => by
    match a with
    | ⟨0, _⟩ | ⟨1, _⟩ | ⟨2, _⟩ | ⟨3, _⟩ | ⟨4, _⟩ => rfl
  have hr : ∀ l : Fin 64, ridx_main_v24 (ix5 b h c R k) l = ix5 b k h c l := fun l => funext fun a => by
    match a with
    | ⟨0, _⟩ | ⟨1, _⟩ | ⟨2, _⟩ | ⟨3, _⟩ | ⟨4, _⟩ => rfl
  simp only [hl, hr, q_at x0 P hx, k_at x0 P hx, ← EReal.coe_mul, coe_sum]
  refine congrArg _ ?_
  unfold lane
  exact Fin.sum_univ_eq_sum_range (fun l => qOf P b.val h.val R.val (64 * c.val + l) * kOf P b.val h.val k.val (64 * c.val + l)) 64

omit hx in
theorem ln2_at (i : S32x4x2x2048x2048.Idx) : val_main_v26 (F := Ideal) i = (Real.log 2 : EReal) := by
  rw [val_main_v26_apply, val_main_v25_apply]
  show Ideal.log (Ideal.ofBits .f32 0x40000000#32) = _
  have h2 : Ideal.ofBits .f32 0x40000000#32 = ((2 : ℝ) : EReal) := by
    simp [Ideal.ofBits, Ideal.ieee, -EReal.coe_mul]
    norm_num
  rw [h2]
  show (if (2 : ℝ) ≤ 0 then (⊥ : EReal) else (Real.log 2 : EReal)) = _
  rw [if_neg (by norm_num)]

/-- The masked score, in powers of e. -/
theorem score_at (b : Fin 32) (h : Fin 4) (c : Fin 2) (R k : Fin 2048) :
    val_main_v34 (F := Ideal) x0 (ix5 b h c R k)
      = causal (fun k => lane (qOf P b.val h.val) (kOf P b.val h.val) c.val R.val k * Real.log 2) R.val k.val := by
  have hm : val_main_call0_v1 (F := Ideal) (ix5 b h c R k) = BitVec.ofBool (decide (k.val ≤ R.val)) := by
    rw [val_main_call0_v1_apply, val_main_v33_apply, val_main_v31_apply, val_main_v32_apply, val_main_v29_apply, val_main_v30_apply,
      val_main_v28_apply, val_main_v28_apply]
    exact WordCmp.cmpi_sle_ofNat (w := 32) (a := k.val) (b := R.val) (by omega) (by omega)
  have hb : val_main_call0_v2 (F := Ideal) (ix5 b h c R k) = (⊥ : EReal) := by
    rw [val_main_call0_v2_apply, val_main_call0_v0_apply]
    exact ofBits_negInf
  have hs : val_main_v27 (F := Ideal) x0 (ix5 b h c R k)
      = ((lane (qOf P b.val h.val) (kOf P b.val h.val) c.val R.val k.val * Real.log 2 : ℝ) : EReal) := by
    rw [val_main_v27_apply, dot_at x0 P hx, ln2_at, EReal.coe_mul]
    rfl
  rw [val_main_v34_apply, hm, hb, hs]
  unfold causal
  by_cases hk : k.val ≤ R.val <;> simp [Scalar.select, hk]

/-- What is taken off the scores of a row is one real number. -/
theorem rowVal (b : Fin 32) (h : Fin 4) (c : Fin 2) (R : Fin 2048) :
    ∃ M : ℝ, ∀ k : Fin 2048, val_main_v39 (F := Ideal) x0 (ix5 b h c R k) = (M : EReal) := by
  have hr : S32x4x2x2048x2048.Reduces [4] S32x4x2x2048 := by decide
  have hl : ∀ k : Fin 2048, hr.lift (ix4 b h c R) k = ix5 b h c R k := fun k => funext fun a => by
    match a with
    | ⟨0, _⟩ | ⟨1, _⟩ | ⟨2, _⟩ | ⟨3, _⟩ | ⟨4, _⟩ => rfl
  have hf : val_main_v35 (F := Ideal) x0 (ix4 b h c R)
      = (Finset.univ : Finset (Fin 2048)).fold max ⊥ (fun k => val_main_v34 (F := Ideal) x0 (ix5 b h c R k)) := by
    unfold val_main_v35
    refine (Host.reduce_eq_fold_single (s := S32x4x2x2048x2048) (t := S32x4x2x2048) (u := S_) (a := 4) (max : EReal → EReal → EReal)
      (val_main_v34 (F := Ideal) x0) (val_main_cst_4 (F := Ideal)) reducesTo_S32x4x2x2048x2048_S32x4x2x2048_d4 hr h_S_ (ix4 b h c R)).trans ?_
    rw [show val_main_cst_4 (F := Ideal) (Shape.Idx.first h_S_) = (⊥ : EReal) from ofBits_negInf]
    exact congrArg (fun f => Finset.fold max (⊥ : EReal) f (Finset.univ : Finset (Fin 2048)))
      (funext fun k => congrArg (val_main_v34 (F := Ideal) x0) (hl k))
  obtain ⟨M, hM⟩ := fold_max_real (Finset.univ : Finset (Fin 2048)) (fun k => val_main_v34 (F := Ideal) x0 (ix5 b h c R k))
    (fun k _ => by rw [score_at x0 P hx]; exact causal_ne_top _ _ _) (Finset.mem_univ 0)
    (by rw [score_at x0 P hx]; exact causal_ne_bot _ (Nat.zero_le _))
  refine ⟨M, fun k => ?_⟩
  rw [val_main_v39_apply, val_main_v38_apply,
    show idx_main_v38 (idx_main_v39 (ix5 b h c R k)) = ix4 b h c R from funext fun a => by
      match a with
      | ⟨0, _⟩ | ⟨1, _⟩ | ⟨2, _⟩ | ⟨3, _⟩ => rfl,
    val_main_v37_apply, hf, hM, val_main_v36_apply]
  show max (Ideal.ofBits .f32 0xFF800000#32) (M : EReal) = _
  rw [ofBits_negInf]
  exact max_eq_right bot_le

/-- One weight of the softmax. -/
theorem weight_at (b : Fin 32) (h : Fin 4) (c : Fin 2) (R k : Fin 2048) :
    val_main_v45 (F := Ideal) x0 (ix5 b h c R k)
      = (((if k.val ≤ R.val then Real.rpow 2 (lane (qOf P b.val h.val) (kOf P b.val h.val) c.val R.val k.val) else 0)
        / ∑ k ∈ Finset.range (R.val + 1), Real.rpow 2 (lane (qOf P b.val h.val) (kOf P b.val h.val) c.val R.val k) : ℝ) : EReal) := by
  obtain ⟨M, hM⟩ := rowVal x0 P hx b h c R
  have he : ∀ k : Fin 2048, val_main_v41 (F := Ideal) x0 (ix5 b h c R k)
      = Ideal.exp (causal (fun k => lane (qOf P b.val h.val) (kOf P b.val h.val) c.val R.val k * Real.log 2) R.val k.val - (M : EReal)) := by
    intro k
    rw [val_main_v41_apply, val_main_v40_apply, score_at x0 P hx, hM]
    rfl
  have hd : val_main_v44 (F := Ideal) x0 (ix5 b h c R k) = ∑ k : Fin 2048, val_main_v41 (F := Ideal) x0 (ix5 b h c R k) := by
    rw [val_main_v44_apply, val_main_v43_apply, val_main_v42_apply,
      show val_main_cst_6 (F := Ideal) (Shape.Idx.first h_S_) = (0 : EReal) from Ideal.ofBits_zero .f32, zero_add]
    refine Finset.sum_congr rfl fun k' _ => congrArg (val_main_v41 (F := Ideal) x0) (funext fun a => ?_)
    match a with
    | ⟨0, _⟩ | ⟨1, _⟩ | ⟨2, _⟩ | ⟨3, _⟩ | ⟨4, _⟩ => rfl
  rw [val_main_v45_apply, hd, he, Finset.sum_congr rfl fun k _ => he k]
  exact exp_weight R.isLt _ M k.val

theorem first_at (b : Fin 32) (h : Fin 4) (R k : Fin 2048) :
    val_main_v47 (F := Ideal) x0 (ix4 b h R k) = val_main_v45 (F := Ideal) x0 (ix5 b h 0 R k) := by
  rw [val_main_v47_apply, val_main_v46_apply]
  refine congrArg (val_main_v45 (F := Ideal) x0) (funext fun a => ?_)
  match a with
  | ⟨0, _⟩ => exact Fin.ext (by show (((b.val * 4 + h.val) * 2048 + R.val) * 2048 + k.val) / 16777216 = b.val; omega)
  | ⟨1, _⟩ => exact Fin.ext (by show (((b.val * 4 + h.val) * 2048 + R.val) * 2048 + k.val) / 4194304 % 4 = h.val; omega)
  | ⟨2, _⟩ => rfl
  | ⟨3, _⟩ => exact Fin.ext (by show (((b.val * 4 + h.val) * 2048 + R.val) * 2048 + k.val) / 2048 % 2048 = R.val; omega)
  | ⟨4, _⟩ => exact Fin.ext (by show (((b.val * 4 + h.val) * 2048 + R.val) * 2048 + k.val) % 2048 = k.val; omega)

theorem second_at (b : Fin 32) (h : Fin 4) (R k : Fin 2048) :
    val_main_v49 (F := Ideal) x0 (ix4 b h R k) = val_main_v45 (F := Ideal) x0 (ix5 b h 1 R k) := by
  rw [val_main_v49_apply, val_main_v48_apply]
  refine congrArg (val_main_v45 (F := Ideal) x0) (funext fun a => ?_)
  match a with
  | ⟨0, _⟩ => exact Fin.ext (by show (((b.val * 4 + h.val) * 2048 + R.val) * 2048 + k.val) / 16777216 = b.val; omega)
  | ⟨1, _⟩ => exact Fin.ext (by show (((b.val * 4 + h.val) * 2048 + R.val) * 2048 + k.val) / 4194304 % 4 = h.val; omega)
  | ⟨2, _⟩ => rfl
  | ⟨3, _⟩ => exact Fin.ext (by show (((b.val * 4 + h.val) * 2048 + R.val) * 2048 + k.val) / 2048 % 2048 = R.val; omega)
  | ⟨4, _⟩ => exact Fin.ext (by show (((b.val * 4 + h.val) * 2048 + R.val) * 2048 + k.val) % 2048 = k.val; omega)

/-- The attention before its norm. -/
theorem row_at (l : ℝ) (hl : val_main_v23 (F := Ideal) x1 (fun a => a.elim0) = (l : EReal)) (b : Fin 32) (R : Fin 2048) (h : Fin 4) (e : Fin 128) :
    val_main_v54 (F := Ideal) x0 x1 (ix4 b R h e) = (headRow (qOf P b.val h.val) (kOf P b.val h.val) (vOf P b.val h.val) l R.val e.val : EReal) := by
  rw [val_main_v54_apply, val_main_v53_apply]
  have hi : ∀ k : Fin 2048, lidx_main_v53 (idx_main_v54 (ix4 b R h e)) k = ix4 b k h e := fun k => funext fun a => by
    match a with
    | ⟨0, _⟩ | ⟨1, _⟩ | ⟨2, _⟩ | ⟨3, _⟩ => rfl
  have hj : ∀ k : Fin 2048, ridx_main_v53 (idx_main_v54 (ix4 b R h e)) k = ix4 b h R k := fun k => funext fun a => by
    match a with
    | ⟨0, _⟩ | ⟨1, _⟩ | ⟨2, _⟩ | ⟨3, _⟩ => rfl
  have hw : ∀ k : Fin 2048, val_main_v52 (F := Ideal) x0 x1 (ix4 b h R k)
      = (val_main_v45 (F := Ideal) x0 (ix5 b h 0 R k) : EReal) - (l : EReal) * val_main_v45 (F := Ideal) x0 (ix5 b h 1 R k) := by
    intro k
    rw [val_main_v52_apply, val_main_v51_apply, val_main_v50_apply, first_at x0 P hx, second_at x0 P hx,
      show idx_main_v50 (ix4 b h R k) = (fun a => a.elim0) from funext fun a => a.elim0, hl]
    rfl
  simp only [hi, hj, hw, v_at x0 P hx]
  exact exp_form R.isLt (lane (qOf P b.val h.val) (kOf P b.val h.val) 0 R.val) (lane (qOf P b.val h.val) (kOf P b.val h.val) 1 R.val)
    (fun k => vOf P b.val h.val k e.val) l _ _ (fun k => weight_at x0 P hx b h 0 R k) (fun k => weight_at x0 P hx b h 1 R k)

/-- The reference's result. -/
theorem out_at (l : ℝ) (hl : val_main_v23 (F := Ideal) x1 (fun a => a.elim0) = (l : EReal)) (b : Fin 32) (R : Fin 2048) (h : Fin 4) (e : Fin 128) :
    val_main_v72 (F := Ideal) x0 x1 x2 (ix2 (⟨2048 * b.val + R.val, by omega⟩ : Fin 65536) (⟨128 * h.val + e.val, by omega⟩ : Fin 512))
      = normRow (headRow (qOf P b.val h.val) (kOf P b.val h.val) (vOf P b.val h.val) l R.val) (x2 (ix2 0 e) * Ideal.ofBits .f32 0x3F4CCCCD#32) e.val := by
  have hi : idx_main_v71 (ix2 (⟨2048 * b.val + R.val, by omega⟩ : Fin 65536) (⟨128 * h.val + e.val, by omega⟩ : Fin 512)) = ix4 b R h e := funext fun a => by
    match a with
    | ⟨0, _⟩ => exact Fin.ext (by show ((2048 * b.val + R.val) * 512 + (128 * h.val + e.val)) / 1048576 = b.val; omega)
    | ⟨1, _⟩ => exact Fin.ext (by show ((2048 * b.val + R.val) * 512 + (128 * h.val + e.val)) / 512 % 2048 = R.val; omega)
    | ⟨2, _⟩ => exact Fin.ext (by show ((2048 * b.val + R.val) * 512 + (128 * h.val + e.val)) / 128 % 4 = h.val; omega)
    | ⟨3, _⟩ => exact Fin.ext (by show ((2048 * b.val + R.val) * 512 + (128 * h.val + e.val)) % 128 = e.val; omega)
  have hsq : val_main_v56 (F := Ideal) x0 x1 (idx_main_v57 (idx_main_v63 (ix4 b R h e)))
      = ∑ j : Fin 128, (headRow (qOf P b.val h.val) (kOf P b.val h.val) (vOf P b.val h.val) l R.val j.val : EReal)
        * (headRow (qOf P b.val h.val) (kOf P b.val h.val) (vOf P b.val h.val) l R.val j.val : EReal) := by
    rw [val_main_v56_apply, show val_main_cst_7 (F := Ideal) (Shape.Idx.first h_S_) = (0 : EReal) from Ideal.ofBits_zero .f32, zero_add]
    refine Finset.sum_congr rfl fun j _ => ?_
    rw [show idx_main_v56 (idx_main_v57 (idx_main_v63 (ix4 b R h e))) j = ix4 b R h j from funext fun a => by
      match a with
      | ⟨0, _⟩ | ⟨1, _⟩ | ⟨2, _⟩ | ⟨3, _⟩ => rfl, val_main_v55_apply, row_at x0 x1 P hx l hl]
    rfl
  have hg : val_main_v67 (F := Ideal) x2 (ix4 b R h e) = x2 (ix2 0 e) := by
    rw [val_main_v67_apply, val_main_v66_apply, val_main_v65_apply]
    refine congrArg x2 (funext fun a => ?_)
    match a with
    | ⟨0, _⟩ => rfl
    | ⟨1, _⟩ => first | rfl | exact Fin.ext (by show e.val % 128 = e.val; omega)
  rw [val_main_v72_apply, val_main_v71_apply, hi, val_main_v70_apply, val_main_v69_apply, val_main_v68_apply, val_main_v64_apply, hg,
    val_main_v63_apply, val_main_v62_apply, val_main_v61_apply, val_main_v60_apply, val_main_v59_apply, val_main_v58_apply,
    val_main_v57_apply, hsq, row_at x0 x1 P hx l hl]
  exact mul_assoc (G := EReal) _ _ _

end Cert.DiffRefValue

end
-- ==== Proof.Diff.Finite.lean ====
/-
  What the precondition says: every element of the projections, and of the vectors that give the second component's weight, is a
  real number; so that weight is one too.
-/
module

public import proofs.«01_k».proof.Proof.Diff.Pieces
public import proofs.«01_k».proof.Proof.Diff.Ref
public import proofs.«01_k».proof.Proof.Gen.Pre_finite_args

@[expose] public section

set_option maxRecDepth 16384

noncomputable section

namespace Cert.DiffFinite

open Idealize.ShloMosaic Idealize.ShloMosaic.TcCoe
open Cert.Pre_finite_args Cert.DiffPieces Cert.DiffSoftmax

/-- Both comparisons hold at a value exactly when it is neither infinity. -/
theorem real_of_both (x : EReal)
    (h : IntOp.andi (FloatOps.cmpf (F := Ideal) (φ := .f32) .olt x (Ideal.ofBits .f32 0x7F800000#32)) (FloatOps.cmpf (F := Ideal) (φ := .f32) .ogt x (Ideal.ofBits .f32 0xFF800000#32)) = 1#1) :
    x = (x.toReal : EReal) := by
  have hp : Ideal.ofBits .f32 0x7F800000#32 = ⊤ := by simp [Ideal.ofBits, Ideal.ieee]
  rw [hp, Cert.DiffTile.ofBits_negInf] at h
  have ht : x ≠ ⊤ := by
    rintro rfl
    revert h
    simp [FloatOps.cmpf, Ideal.cmp, IntOp.andi]
  have hb : x ≠ ⊥ := by
    rintro rfl
    revert h
    simp [FloatOps.cmpf, Ideal.cmp, IntOp.andi]
  exact (EReal.coe_toReal ht hb).symm

variable [Cert.Pre_finite_args.Facts] (x0 : FVec Ideal S65536x3072 .bf16) (x1 : FVec Ideal S4x64 .f32) (x2 : FVec Ideal S1x128 .f32)

theorem proj_real (h : (fn (F := Ideal) x0 x1 x2).1 = fun _ => 1#1) (y : S65536x3072.Idx) : x0 y = ((x0 y : EReal).toReal : EReal) :=
  real_of_both (x0 y) (congrFun h y)

theorem lam_real (h : (fn (F := Ideal) x0 x1 x2).2 = fun _ => 1#1) (y : S4x64.Idx) : x1 y = ((x1 y : EReal).toReal : EReal) :=
  real_of_both (x1 y) (congrFun h y)

/-- The second component's weight is a real number when the four vectors are. -/
theorem lamOf_real (f : Fin 4 → Fin 64 → EReal) (g : Fin 4 → Fin 64 → ℝ) (h : ∀ i j, f i j = (g i j : EReal)) : ∃ l : ℝ, lamOf f = (l : EReal) := by
  have hw : ∃ w : ℝ, Ideal.ofBits .f32 0x3E4CCCCD#32 = (w : EReal) := by
    refine ⟨(Ideal.ofBits .f32 0x3E4CCCCD#32).toReal, (EReal.coe_toReal ?_ ?_).symm⟩ <;> simp [Ideal.ofBits, Ideal.ieee, -EReal.coe_mul]
  obtain ⟨w, hw⟩ := hw
  unfold lamOf
  simp only [h, ← EReal.coe_mul, coe_sum, Ideal.exp_coe, hw, ← EReal.coe_sub, ← EReal.coe_add]
  exact ⟨_, rfl⟩

/-- The reference's weight of the second component. -/
theorem ref_lam (x1 : (⟨Cert.DiffRefIdeal.S4x64, .f32⟩ : BufTy).Contents (Elt Ideal)) :
    Cert.DiffRefIdeal.Read.val_main_v23 (F := Ideal) x1 (fun a => a.elim0) = lamOf fun i j => x1 (ix2 i j) := by
  have hs : ∀ (f : Cert.DiffRefIdeal.S64.Idx → EReal), ∑ j : Cert.DiffRefIdeal.S64.Idx, f j = ∑ j : Fin 64, f (ix1 j) := by
    intro f
    exact Fintype.sum_equiv ⟨fun y => y 0, fun j => ix1 j, fun y => funext fun a => by match a with | ⟨0, _⟩ => rfl, fun j => rfl⟩ _ _
      fun y => congrArg f (funext fun a => by match a with | ⟨0, _⟩ => rfl)
  have h1 : Cert.DiffRefIdeal.Read.val_main_v13 (F := Ideal) x1 (fun a => a.elim0) = ∑ j : Fin 64, x1 (ix2 0 j) * x1 (ix2 1 j) := by
    rw [Cert.DiffRefIdeal.Read.val_main_v13_apply, show Cert.DiffRefIdeal.Read.val_main_cst (F := Ideal) _ = (0 : EReal) from Ideal.ofBits_zero .f32, zero_add, hs]
    refine Finset.sum_congr rfl fun j _ => ?_
    rw [Cert.DiffRefIdeal.Read.val_main_v12_apply, Cert.DiffRefIdeal.Read.val_main_v9_apply, Cert.DiffRefIdeal.Read.val_main_v8_apply,
      Cert.DiffRefIdeal.Read.val_main_v11_apply, Cert.DiffRefIdeal.Read.val_main_v10_apply]
    refine congrArg₂ (fun a b : EReal => a * b) (congrArg x1 (funext fun a => ?_)) (congrArg x1 (funext fun a => ?_))
    · match a with
      | ⟨0, _⟩ => rfl
      | ⟨1, _⟩ => exact Fin.ext (Nat.mod_eq_of_lt j.isLt)
    · match a with
      | ⟨0, _⟩ => rfl
      | ⟨1, _⟩ => exact Fin.ext (Nat.mod_eq_of_lt j.isLt)
  have h2 : Cert.DiffRefIdeal.Read.val_main_v20 (F := Ideal) x1 (fun a => a.elim0) = ∑ j : Fin 64, x1 (ix2 2 j) * x1 (ix2 3 j) := by
    rw [Cert.DiffRefIdeal.Read.val_main_v20_apply, show Cert.DiffRefIdeal.Read.val_main_cst_0 (F := Ideal) _ = (0 : EReal) from Ideal.ofBits_zero .f32, zero_add, hs]
    refine Finset.sum_congr rfl fun j _ => ?_
    rw [Cert.DiffRefIdeal.Read.val_main_v19_apply, Cert.DiffRefIdeal.Read.val_main_v16_apply, Cert.DiffRefIdeal.Read.val_main_v15_apply,
      Cert.DiffRefIdeal.Read.val_main_v18_apply, Cert.DiffRefIdeal.Read.val_main_v17_apply]
    refine congrArg₂ (fun a b : EReal => a * b) (congrArg x1 (funext fun a => ?_)) (congrArg x1 (funext fun a => ?_))
    · match a with
      | ⟨0, _⟩ => rfl
      | ⟨1, _⟩ => exact Fin.ext (Nat.mod_eq_of_lt j.isLt)
    · match a with
      | ⟨0, _⟩ => rfl
      | ⟨1, _⟩ => exact Fin.ext (Nat.mod_eq_of_lt j.isLt)
  rw [Cert.DiffRefIdeal.Read.val_main_v23_apply, Cert.DiffRefIdeal.Read.val_main_v22_apply, Cert.DiffRefIdeal.Read.val_main_v14_apply,
    Cert.DiffRefIdeal.Read.val_main_v21_apply, h1, h2]
  rfl

end Cert.DiffFinite

end
-- ==== Proof.Diff.Value.lean ====
/-
  The kernel's result is the reference's: each grid point's block is a head of a sequence, the same normalised difference of
  softmaxes at each of its rows and columns.
-/
module

public import proofs.«01_k».proof.Proof.Diff.Finite
public import proofs.«01_k».proof.Proof.Gen.DiffIdeal.Value

@[expose] public section

set_option maxRecDepth 16384

noncomputable section

namespace Cert.DiffValue

open Idealize.ShloMosaic Idealize.ShloMosaic.TcCoe Idealize.SL.Sem
open Idealize.ShloMosaic.Pipeline (Dat)
open Cert.DiffIdeal Cert.DiffIdeal.Gen Cert.DiffTile Cert.DiffSpec Cert.DiffPieces

/-- Which blocks a grid point stages: sequence `t / 4`, head `t % 4`. -/
theorem idx : ∀ t : Fin cfg0.N, win0_0.index t = ![t.val / 4, t.val % 4] ∧ win0_1.index t = ![t.val / 4, 4 + t.val % 4]
    ∧ win0_2.index t = ![t.val / 4, 8 + t.val % 4] ∧ win0_3.index t = ![0, 0] ∧ win0_4.index t = ![0, 0]
    ∧ win0_5.index t = ![t.val / 4, t.val % 4] :=
  (by decide +kernel : ∀ t : Fin grid0.N, _)

variable (m : (ℓ : Loc nD τ sig) → Buf (Elt Ideal) ℓ)

theorem arr (c : Dev nD) (P : ℕ → ℕ → ℝ) (l : ℝ)
    (hx : ∀ y : S65536x3072.Idx, m ((c : Thread nD τ).loc main_arg0) y = (P (y 0).val (y 1).val : EReal))
    (hl : lamOf (fun i j => m ((c : Thread nD τ).loc main_arg1) (ix2 i j)) = (l : EReal)) :
    (dats m 0 c).arrAt 5 cfg0.N = Cert.DiffRefIdeal.Read.val_main_v72 (F := Ideal) (m ((c : Thread nD τ).loc main_arg0))
      (m ((c : Thread nD τ).loc main_arg1)) (m ((c : Thread nD τ).loc main_arg2)) := by
  refine (dats m 0 c).arrAt_eq_of_covers 5 _ (by decide +kernel) fun t _ y => ?_
  have q_real : ∀ (i : Fin 2048) (j : Fin 128), iblk m c 0 t (ix2 i j) = (qOf P (t.val / 4) (t.val % 4) i.val j.val : EReal) := by
    intro i j
    refine Eq.trans ?_ (hx (ix2 ⟨2048 * (t.val / 4) + i.val, by have := t.isLt; change t.val < 128 at this; omega⟩ ⟨128 * (t.val % 4) + j.val, by omega⟩))
    blk_ext [iblk, V, idx t]
  have k_real : ∀ (i : Fin 2048) (j : Fin 128), iblk m c 1 t (ix2 i j) = (kOf P (t.val / 4) (t.val % 4) i.val j.val : EReal) := by
    intro i j
    refine Eq.trans ?_ (hx (ix2 ⟨2048 * (t.val / 4) + i.val, by have := t.isLt; change t.val < 128 at this; omega⟩ ⟨512 + (128 * (t.val % 4) + j.val), by omega⟩))
    blk_ext [iblk, V, idx t]
  have v_real : ∀ (i : Fin 2048) (j : Fin 128), iblk m c 2 t (ix2 i j) = (vOf P (t.val / 4) (t.val % 4) i.val j.val : EReal) := by
    intro i j
    refine Eq.trans ?_ (hx (ix2 ⟨2048 * (t.val / 4) + i.val, by have := t.isLt; change t.val < 128 at this; omega⟩ ⟨1024 + (128 * (t.val % 4) + j.val), by omega⟩))
    blk_ext [iblk, V, idx t]
  have l3 : iblk m c 3 t = m ((c : Thread nD τ).loc main_arg1) := by
    funext y
    blk_ext [iblk, V, idx t]
  have l4 : iblk m c 4 t = m ((c : Thread nD τ).loc main_arg2) := by
    funext y
    blk_ext [iblk, V, idx t]
  blk_simp
  rw [after0_5]
  have ht : t.val < 128 := t.isLt
  have hy0 : (y 0).val < 2048 := (y 0).isLt
  have hy1 : (y 1).val < 128 := (y 1).isLt
  have he : (win0_5.blk t).view.emb y
      = ix2 (⟨2048 * (t.val / 4) + (y 0).val, by omega⟩ : Fin 65536) (⟨128 * (t.val % 4) + (y 1).val, by omega⟩ : Fin 512) := by
    blk_ext [iblk, V, idx t]
  rw [he, l3, l4]
  refine (out_apply _ _ _ _ _ l hl _ _ _ q_real k_real v_real y).trans ?_
  exact (Cert.DiffRefValue.out_at (m ((c : Thread nD τ).loc main_arg0)) (m ((c : Thread nD τ).loc main_arg1)) (m ((c : Thread nD τ).loc main_arg2)) P hx l
    ((Cert.DiffFinite.ref_lam _).trans hl) ⟨t.val / 4, by omega⟩ (y 0) ⟨t.val % 4, by omega⟩ (y 1)).symm

end Cert.DiffValue

end
-- ==== Proof.Diff.Claims.lean ====
/-
  The claims about the differential attention: it runs and leaves its arguments as they were, its idealization is the sanctioned
  one, and over the extended reals its result is the reference's.
-/
module

public import proofs.«01_k».proof.Defs
public import proofs.«01_k».proof.Proof.Diff.Value
public import proofs.«01_k».proof.Proof.Gen.Diff.Frame

@[expose] public section

noncomputable section

namespace Cert.DiffClaims

open Idealize.ShloMosaic Idealize.ShloMosaic.TcCoe Idealize.SL.Sem

theorem kernel_runs : Cert.quiescent_Diff := fun m g _ => Cert.Diff.Gen.frame m g

theorem ideal_runs : Cert.quiescent_DiffIdeal := fun m g _ => Cert.DiffIdeal.Gen.frame m g

theorem ideal_runs_pre : Cert.quiescent_DiffIdeal_pre_finite_args := fun m g _ => Cert.DiffIdeal.Gen.frame m g

/-- The reference is host operations on a machine without semaphores. -/
theorem ref_runs : Cert.quiescent_DiffRefIdeal := by
  intro m g _
  refine θ_run_mono (Cert.DiffRefIdeal.Value.run m g) fun r h => ⟨fun c => (h c).2, sem_eq_zero_of_no_sems (by decide) _⟩

theorem ref_runs_pre : Cert.quiescent_DiffRefIdeal_pre_finite_args := by
  intro m g _
  refine θ_run_mono (Cert.DiffRefIdeal.Value.run m g) fun r h => ⟨fun c => (h c).2, sem_eq_zero_of_no_sems (by decide) _⟩

theorem preserved : Cert.preserves_Diff_DiffIdeal :=
  IdealRules.named_const.statement Cert.DiffIdeal.κ "mask" .f32 0xF149F2CA#32 ⊥ rfl

/-- Arrays the precondition holds of: the kernel's result is the reference's. -/
theorem result (m : (ℓ : Loc Cert.DiffIdeal.nD Cert.DiffIdeal.τ Cert.DiffIdeal.sig) → Buf (Elt Ideal) ℓ) (hpre : Cert.Pre_DiffIdeal_finite_args m)
    (c : Dev Cert.DiffIdeal.nD) :
    (Cert.DiffIdeal.Gen.dats m 0 c).arrAt 5 Cert.DiffIdeal.cfg0.N
      = Cert.DiffRefIdeal.Read.val_main_v72 (F := Ideal) (m ((c : Thread Cert.DiffIdeal.nD Cert.DiffIdeal.τ).loc Cert.DiffIdeal.main_arg0))
        (m ((c : Thread Cert.DiffIdeal.nD Cert.DiffIdeal.τ).loc Cert.DiffIdeal.main_arg1))
        (m ((c : Thread Cert.DiffIdeal.nD Cert.DiffIdeal.τ).loc Cert.DiffIdeal.main_arg2)) := by
  obtain ⟨h0, h1⟩ := hpre c
  obtain ⟨l, hl⟩ := Cert.DiffFinite.lamOf_real
    (fun i j => m ((c : Thread Cert.DiffIdeal.nD Cert.DiffIdeal.τ).loc Cert.DiffIdeal.main_arg1) (ix2 i j)) _
    (fun i j => Cert.DiffFinite.lam_real _ _ _ h1 (ix2 i j))
  refine Cert.DiffValue.arr m c (fun i j => if h : i < 65536 ∧ j < 3072 then
    (m ((c : Thread Cert.DiffIdeal.nD Cert.DiffIdeal.τ).loc Cert.DiffIdeal.main_arg0) (ix2 ⟨i, h.1⟩ ⟨j, h.2⟩) : EReal).toReal else 0) l (fun y => ?_) hl
  have hy : (y 0).val < 65536 ∧ (y 1).val < 3072 := ⟨(y 0).isLt, (y 1).isLt⟩
  rw [dif_pos hy]
  have e : y = ix2 (⟨(y 0).val, hy.1⟩ : Fin 65536) (⟨(y 1).val, hy.2⟩ : Fin 3072) := funext fun a => by
    match a with
    | ⟨0, _⟩ => rfl
    | ⟨1, _⟩ => rfl
  rw [← e]
  exact Cert.DiffFinite.proj_real _ _ _ h0 y

theorem equal : Cert.algebraic_DiffIdeal_DiffRefIdeal_pre_finite_args := by
  pair_intro
  · run_from Cert.DiffIdeal.Value.run_blocks m g
  · run_from Cert.DiffRefIdeal.Value.run m' g'
    rw [Cert.DiffRefIdeal.Read.val_main_v72_eq, (hagree c).1, (hagree c).2.1, (hagree c).2.2]
    exact (result m hpre c).symm

end Cert.DiffClaims

end
-- ==== Proof.Experts.Setup.lean ====
/-
  The launch of the experts' kernel: its host lines, its tables, the blocks its windows stage.
-/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.ExpertsIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The lines of the host before the call, one stretch after another. -/
abbrev lines : List (List (HloOp τ sig (Elt F))) := [hostOps0, hostOps0_1, hostOps0_2]

/-- What a buffer holds when the call starts: the launch memory after the host's lines. -/
abbrev V (c : Dev nD) (b : Ref sig .tc) : Buf (Elt F) ((c : Thread nD τ).loc b) :=
  StableHlo.after (hostOps0 ++ (hostOps0_1 ++ (hostOps0_2 ++ []))) (fun b => m (c, b)) b

set_option maxHeartbeats 800000 in
/-- The program is its host lines and then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main lines ⟨hostOps0_sub, hostOps0_1_sub, hostOps0_2_sub⟩
    (by repeat' constructor) fun c => main_chain c

theorem V_arg0 (c : Dev nD) : V m c main_arg0 = m ((c : Thread nD τ).loc main_arg0) := by
  simp only [V, hostOps0, hostOps0_1, hostOps0_2, List.cons_append, List.nil_append, List.append_nil]
  after_results
  try rfl
theorem V_arg1 (c : Dev nD) : V m c main_arg1 = m ((c : Thread nD τ).loc main_arg1) := by
  simp only [V, hostOps0, hostOps0_1, hostOps0_2, List.cons_append, List.nil_append, List.append_nil]
  after_results
  try rfl
theorem V_arg2 (c : Dev nD) : V m c main_arg2 = m ((c : Thread nD τ).loc main_arg2) := by
  simp only [V, hostOps0, hostOps0_1, hostOps0_2, List.cons_append, List.nil_append, List.append_nil]
  after_results
  try rfl
theorem V_arg3 (c : Dev nD) : V m c main_arg3 = m ((c : Thread nD τ).loc main_arg3) := by
  simp only [V, hostOps0, hostOps0_1, hostOps0_2, List.cons_append, List.nil_append, List.append_nil]
  after_results
  try rfl
theorem V_arg4 (c : Dev nD) : V m c main_arg4 = m ((c : Thread nD τ).loc main_arg4) := by
  simp only [V, hostOps0, hostOps0_1, hostOps0_2, List.cons_append, List.nil_append, List.append_nil]
  after_results
  try rfl
theorem V_arg5 (c : Dev nD) : V m c main_arg5 = m ((c : Thread nD τ).loc main_arg5) := by
  simp only [V, hostOps0, hostOps0_1, hostOps0_2, List.cons_append, List.nil_append, List.append_nil]
  after_results
  try rfl
theorem V_arg6 (c : Dev nD) : V m c main_arg6 = m ((c : Thread nD τ).loc main_arg6) := by
  simp only [V, hostOps0, hostOps0_1, hostOps0_2, List.cons_append, List.nil_append, List.append_nil]
  after_results
  try rfl

/-- The tables as the call finds them; there is one device. -/
def tbl : pre0.Contents (Elt F) := fun j => V m (0 : Dev nD) (pre0.ref j)

theorem V_pre (c : Dev nD) (j : Fin 2) : V m c (pre0.ref j) = tbl m j := by
  obtain rfl : c = 0 := Subsingleton.elim _ _
  rfl

/-- Every block a table sends a window to lies inside its array. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

/-- The two tables as the body is handed them. -/
abbrev tbM0 : Memref sig .tc .smem S544 .i32 := Memref.whole main_arg0
abbrev htbM0 : tbM0.IsWhole := Memref.isWhole_whole _
abbrev tbM1 : Memref sig .tc .smem S1 .i32 := Memref.whole main_arg1
abbrev htbM1 : tbM1.IsWhole := Memref.isWhole_whole _

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The tables' halves the call hands the body, one by one. -/
theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block of window `w` at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! An input's buffer holds its block at every point, for any data whose arrays are those found and whose body leaves it. -/

theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! The buffers of the windows at a point. -/

abbrev ms0 (hO : Ok m) (t : Fin (cfgM m hO).N) : Memref sig .tc .vmem S4096x128 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S256x256 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1024x2048 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x1024 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x1024x1024 .f32 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x1x1024 .f32 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S4608x128 .f32 := spec0_7.stage ((cfgM m hO).slots t 7)
abbrev hs7 (hO : Ok m) (t : Fin (cfgM m hO).N) : (ms7 m hO t).IsWhole := hstage0_7 (((cfgM m hO).slots t 7).cast nbuf0_7)

/-! The buffers the kernel keeps the prepared weights in. -/

abbrev sc0 : Memref sig .tc .vmem S1024x1024 .bf16 := Memref.whole cc0_scratch0
abbrev sc1 : Memref sig .tc .vmem S1024x1024 .bf16 := Memref.whole cc0_scratch1
abbrev sc2 : Memref sig .tc .vmem S1024x1024 .bf16 := Memref.whole cc0_scratch2

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The result's block moves at every point, so it is written back at every point. -/
theorem flush7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- The body at point `t`, on what the call passes it. -/
abbrev bodyAt (a : (pcfg0 (F := F)).Adm) (t : Fin (cfg0 a).N) : Prog (TpuEff nD τ sig (Elt F) Λ₀ .tc) PUnit :=
  cc0_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

end Cert.ExpertsIdeal.Launched

end
-- ==== Proof.Experts.Body.lean ====
/-
  What the body of the experts' kernel computes at a point, as functions of the blocks it is handed.
-/
module

public import proofs.«01_k».proof.Proof.Experts.Setup
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.WholeRead
public import Idealize.ShloMosaic.Lib.Pointwise.Index

@[expose] public section

set_option maxRecDepth 16384

noncomputable section

namespace Cert.ExpertsIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

/-- The 256 columns of an expert's first weights from column `o` on. -/
def chunk (x : Vec F S1x1024x2048 .f32) (o : ℕ) : Vec F S1x1024x256 .f32 :=
  fun z => x (ix3 (0 : Fin 1) (⟨(z 1).val, (z 1).isLt⟩ : Fin 1024) (⟨(o + (z 2).val) % 2048, Nat.mod_lt _ (by decide)⟩ : Fin 2048))

/-- The prepared first weights, gate half: each group of 256 columns times the permutation gives 128 of its columns. -/
def wgOf (x1 : Vec F S256x256 .bf16) (x2 : Vec F S1x1024x2048 .f32) : Vec F S1024x1024 .bf16 :=
  fun y => k0_pay10 (chunk x2 (256 * ((y 1).val / 128))) x1
    (ix2 (⟨(y 0).val, (y 0).isLt⟩ : Fin 1024) (⟨(y 1).val % 128, Nat.mod_lt _ (by decide)⟩ : Fin 128))

/-- The prepared first weights, linear half. -/
def wlOf (x1 : Vec F S256x256 .bf16) (x2 : Vec F S1x1024x2048 .f32) : Vec F S1024x1024 .bf16 :=
  fun y => k0_pay11 (chunk x2 (256 * ((y 1).val / 128))) x1
    (ix2 (⟨(y 0).val, (y 0).isLt⟩ : Fin 1024) (⟨(y 1).val % 128, Nat.mod_lt _ (by decide)⟩ : Fin 128))

/-- Every eighth line of the block of rows from line `r` on: columns `128 r` to `128 r + 127` of the 512 rows. -/
def rows (x : Vec F S4096x128 .f32) (r : ℕ) : Vec F S512x128 .f32 :=
  fun z => x (ix2 (⟨(r + 8 * (z 0).val) % 4096, Nat.mod_lt _ (by decide)⟩ : Fin 4096) (⟨(z 1).val, (z 1).isLt⟩ : Fin 128))

/-- The gate's values before the gate. -/
def gluOf (x0 : Vec F S4096x128 .f32) (wg : Vec F S1024x1024 .bf16) (x3 : Vec F S1x1x1024 .f32) : FVec F S512x1024 .f32 :=
  k0_pay30 (rows x0 0) (rows x0 1) (rows x0 2) (rows x0 3) (rows x0 4) (rows x0 5) (rows x0 6) (rows x0 7) wg x3

/-- The linear values. -/
def linOf (x0 : Vec F S4096x128 .f32) (wl : Vec F S1024x1024 .bf16) (x4 : Vec F S1x1x1024 .f32) : FVec F S512x1024 .f32 :=
  k0_pay31 (rows x0 0) (rows x0 1) (rows x0 2) (rows x0 3) (rows x0 4) (rows x0 5) (rows x0 6) (rows x0 7) wl x4

/-- The expert's output of the 512 rows. -/
def outOf (x0 : Vec F S4096x128 .f32) (x3 x4 x6 : Vec F S1x1x1024 .f32) (wg wl w2 : Vec F S1024x1024 .bf16) : FVec F S512x1024 .f32 :=
  k0_pay32 (gluOf x0 wg x3) (linOf x0 wl x4) (FloatOps.ofBits .f32 0x3FD9DB23#32) w2 x6

/-- The block of the result: nine lines to a row, the row's eight tiles of 128 columns and a line of zeros. -/
def yOf (x0 : Vec F S4096x128 .f32) (x3 x4 x6 : Vec F S1x1x1024 .f32) (wg wl w2 : Vec F S1024x1024 .bf16) : Vec F S4608x128 .f32 :=
  fun y => if (y 0).val % 9 = 8 then k0_pay7 (F := F) (ix2 (0 : Fin 512) (0 : Fin 128))
    else outOf x0 x3 x4 x6 wg wl w2 (ix2 (⟨(y 0).val / 9 % 512, Nat.mod_lt _ (by decide)⟩ : Fin 512)
      (⟨(128 * ((y 0).val % 9) + (y 1).val) % 1024, Nat.mod_lt _ (by decide)⟩ : Fin 1024))

/-! The words the body reads of the tables: the tile's expert, the expert of the tile before, the number of used tiles. -/

abbrev nvW (c : Dev nD) (xt1 : TbBuf (F := F) c tbM1) : BitVec 32 :=
  View.readAt (Elt F) tbM1.view (Rect.unit (s := S1) ![0] ![1] inb_S1_S1_0).toLoadRect xt1 (Shape.Idx.first (by decide))
abbrev teW (c : Dev nD) (i : grid0.Coords) (xt0 : TbBuf (F := F) c tbM0) : BitVec 32 :=
  View.readAt (Elt F) tbM0.view (Rect.unit (s := S544) (k0_off1 i) ![1] (k0_off1_inb i)).toLoadRect xt0 (Shape.Idx.first (by show 0 < Shape.numel ⟨1, ![1]⟩; decide))
abbrev tpW (c : Dev nD) (i : grid0.Coords) (xt0 : TbBuf (F := F) c tbM0) : BitVec 32 :=
  View.readAt (Elt F) tbM0.view (Rect.unit (s := S544) (k0_off2 i) ![1] (k0_off2_inb i)).toLoadRect xt0 (Shape.Idx.first (by show 0 < Shape.numel ⟨1, ![1]⟩; decide))

/-- Whether the body prepares the weights: the tile is used, and it is the first or its expert is not that of the tile before. -/
def prepares (i : grid0.Coords) (n a b : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne a b)))) 0#32

/-! A load from a buffer at known contents, for the loads the body does. -/

theorem load_chunk (a : Memref sig .tc .vmem S1x1024x2048 .f32) (h : a.IsWhole) (x : Vec F S1x1024x2048 .f32) (o : ℕ) (ho : o + 256 ≤ 2048)
    (inb : ∀ b, (![0, 0, o] : Fin 3 → ℕ) b + (![1, 1024, 256] : Fin 3 → ℕ) b ≤ S1x1024x2048.size b) :
    View.readAt (Elt F) a.view (Rect.unit (s := S1x1024x2048) ![0, 0, o] ![1, 1024, 256] inb).toLoadRect (h.unread x) = chunk x o := by
  funext z
  rw [h.readAt_unread]
  refine congrArg x (funext fun b => Fin.ext ?_)
  have h2 : (z 2).val < 256 := (z 2).isLt
  match b with
  | ⟨0, _⟩ => show 0 + 1 * (z 0).val = 0; have : (z 0).val < 1 := (z 0).isLt; omega
  | ⟨1, _⟩ => show 0 + 1 * (z 1).val = (z 1).val; omega
  | ⟨2, _⟩ => show o + 1 * (z 2).val = (o + (z 2).val) % 2048; rw [Nat.mod_eq_of_lt (by omega)]; omega

theorem load_rows (a : Memref sig .tc .vmem S4096x128 .f32) (h : a.IsWhole) (x : Vec F S4096x128 .f32) (r : ℕ) (hr : r < 8)
    (inb') :
    View.readAt (Elt F) a.view (⟨![r, 0], S512x128.size, ![8, 1], inb'⟩ : LoadRect S4096x128) (h.unread x) = rows x r := by
  funext z
  rw [h.readAt_unread]
  refine congrArg x (funext fun b => Fin.ext ?_)
  have h0 : (z 0).val < 512 := (z 0).isLt
  match b with
  | ⟨0, _⟩ => show r + 8 * (z 0).val = (r + 8 * (z 0).val) % 4096; rw [Nat.mod_eq_of_lt (by omega)]
  | ⟨1, _⟩ => show 0 + 1 * (z 1).val = (z 1).val; omega

/-- A group of columns of the prepared weights is the product of that group. -/
theorem wgOf_tile (x1 : Vec F S256x256 .bf16) (x2 : Vec F S1x1024x2048 .f32) (k : ℕ)
    (inb : ∀ a, (![0, 128 * k] : Fin 2 → ℕ) a + (![1024, 128] : Fin 2 → ℕ) a ≤ S1024x1024.size a) (x) :
    k0_pay10 (chunk x2 (256 * k)) x1 x = wgOf x1 x2 ((Rect.unit (s := S1024x1024) ![0, 128 * k] ![1024, 128] inb).emb x) := by
  have h1 : (x 1).val < 128 := (x 1).isLt
  have e0 : (((Rect.unit (s := S1024x1024) ![0, 128 * k] ![1024, 128] inb).emb x) 0).val = (x 0).val := by show 0 + 1 * (x 0).val = _; omega
  have e1 : (((Rect.unit (s := S1024x1024) ![0, 128 * k] ![1024, 128] inb).emb x) 1).val = 128 * k + (x 1).val := by show 128 * k + 1 * (x 1).val = _; omega
  have ek : (((Rect.unit (s := S1024x1024) ![0, 128 * k] ![1024, 128] inb).emb x) 1).val / 128 = k := by rw [e1]; omega
  unfold wgOf
  rw [ek]
  refine congrArg _ (funext fun b => Fin.ext ?_)
  match b with
  | ⟨0, _⟩ => exact e0.symm
  | ⟨1, _⟩ => show (x 1).val = (((Rect.unit (s := S1024x1024) ![0, 128 * k] ![1024, 128] inb).emb x) 1).val % 128; rw [e1]; omega

theorem wlOf_tile (x1 : Vec F S256x256 .bf16) (x2 : Vec F S1x1024x2048 .f32) (k : ℕ)
    (inb : ∀ a, (![0, 128 * k] : Fin 2 → ℕ) a + (![1024, 128] : Fin 2 → ℕ) a ≤ S1024x1024.size a) (x) :
    k0_pay11 (chunk x2 (256 * k)) x1 x = wlOf x1 x2 ((Rect.unit (s := S1024x1024) ![0, 128 * k] ![1024, 128] inb).emb x) := by
  have h1 : (x 1).val < 128 := (x 1).isLt
  have e0 : (((Rect.unit (s := S1024x1024) ![0, 128 * k] ![1024, 128] inb).emb x) 0).val = (x 0).val := by show 0 + 1 * (x 0).val = _; omega
  have e1 : (((Rect.unit (s := S1024x1024) ![0, 128 * k] ![1024, 128] inb).emb x) 1).val = 128 * k + (x 1).val := by show 128 * k + 1 * (x 1).val = _; omega
  have ek : (((Rect.unit (s := S1024x1024) ![0, 128 * k] ![1024, 128] inb).emb x) 1).val / 128 = k := by rw [e1]; omega
  unfold wlOf
  rw [ek]
  refine congrArg _ (funext fun b => Fin.ext ?_)
  match b with
  | ⟨0, _⟩ => exact e0.symm
  | ⟨1, _⟩ => show (x 1).val = (((Rect.unit (s := S1024x1024) ![0, 128 * k] ![1024, 128] inb).emb x) 1).val % 128; rw [e1]; omega

/-- Line `k` of the nine of each row holds tile `k` of the row's output. -/
theorem yOf_tile (x0 : Vec F S4096x128 .f32) (x3 x4 x6 : Vec F S1x1x1024 .f32) (wg wl w2 : Vec F S1024x1024 .bf16) (k : ℕ) (hk : k < 8)
    (inb pos) (hs : S512x1024.Slices ![0, 128 * k] S512x128) (x : S512x128.Idx) :
    extractStridedSlice S512x128 ![0, 128 * k] (outOf x0 x3 x4 x6 wg wl w2) hs x
      = yOf x0 x3 x4 x6 wg wl w2 ((⟨(⟨![k, 0], S512x128.size, ![9, 1], inb⟩ : LoadRect S4608x128), pos⟩ : Rect S4608x128).emb x) := by
  have h0 : (x 0).val < 512 := (x 0).isLt
  have h1 : (x 1).val < 128 := (x 1).isLt
  have e0 : (((⟨(⟨![k, 0], S512x128.size, ![9, 1], inb⟩ : LoadRect S4608x128), pos⟩ : Rect S4608x128).emb x) 0).val = k + 9 * (x 0).val := rfl
  have e1 : (((⟨(⟨![k, 0], S512x128.size, ![9, 1], inb⟩ : LoadRect S4608x128), pos⟩ : Rect S4608x128).emb x) 1).val = (x 1).val := by show 0 + 1 * (x 1).val = _; omega
  unfold yOf
  rw [if_neg (by rw [e0]; omega)]
  show outOf x0 x3 x4 x6 wg wl w2 _ = _
  refine congrArg _ (funext fun b => Fin.ext ?_)
  match b with
  | ⟨0, _⟩ =>
    show 0 + (x 0).val = (((⟨(⟨![k, 0], S512x128.size, ![9, 1], inb⟩ : LoadRect S4608x128), pos⟩ : Rect S4608x128).emb x) 0).val / 9 % 512
    rw [e0]; omega
  | ⟨1, _⟩ =>
    show 128 * k + (x 1).val = (128 * ((((⟨(⟨![k, 0], S512x128.size, ![9, 1], inb⟩ : LoadRect S4608x128), pos⟩ : Rect S4608x128).emb x) 0).val % 9)
      + (((⟨(⟨![k, 0], S512x128.size, ![9, 1], inb⟩ : LoadRect S4608x128), pos⟩ : Rect S4608x128).emb x) 1).val) % 1024
    rw [e0, e1]; omega

theorem yOf_zeros (x0 : Vec F S4096x128 .f32) (x3 x4 x6 : Vec F S1x1x1024 .f32) (wg wl w2 : Vec F S1024x1024 .bf16)
    (inb pos) (x : S512x128.Idx) :
    k0_pay7 (F := F) x
      = yOf x0 x3 x4 x6 wg wl w2 ((⟨(⟨![8, 0], S512x128.size, ![9, 1], inb⟩ : LoadRect S4608x128), pos⟩ : Rect S4608x128).emb x) := by
  have e0 : (((⟨(⟨![8, 0], S512x128.size, ![9, 1], inb⟩ : LoadRect S4608x128), pos⟩ : Rect S4608x128).emb x) 0).val = 8 + 9 * (x 0).val := rfl
  unfold yOf
  rw [if_pos (by rw [e0]; omega)]
  rfl

end Cert.ExpertsIdeal.Launched

end
-- ==== Proof.Experts.Run.lean ====
/-
  The body of the experts' kernel runs: from blocks and prepared weights at given contents to the contents it leaves.
-/
module

public import proofs.«01_k».proof.Proof.Experts.Body
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.VecWindow
public import Mathlib.Tactic.IntervalCases

@[expose] public section

set_option maxRecDepth 16384

noncomputable section

namespace Cert.ExpertsIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

/-- A tile is used or it is not: the body does one of its two writes of the result. -/
theorem not_cond3 (i : grid0.Coords) (v : BitVec 32) (h : k0_cond2 i v = 1#1) : ¬ k0_cond3 i v = 1#1 := by
  have key : ∀ b : BitVec 1, Scalar.cmpi .ne (Scalar.extui b : BitVec 32) 0#32 = 1#1 →
      ¬ Scalar.cmpi .ne (Scalar.extui (Scalar.xori b 1#1) : BitVec 32) 0#32 = 1#1 := by decide
  exact key _ h

theorem cond3 (i : grid0.Coords) (v : BitVec 32) (h : ¬ k0_cond2 i v = 1#1) : k0_cond3 i v = 1#1 := by
  have key : ∀ b : BitVec 1, ¬ Scalar.cmpi .ne (Scalar.extui b : BitVec 32) 0#32 = 1#1 →
      Scalar.cmpi .ne (Scalar.extui (Scalar.xori b 1#1) : BitVec 32) 0#32 = 1#1 := by decide
  exact key _ h

/-- The nine lines of every row are the whole block. -/
theorem nine_cover (p0 p1 p2 p3 p4 p5 p6 p7 p8 : S512x128.Idx → Elt F .f32) (y : S4608x128.Idx) :
    ∃ p ∈ ([⟨⟨⟨![8, 0], S512x128.size, ![9, 1], inb_S4608x128_S512x128_8_0_s_9_1⟩, spos_9_1⟩, p8⟩,
      ⟨⟨⟨![7, 0], S512x128.size, ![9, 1], inb_S4608x128_S512x128_7_0_s_9_1⟩, spos_9_1⟩, p7⟩,
      ⟨⟨⟨![6, 0], S512x128.size, ![9, 1], inb_S4608x128_S512x128_6_0_s_9_1⟩, spos_9_1⟩, p6⟩,
      ⟨⟨⟨![5, 0], S512x128.size, ![9, 1], inb_S4608x128_S512x128_5_0_s_9_1⟩, spos_9_1⟩, p5⟩,
      ⟨⟨⟨![4, 0], S512x128.size, ![9, 1], inb_S4608x128_S512x128_4_0_s_9_1⟩, spos_9_1⟩, p4⟩,
      ⟨⟨⟨![3, 0], S512x128.size, ![9, 1], inb_S4608x128_S512x128_3_0_s_9_1⟩, spos_9_1⟩, p3⟩,
      ⟨⟨⟨![2, 0], S512x128.size, ![9, 1], inb_S4608x128_S512x128_2_0_s_9_1⟩, spos_9_1⟩, p2⟩,
      ⟨⟨⟨![1, 0], S512x128.size, ![9, 1], inb_S4608x128_S512x128_1_0_s_9_1⟩, spos_9_1⟩, p1⟩,
      ⟨⟨⟨![0, 0], S512x128.size, ![9, 1], inb_S4608x128_S512x128_0_0_s_9_1⟩, spos_9_1⟩, p0⟩] : List (View.Piece (Elt F) S4608x128 .f32)), y ∈ p.1.set := by
  have h0 : (y 0).val < 4608 := (y 0).isLt
  have h1 : (y 1).val < 128 := (y 1).isLt
  have key : ∀ (k : ℕ) (inb pos), (y 0).val % 9 = k →
      y ∈ (⟨(⟨![k, 0], S512x128.size, ![9, 1], inb⟩ : LoadRect S4608x128), pos⟩ : Rect S4608x128).set := by
    intro k inb pos hk
    rw [LoadRect.mem_set]
    intro a
    match a with
    | ⟨0, _⟩ => exact ⟨(y 0).val / 9, by show (y 0).val / 9 < 512; omega, by show (y 0).val = k + 9 * ((y 0).val / 9); omega⟩
    | ⟨1, _⟩ => exact ⟨(y 1).val, h1, by show (y 1).val = 0 + 1 * (y 1).val; omega⟩
  have h9 : (y 0).val % 9 < 9 := Nat.mod_lt _ (by decide)
  generalize hr : (y 0).val % 9 = r at h9
  interval_cases r
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), key 0 _ _ hr⟩
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), key 1 _ _ hr⟩
  · exact ⟨_, List.mem_cons_of_mem _ (List.mem_cons_of_mem _ (List.mem_cons_of_mem _ (List.mem_cons_of_mem _ (List.mem_cons_of_mem _ (List.mem_cons_of_mem _ List.mem_cons_self))))), key 2 _ _ hr⟩
  · exact ⟨_, List.mem_cons_of_mem _ (List.mem_cons_of_mem _ (List.mem_cons_of_mem _ (List.mem_cons_of_mem _ (List.mem_cons_of_mem _ List.mem_cons_self)))), key 3 _ _ hr⟩
  · exact ⟨_, List.mem_cons_of_mem _ (List.mem_cons_of_mem _ (List.mem_cons_of_mem _ (List.mem_cons_of_mem _ List.mem_cons_self))), key 4 _ _ hr⟩
  · exact ⟨_, List.mem_cons_of_mem _ (List.mem_cons_of_mem _ (List.mem_cons_of_mem _ List.mem_cons_self)), key 5 _ _ hr⟩
  · exact ⟨_, List.mem_cons_of_mem _ (List.mem_cons_of_mem _ List.mem_cons_self), key 6 _ _ hr⟩
  · exact ⟨_, List.mem_cons_of_mem _ List.mem_cons_self, key 7 _ _ hr⟩
  · exact ⟨_, List.mem_cons_self, key 8 _ _ hr⟩

set_option maxHeartbeats 1000000 in
/-- From the blocks, the weights prepared so far and the tables: the weights are prepared anew where the tile needs it, the
    result's block is the expert's output of the tile's rows for a used tile and zeros for another. -/
theorem kernelRun (c : Dev nD) (i : grid0.Coords) (arg3 : Memref sig .tc .vmem S4096x128 .f32) (harg3 : arg3.IsWhole) (arg4 : Memref sig .tc .vmem S256x256 .bf16) (harg4 : arg4.IsWhole) (arg5 : Memref sig .tc .vmem S1x1024x2048 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S4608x128 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S4096x128 .f32) (x1 : Vec F S256x256 .bf16) (x2 : Vec F S1x1024x2048 .f32) (x3 : Vec F S1x1x1024 .f32) (x4 : Vec F S1x1x1024 .f32) (x5 : Vec F S1x1024x1024 .f32) (x6 : Vec F S1x1x1024 .f32) (s0 s1 s2 : Vec F S1024x1024 .bf16) (xt0 : TbBuf (F := F) c tbM0) (xt1 : TbBuf (F := F) c tbM1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare s0 ∗ owns (c : Thread nD τ) arg12 fullShare s1 ∗ owns (c : Thread nD τ) arg13 fullShare s2 ∗ tbPt c tbM0 xt0 ∗ tbPt c tbM1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (if k0_cond2 i (nvW c xt1) = 1#1 then yOf x0 x3 x4 x6 (if prepares i (nvW c xt1) (teW c i xt0) (tpW c i xt0) = 1#1 then wgOf x1 x2 else s0) (if prepares i (nvW c xt1) (teW c i xt0) (tpW c i xt0) = 1#1 then wlOf x1 x2 else s1) (if prepares i (nvW c xt1) (teW c i xt0) (tpW c i xt0) = 1#1 then k0_pay6 x5 else s2) else k0_pay8) ∗ owns (c : Thread nD τ) arg11 fullShare (if prepares i (nvW c xt1) (teW c i xt0) (tpW c i xt0) = 1#1 then wgOf x1 x2 else s0) ∗ owns (c : Thread nD τ) arg12 fullShare (if prepares i (nvW c xt1) (teW c i xt0) (tpW c i xt0) = 1#1 then wlOf x1 x2 else s1) ∗ owns (c : Thread nD τ) arg13 fullShare (if prepares i (nvW c xt1) (teW c i xt0) (tpW c i xt0) = 1#1 then k0_pay6 x5 else s2) ∗ tbPt c tbM0 xt0 ∗ tbPt c tbM1 xt1) -∗ K ⟨⟩))
          ⊢ wp frame (wpE (defs₀ (F := F)) Variants.none c none) E (cc0_experts i tbM0 htbM0 tbM1 htbM1 arg3 harg3 arg4 harg4 arg5 harg5 arg6 harg6 arg7 harg7 arg8 harg8 arg9 harg9 arg10 harg10 arg11 harg11 arg12 harg12 arg13 harg13) K := by
    intro E K
    simp only [cc0_experts_eq_skeleton]; unfold cc0_experts_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hs0, HS0⟩, ⟨%fs1, %hs1, HS1⟩, ⟨%fs2, %hs2, HS2⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec
    sl_step
    have hx1 : View.readAt (Elt F) arg4.view (Rect.unit (s := S256x256) ![0, 0] S256x256.size inb_S256x256_S256x256_0_0).toLoadRect (harg4.unread x1) = x1 :=
      (View.readAt_full _ _ _).trans hf1
    have hV29 : kernelRun.sl.v29 c i arg4 harg4 arg5 harg5 arg11 x1 x2 xt0 xt1 fs0 = (if prepares i (nvW c xt1) (teW c i xt0) (tpW c i xt0) = 1#1 then wgOf x1 x2 else s0) := by
      refine (View.readAt_full _ _ _).trans ?_
      by_cases hc : prepares i (nvW c xt1) (teW c i xt0) (tpW c i xt0) = 1#1
      · rw [if_pos hc]
        refine (congrArg (arg11.view.read (Elt F)) (dif_pos hc)).trans (funext fun y => ?_)
        refine View.read_writes_apply_of_pieces _ _ (wgOf x1 x2) _ ?_ y (View.cover_of_tiled _ ![1024, 128] (by rfl) y)
        intro p hp x
        simp only [List.mem_cons, List.not_mem_nil, _root_.or_false] at hp
        rcases hp with rfl | rfl | rfl | rfl | rfl | rfl | rfl | rfl
        · exact (congrFun (congrArg₂ k0_pay10 (load_chunk arg5 harg5 x2 (256 * 7) (by decide) inb_S1x1024x2048_S1x1024x256_0_0_1792) hx1) x).trans (wgOf_tile x1 x2 7 inb_S1024x1024_S1024x128_0_896 x)
        · exact (congrFun (congrArg₂ k0_pay10 (load_chunk arg5 harg5 x2 (256 * 6) (by decide) inb_S1x1024x2048_S1x1024x256_0_0_1536) hx1) x).trans (wgOf_tile x1 x2 6 inb_S1024x1024_S1024x128_0_768 x)
        · exact (congrFun (congrArg₂ k0_pay10 (load_chunk arg5 harg5 x2 (256 * 5) (by decide) inb_S1x1024x2048_S1x1024x256_0_0_1280) hx1) x).trans (wgOf_tile x1 x2 5 inb_S1024x1024_S1024x128_0_640 x)
        · exact (congrFun (congrArg₂ k0_pay10 (load_chunk arg5 harg5 x2 (256 * 4) (by decide) inb_S1x1024x2048_S1x1024x256_0_0_1024) hx1) x).trans (wgOf_tile x1 x2 4 inb_S1024x1024_S1024x128_0_512 x)
        · exact (congrFun (congrArg₂ k0_pay10 (load_chunk arg5 harg5 x2 (256 * 3) (by decide) inb_S1x1024x2048_S1x1024x256_0_0_768) hx1) x).trans (wgOf_tile x1 x2 3 inb_S1024x1024_S1024x128_0_384 x)
        · exact (congrFun (congrArg₂ k0_pay10 (load_chunk arg5 harg5 x2 (256 * 2) (by decide) inb_S1x1024x2048_S1x1024x256_0_0_512) hx1) x).trans (wgOf_tile x1 x2 2 inb_S1024x1024_S1024x128_0_256 x)
        · exact (congrFun (congrArg₂ k0_pay10 (load_chunk arg5 harg5 x2 (256 * 1) (by decide) inb_S1x1024x2048_S1x1024x256_0_0_256) hx1) x).trans (wgOf_tile x1 x2 1 inb_S1024x1024_S1024x128_0_128 x)
        · exact (congrFun (congrArg₂ k0_pay10 (load_chunk arg5 harg5 x2 (256 * 0) (by decide) inb_S1x1024x2048_S1x1024x256_0_0_0) hx1) x).trans (wgOf_tile x1 x2 0 inb_S1024x1024_S1024x128_0_0 x)
      · rw [if_neg hc]
        exact (congrArg (arg11.view.read (Elt F)) (dif_neg hc)).trans hs0
    have hV37 : kernelRun.sl.v37 c i arg4 harg4 arg5 harg5 arg12 x1 x2 xt0 xt1 fs1 = (if prepares i (nvW c xt1) (teW c i xt0) (tpW c i xt0) = 1#1 then wlOf x1 x2 else s1) := by
      refine (View.readAt_full _ _ _).trans ?_
      by_cases hc : prepares i (nvW c xt1) (teW c i xt0) (tpW c i xt0) = 1#1
      · rw [if_pos hc]
        refine (congrArg (arg12.view.read (Elt F)) (dif_pos hc)).trans (funext fun y => ?_)
        refine View.read_writes_apply_of_pieces _ _ (wlOf x1 x2) _ ?_ y (View.cover_of_tiled _ ![1024, 128] (by rfl) y)
        intro p hp x
        simp only [List.mem_cons, List.not_mem_nil, _root_.or_false] at hp
        rcases hp with rfl | rfl | rfl | rfl | rfl | rfl | rfl | rfl
        · exact (congrFun (congrArg₂ k0_pay11 (load_chunk arg5 harg5 x2 (256 * 7) (by decide) inb_S1x1024x2048_S1x1024x256_0_0_1792) hx1) x).trans (wlOf_tile x1 x2 7 inb_S1024x1024_S1024x128_0_896 x)
        · exact (congrFun (congrArg₂ k0_pay11 (load_chunk arg5 harg5 x2 (256 * 6) (by decide) inb_S1x1024x2048_S1x1024x256_0_0_1536) hx1) x).trans (wlOf_tile x1 x2 6 inb_S1024x1024_S1024x128_0_768 x)
        · exact (congrFun (congrArg₂ k0_pay11 (load_chunk arg5 harg5 x2 (256 * 5) (by decide) inb_S1x1024x2048_S1x1024x256_0_0_1280) hx1) x).trans (wlOf_tile x1 x2 5 inb_S1024x1024_S1024x128_0_640 x)
        · exact (congrFun (congrArg₂ k0_pay11 (load_chunk arg5 harg5 x2 (256 * 4) (by decide) inb_S1x1024x2048_S1x1024x256_0_0_1024) hx1) x).trans (wlOf_tile x1 x2 4 inb_S1024x1024_S1024x128_0_512 x)
        · exact (congrFun (congrArg₂ k0_pay11 (load_chunk arg5 harg5 x2 (256 * 3) (by decide) inb_S1x1024x2048_S1x1024x256_0_0_768) hx1) x).trans (wlOf_tile x1 x2 3 inb_S1024x1024_S1024x128_0_384 x)
        · exact (congrFun (congrArg₂ k0_pay11 (load_chunk arg5 harg5 x2 (256 * 2) (by decide) inb_S1x1024x2048_S1x1024x256_0_0_512) hx1) x).trans (wlOf_tile x1 x2 2 inb_S1024x1024_S1024x128_0_256 x)
        · exact (congrFun (congrArg₂ k0_pay11 (load_chunk arg5 harg5 x2 (256 * 1) (by decide) inb_S1x1024x2048_S1x1024x256_0_0_256) hx1) x).trans (wlOf_tile x1 x2 1 inb_S1024x1024_S1024x128_0_128 x)
        · exact (congrFun (congrArg₂ k0_pay11 (load_chunk arg5 harg5 x2 (256 * 0) (by decide) inb_S1x1024x2048_S1x1024x256_0_0_0) hx1) x).trans (wlOf_tile x1 x2 0 inb_S1024x1024_S1024x128_0_0 x)
      · rw [if_neg hc]
        exact (congrArg (arg12.view.read (Elt F)) (dif_neg hc)).trans hs1
    have hV55 : kernelRun.sl.v55 c i arg8 harg8 arg13 x5 xt0 xt1 fs2 = (if prepares i (nvW c xt1) (teW c i xt0) (tpW c i xt0) = 1#1 then k0_pay6 x5 else s2) := by
      refine (View.readAt_full _ _ _).trans ?_
      by_cases hc : prepares i (nvW c xt1) (teW c i xt0) (tpW c i xt0) = 1#1
      · rw [if_pos hc]
        refine (congrArg (arg13.view.read (Elt F)) (dif_pos hc)).trans (funext fun y => ?_)
        refine View.read_writes_apply_of_pieces (Val := Elt F) (e := .bf16) _ _ (k0_pay6 x5) _ ?_ y (View.cover_of_tiled _ ![1024, 1024] (by rfl) y)
        intro p hp x
        simp only [List.mem_cons, List.not_mem_nil, _root_.or_false] at hp
        subst hp
        refine (congrFun (congrArg k0_pay6 ((View.readAt_full _ _ _).trans hf5)) x).trans (congrArg (k0_pay6 x5) (funext fun b => Fin.ext ?_))
        match b with
        | ⟨0, _⟩ => show (x 0).val = 0 + 1 * (x 0).val; omega
        | ⟨1, _⟩ => show (x 1).val = 0 + 1 * (x 1).val; omega
      · rw [if_neg hc]
        exact (congrArg (arg13.view.read (Elt F)) (dif_neg hc)).trans hs2
    have hr0 : View.readAt (Elt F) arg3.view (⟨![0, 0], S512x128.size, ![8, 1], inb_S4096x128_S512x128_0_0_s_8_1⟩ : LoadRect S4096x128) (harg3.unread x0) = rows x0 0 :=
      load_rows arg3 harg3 x0 0 (by decide) _
    have hr1 : View.readAt (Elt F) arg3.view (⟨![1, 0], S512x128.size, ![8, 1], inb_S4096x128_S512x128_1_0_s_8_1⟩ : LoadRect S4096x128) (harg3.unread x0) = rows x0 1 :=
      load_rows arg3 harg3 x0 1 (by decide) _
    have hr2 : View.readAt (Elt F) arg3.view (⟨![2, 0], S512x128.size, ![8, 1], inb_S4096x128_S512x128_2_0_s_8_1⟩ : LoadRect S4096x128) (harg3.unread x0) = rows x0 2 :=
      load_rows arg3 harg3 x0 2 (by decide) _
    have hr3 : View.readAt (Elt F) arg3.view (⟨![3, 0], S512x128.size, ![8, 1], inb_S4096x128_S512x128_3_0_s_8_1⟩ : LoadRect S4096x128) (harg3.unread x0) = rows x0 3 :=
      load_rows arg3 harg3 x0 3 (by decide) _
    have hr4 : View.readAt (Elt F) arg3.view (⟨![4, 0], S512x128.size, ![8, 1], inb_S4096x128_S512x128_4_0_s_8_1⟩ : LoadRect S4096x128) (harg3.unread x0) = rows x0 4 :=
      load_rows arg3 harg3 x0 4 (by decide) _
    have hr5 : View.readAt (Elt F) arg3.view (⟨![5, 0], S512x128.size, ![8, 1], inb_S4096x128_S512x128_5_0_s_8_1⟩ : LoadRect S4096x128) (harg3.unread x0) = rows x0 5 :=
      load_rows arg3 harg3 x0 5 (by decide) _
    have hr6 : View.readAt (Elt F) arg3.view (⟨![6, 0], S512x128.size, ![8, 1], inb_S4096x128_S512x128_6_0_s_8_1⟩ : LoadRect S4096x128) (harg3.unread x0) = rows x0 6 :=
      load_rows arg3 harg3 x0 6 (by decide) _
    have hr7 : View.readAt (Elt F) arg3.view (⟨![7, 0], S512x128.size, ![8, 1], inb_S4096x128_S512x128_7_0_s_8_1⟩ : LoadRect S4096x128) (harg3.unread x0) = rows x0 7 :=
      load_rows arg3 harg3 x0 7 (by decide) _
    have hx3 : View.readAt (Elt F) arg6.view (Rect.unit (s := S1x1x1024) ![0, 0, 0] S1x1x1024.size inb_S1x1x1024_S1x1x1024_0_0_0).toLoadRect (harg6.unread x3) = x3 :=
      (View.readAt_full _ _ _).trans hf3
    have hx4 : View.readAt (Elt F) arg7.view (Rect.unit (s := S1x1x1024) ![0, 0, 0] S1x1x1024.size inb_S1x1x1024_S1x1x1024_0_0_0).toLoadRect (harg7.unread x4) = x4 :=
      (View.readAt_full _ _ _).trans hf4
    have hx6 : View.readAt (Elt F) arg9.view (Rect.unit (s := S1x1x1024) ![0, 0, 0] S1x1x1024.size inb_S1x1x1024_S1x1x1024_0_0_0).toLoadRect (harg9.unread x6) = x6 :=
      (View.readAt_full _ _ _).trans hf6
    have hG : kernelRun.sl.r_6 c i arg3 harg3 arg4 harg4 arg5 harg5 arg6 harg6 arg11 x0 x1 x2 x3 xt0 xt1 fs0 = gluOf x0 (if prepares i (nvW c xt1) (teW c i xt0) (tpW c i xt0) = 1#1 then wgOf x1 x2 else s0) x3 := by
      unfold kernelRun.sl.r_6 gluOf
      rw [hr0, hr1, hr2, hr3, hr4, hr5, hr6, hr7, hV29, hx3]
    have hL : kernelRun.sl.r_7 c i arg3 harg3 arg4 harg4 arg5 harg5 arg7 harg7 arg12 x0 x1 x2 x4 xt0 xt1 fs1 = linOf x0 (if prepares i (nvW c xt1) (teW c i xt0) (tpW c i xt0) = 1#1 then wlOf x1 x2 else s1) x4 := by
      unfold kernelRun.sl.r_7 linOf
      rw [hr0, hr1, hr2, hr3, hr4, hr5, hr6, hr7, hV37, hx4]
    have hO : k0_pay32 (kernelRun.sl.r_6 c i arg3 harg3 arg4 harg4 arg5 harg5 arg6 harg6 arg11 x0 x1 x2 x3 xt0 xt1 fs0) (kernelRun.sl.r_7 c i arg3 harg3 arg4 harg4 arg5 harg5 arg7 harg7 arg12 x0 x1 x2 x4 xt0 xt1 fs1) kernelRun.sl.cst_27 (kernelRun.sl.v55 c i arg8 harg8 arg13 x5 xt0 xt1 fs2)
        (View.readAt (Elt F) arg9.view (Rect.unit (s := S1x1x1024) ![0, 0, 0] S1x1x1024.size inb_S1x1x1024_S1x1x1024_0_0_0).toLoadRect (harg9.unread x6))
        = outOf x0 x3 x4 x6 (if prepares i (nvW c xt1) (teW c i xt0) (tpW c i xt0) = 1#1 then wgOf x1 x2 else s0) (if prepares i (nvW c xt1) (teW c i xt0) (tpW c i xt0) = 1#1 then wlOf x1 x2 else s1) (if prepares i (nvW c xt1) (teW c i xt0) (tpW c i xt0) = 1#1 then k0_pay6 x5 else s2) := by
      unfold outOf
      rw [hG, hL, hV55, hx6]
      rfl
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; swap; · iexact H7
      ipureintro
      by_cases h2 : k0_cond2 i (nvW c xt1) = 1#1
      · rw [if_pos h2]
        refine (congrArg (arg10.view.read (Elt F)) ((dif_neg (not_cond3 i _ h2)).trans (dif_pos h2))).trans (funext fun y => ?_)
        refine View.read_writes_apply_of_pieces _ _ (yOf x0 x3 x4 x6 (if prepares i (nvW c xt1) (teW c i xt0) (tpW c i xt0) = 1#1 then wgOf x1 x2 else s0) (if prepares i (nvW c xt1) (teW c i xt0) (tpW c i xt0) = 1#1 then wlOf x1 x2 else s1) (if prepares i (nvW c xt1) (teW c i xt0) (tpW c i xt0) = 1#1 then k0_pay6 x5 else s2)) _ ?_ y (nine_cover _ _ _ _ _ _ _ _ _ y)
        intro p hp x
        simp only [List.mem_cons, List.not_mem_nil, _root_.or_false] at hp
        rcases hp with rfl | rfl | rfl | rfl | rfl | rfl | rfl | rfl | rfl
        · exact yOf_zeros x0 x3 x4 x6 _ _ _ _ _ x
        · exact (congrFun (congrArg (fun z => extractStridedSlice S512x128 ![0, 128 * 7] z slices_S512x1024_o0_896_S512x128) hO) x).trans (yOf_tile x0 x3 x4 x6 _ _ _ 7 (by decide) _ _ _ x)
        · exact (congrFun (congrArg (fun z => extractStridedSlice S512x128 ![0, 128 * 6] z slices_S512x1024_o0_768_S512x128) hO) x).trans (yOf_tile x0 x3 x4 x6 _ _ _ 6 (by decide) _ _ _ x)
        · exact (congrFun (congrArg (fun z => extractStridedSlice S512x128 ![0, 128 * 5] z slices_S512x1024_o0_640_S512x128) hO) x).trans (yOf_tile x0 x3 x4 x6 _ _ _ 5 (by decide) _ _ _ x)
        · exact (congrFun (congrArg (fun z => extractStridedSlice S512x128 ![0, 128 * 4] z slices_S512x1024_o0_512_S512x128) hO) x).trans (yOf_tile x0 x3 x4 x6 _ _ _ 4 (by decide) _ _ _ x)
        · exact (congrFun (congrArg (fun z => extractStridedSlice S512x128 ![0, 128 * 3] z slices_S512x1024_o0_384_S512x128) hO) x).trans (yOf_tile x0 x3 x4 x6 _ _ _ 3 (by decide) _ _ _ x)
        · exact (congrFun (congrArg (fun z => extractStridedSlice S512x128 ![0, 128 * 2] z slices_S512x1024_o0_256_S512x128) hO) x).trans (yOf_tile x0 x3 x4 x6 _ _ _ 2 (by decide) _ _ _ x)
        · exact (congrFun (congrArg (fun z => extractStridedSlice S512x128 ![0, 128 * 1] z slices_S512x1024_o0_128_S512x128) hO) x).trans (yOf_tile x0 x3 x4 x6 _ _ _ 1 (by decide) _ _ _ x)
        · exact (congrFun (congrArg (fun z => extractStridedSlice S512x128 ![0, 128 * 0] z slices_S512x1024_o0_0_S512x128) hO) x).trans (yOf_tile x0 x3 x4 x6 _ _ _ 0 (by decide) _ _ _ x)
      · rw [if_neg h2]
        refine (congrArg (arg10.view.read (Elt F)) (dif_pos (cond3 i _ h2))).trans (funext fun y => ?_)
        refine View.read_writes_apply_of_pieces (Val := Elt F) (e := .f32) _ _ (k0_pay8 (F := F)) _ ?_ y (View.cover_of_tiled _ ![4608, 128] (by rfl) y)
        intro p hp x
        simp only [List.mem_cons, List.not_mem_nil, _root_.or_false] at hp
        subst hp
        rfl
    isplitl [HS0]
    · iexists _; isplitr; swap; · iexact HS0
      ipureintro
      exact (View.readAt_full _ _ _).symm.trans hV29
    isplitl [HS1]
    · iexists _; isplitr; swap; · iexact HS1
      ipureintro
      exact (View.readAt_full _ _ _).symm.trans hV37
    isplitl [HS2]
    · iexists _; isplitr; swap; · iexact HS2
      ipureintro
      exact (View.readAt_full _ _ _).symm.trans hV55
    isplitl [HT0]; · iexact HT0
    iexact HT1

end Cert.ExpertsIdeal.Launched

end
-- ==== Proof.Experts.Blocks.lean ====
/-
  The blocks the windows of the call stage, element by element, and the words of its tables.
-/
module

public import proofs.«01_k».proof.Proof.Experts.Setup
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pointwise.Index
public import proofs.«01_k».proof.Proof.Experts.Body

@[expose] public section

set_option maxRecDepth 16384

noncomputable section

namespace Cert.ExpertsIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ)

/-- The expert of a tile, as the table has it, and the number of used tiles. -/
def teAt (t : ℕ) (h : t < 544) : BitVec 32 := tbl m 0 (ix1 (⟨t, h⟩ : Fin 544))
def nvAt : BitVec 32 := tbl m 1 (ix1 (0 : Fin 1))

theorem teAt_congr {s t : ℕ} (e : s = t) (hs : s < 544) (ht : t < 544) : teAt m s hs = teAt m t ht := by
  subst e; rfl

theorem coords_val (t : Fin grid0.N) : (grid0.coords t 0).val = t.val :=
  (by decide +kernel : ∀ t : Fin grid0.N, (grid0.coords t 0).val = t.val) t

theorem coord_lt (i : grid0.Coords) : (i 0).val < 544 := (i 0).isLt

/-- A coordinate as a word, read back. -/
theorem word_toNat (n : ℕ) (h : n < 544) : (BitVec.ofNat 32 n).toNat = n := by
  rw [BitVec.toNat_ofNat]; exact Nat.mod_eq_of_lt (by omega)

theorem before_word : ∀ n : Fin 544, n.val ≠ 0 →
    (Scalar.maxsi (Scalar.subi (BitVec.ofNat 32 n.val) 1#32) 0#32).toNat + 1 * 0 = n.val - 1 := by decide +kernel

theorem nvW_eq (c : Dev nD) : nvW c (tbl m 1) = nvAt m := by
  unfold nvW nvAt
  refine congrArg (tbl m 1) (funext fun a => Fin.ext ?_)
  match a with
  | ⟨0, _⟩ => rfl

theorem teW_eq (c : Dev nD) (i : grid0.Coords) : teW c i (tbl m 0) = teAt m (i 0).val (coord_lt i) := by
  unfold teW teAt
  refine congrArg (tbl m 0) (funext fun a => Fin.ext ?_)
  match a with
  | ⟨0, _⟩ =>
    show (k0_off1 i) 0 + 1 * 0 = (i 0).val
    exact word_toNat _ (coord_lt i)

/-- The word before: the body compares a tile's expert with the one before it. -/
theorem tpW_eq (c : Dev nD) (i : grid0.Coords) (h : (i 0).val ≠ 0) : tpW c i (tbl m 0) = teAt m ((i 0).val - 1) (by have := coord_lt i; omega) := by
  unfold tpW teAt
  refine congrArg (tbl m 0) (funext fun a => Fin.ext ?_)
  match a with
  | ⟨0, _⟩ =>
    show (k0_off2 i) 0 + 1 * 0 = (i 0).val - 1
    exact before_word ⟨_, coord_lt i⟩ h

theorem at0 (i : grid0.Coords) : (tbl m).at 0 (Rect.unit (s := S544) (k0_off1 i) S1.size (k0_off1_inb i)) numel1_S1 = teAt m (i 0).val (coord_lt i) := by
  unfold teAt
  refine congrArg (tbl m 0) (funext fun a => Fin.ext ?_)
  match a with
  | ⟨0, _⟩ =>
    show (k0_off1 i) 0 + 1 * 0 = (i 0).val
    exact word_toNat _ (coord_lt i)

theorem at1 : (tbl m).at 1 (Rect.unit (s := S1) ![0] S1.size inb_S1_S1_0) numel1_S1 = nvAt m := by
  unfold nvAt
  refine congrArg (tbl m 1) (funext fun a => Fin.ext ?_)
  match a with
  | ⟨0, _⟩ => rfl

/-- The tile of rows a step reads: its own, or the last used one past the used ones. -/
def rowTile (t : ℕ) : ℕ := (Scalar.minsi (BitVec.ofNat 32 t) (Scalar.subi (nvAt m) 1#32)).toNat

theorem index0 (i : grid0.Coords) : cc0_transform_0 inb_S1_S1_0 numel1_S1 (tbl m) i 0 = rowTile m (i 0).val := by
  unfold cc0_transform_0 rowTile
  rw [at1]
  rfl

theorem index0_eq (hO : Ok m) (t : Fin (cfgM m hO).N) : ((cfgM m hO).win 0).index t = cc0_transform_0 inb_S1_S1_0 numel1_S1 (tbl m) (grid0.coords t) := rfl
theorem index0_row (hO : Ok m) (t : Fin (cfgM m hO).N) : ((cfgM m hO).win 0).index t (0 : Fin 2) = rowTile m t.val :=
  (congrFun (index0_eq m hO t) (0 : Fin 2)).trans ((index0 m (grid0.coords t)).trans (congrArg (rowTile m) (coords_val t)))
theorem emb_row (hO : Ok m) (t : Fin (cfgM m hO).N) (y : S4096x128.Idx) :
    ((((cfgM m hO).win 0).blk t).view.emb y (0 : Fin 2)).val
      = ((cfgM m hO).win 0).index t (0 : Fin 2) * ((cfgM m hO).win 0).block.size (0 : Fin 2) + 1 * (y 0).val := rfl
theorem size_row (hO : Ok m) : ((cfgM m hO).win 0).block.size (0 : Fin 2) = 4096 := rfl
theorem row_of (hO : Ok m) (t : Fin (cfgM m hO).N) (y : S4096x128.Idx) :
    ((((cfgM m hO).win 0).blk t).view.emb y (0 : Fin 2)).val = rowTile m t.val * 4096 + (y 0).val := by
  rw [emb_row, index0_row, size_row, one_mul]

theorem iblk0_apply (hO : Ok m) (c : Dev nD) (t : Fin (cfgM m hO).N) (y : S4096x128.Idx) (j : S2228224x128.Idx)
    (h0 : (j 0).val = rowTile m t.val * 4096 + (y 0).val) (h1 : (j 1).val = (y 1).val) :
    iblk m hO c 0 t y = V m c main_arg2 j := by
  unfold iblk
  refine congrArg (V m c main_arg2) (funext fun a => Fin.ext ?_)
  match a with
  | ⟨0, _⟩ =>
    exact (row_of m hO t y).trans h0.symm
  | ⟨1, _⟩ =>
    show 0 * 128 + 1 * (y 1).val = (j 1).val
    rw [h1]; omega

theorem iblk1_eq (hO : Ok m) (c : Dev nD) (t : Fin (cfgM m hO).N) : iblk m hO c 1 t = V m c main_v23 := by
  unfold iblk
  refine funext fun (y : S256x256.Idx) => congrArg (V m c main_v23) (funext fun a => Fin.ext ?_)
  match a with
  | ⟨0, _⟩ => show 0 * 256 + 1 * (y 0).val = (y 0).val; omega
  | ⟨1, _⟩ => show 0 * 256 + 1 * (y 1).val = (y 1).val; omega

theorem emb2_expert (hO : Ok m) (t : Fin (cfgM m hO).N) (y : S1x1024x2048.Idx) :
    ((((cfgM m hO).win 2).blk t).view.emb y (0 : Fin 3)).val = (teAt m t.val t.isLt).toNat := by
  show ((tbl m).at 0 (Rect.unit (s := S544) (k0_off1 (grid0.coords t)) S1.size (k0_off1_inb _)) numel1_S1).toNat * 1 + 1 * (y 0).val = _
  have h : (y 0).val < 1 := (y 0).isLt
  rw [at0, teAt_congr m (coords_val t) _ t.isLt]; omega

theorem iblk2_apply (hO : Ok m) (c : Dev nD) (t : Fin (cfgM m hO).N) (y : S1x1024x2048.Idx) (j : S32x1024x2048.Idx)
    (h0 : (j 0).val = (teAt m t.val t.isLt).toNat) (h1 : (j 1).val = (y 1).val) (h2 : (j 2).val = (y 2).val) :
    iblk m hO c 2 t y = V m c main_arg3 j := by
  unfold iblk
  refine congrArg (V m c main_arg3) (funext fun a => Fin.ext ?_)
  match a with
  | ⟨0, _⟩ => exact (emb2_expert m hO t y).trans h0.symm
  | ⟨1, _⟩ => show 0 * 1024 + 1 * (y 1).val = (j 1).val; rw [h1]; omega
  | ⟨2, _⟩ => show 0 * 2048 + 1 * (y 2).val = (j 2).val; rw [h2]; omega

theorem emb3_expert (hO : Ok m) (t : Fin (cfgM m hO).N) (y : S1x1x1024.Idx) :
    ((((cfgM m hO).win 3).blk t).view.emb y (0 : Fin 3)).val = (teAt m t.val t.isLt).toNat := by
  show ((tbl m).at 0 (Rect.unit (s := S544) (k0_off1 (grid0.coords t)) S1.size (k0_off1_inb _)) numel1_S1).toNat * 1 + 1 * (y 0).val = _
  have h : (y 0).val < 1 := (y 0).isLt
  rw [at0, teAt_congr m (coords_val t) _ t.isLt]; omega

theorem iblk3_apply (hO : Ok m) (c : Dev nD) (t : Fin (cfgM m hO).N) (y : S1x1x1024.Idx) (j : S32x1x1024.Idx)
    (h0 : (j 0).val = (teAt m t.val t.isLt).toNat) (h1 : (j 1).val = (y 1).val) (h2 : (j 2).val = (y 2).val) :
    iblk m hO c 3 t y = V m c main_v1 j := by
  unfold iblk
  refine congrArg (V m c main_v1) (funext fun a => Fin.ext ?_)
  match a with
  | ⟨0, _⟩ => exact (emb3_expert m hO t y).trans h0.symm
  | ⟨1, _⟩ => show 0 * 1 + 1 * (y 1).val = (j 1).val; rw [h1]; omega
  | ⟨2, _⟩ => show 0 * 1024 + 1 * (y 2).val = (j 2).val; rw [h2]; omega

theorem emb4_expert (hO : Ok m) (t : Fin (cfgM m hO).N) (y : S1x1x1024.Idx) :
    ((((cfgM m hO).win 4).blk t).view.emb y (0 : Fin 3)).val = (teAt m t.val t.isLt).toNat := by
  show ((tbl m).at 0 (Rect.unit (s := S544) (k0_off1 (grid0.coords t)) S1.size (k0_off1_inb _)) numel1_S1).toNat * 1 + 1 * (y 0).val = _
  have h : (y 0).val < 1 := (y 0).isLt
  rw [at0, teAt_congr m (coords_val t) _ t.isLt]; omega

theorem iblk4_apply (hO : Ok m) (c : Dev nD) (t : Fin (cfgM m hO).N) (y : S1x1x1024.Idx) (j : S32x1x1024.Idx)
    (h0 : (j 0).val = (teAt m t.val t.isLt).toNat) (h1 : (j 1).val = (y 1).val) (h2 : (j 2).val = (y 2).val) :
    iblk m hO c 4 t y = V m c main_v3 j := by
  unfold iblk
  refine congrArg (V m c main_v3) (funext fun a => Fin.ext ?_)
  match a with
  | ⟨0, _⟩ => exact (emb4_expert m hO t y).trans h0.symm
  | ⟨1, _⟩ => show 0 * 1 + 1 * (y 1).val = (j 1).val; rw [h1]; omega
  | ⟨2, _⟩ => show 0 * 1024 + 1 * (y 2).val = (j 2).val; rw [h2]; omega

theorem emb5_expert (hO : Ok m) (t : Fin (cfgM m hO).N) (y : S1x1024x1024.Idx) :
    ((((cfgM m hO).win 5).blk t).view.emb y (0 : Fin 3)).val = (teAt m t.val t.isLt).toNat := by
  show ((tbl m).at 0 (Rect.unit (s := S544) (k0_off1 (grid0.coords t)) S1.size (k0_off1_inb _)) numel1_S1).toNat * 1 + 1 * (y 0).val = _
  have h : (y 0).val < 1 := (y 0).isLt
  rw [at0, teAt_congr m (coords_val t) _ t.isLt]; omega

theorem iblk5_apply (hO : Ok m) (c : Dev nD) (t : Fin (cfgM m hO).N) (y : S1x1024x1024.Idx) (j : S32x1024x1024.Idx)
    (h0 : (j 0).val = (teAt m t.val t.isLt).toNat) (h1 : (j 1).val = (y 1).val) (h2 : (j 2).val = (y 2).val) :
    iblk m hO c 5 t y = V m c main_arg5 j := by
  unfold iblk
  refine congrArg (V m c main_arg5) (funext fun a => Fin.ext ?_)
  match a with
  | ⟨0, _⟩ => exact (emb5_expert m hO t y).trans h0.symm
  | ⟨1, _⟩ => show 0 * 1024 + 1 * (y 1).val = (j 1).val; rw [h1]; omega
  | ⟨2, _⟩ => show 0 * 1024 + 1 * (y 2).val = (j 2).val; rw [h2]; omega

theorem emb6_expert (hO : Ok m) (t : Fin (cfgM m hO).N) (y : S1x1x1024.Idx) :
    ((((cfgM m hO).win 6).blk t).view.emb y (0 : Fin 3)).val = (teAt m t.val t.isLt).toNat := by
  show ((tbl m).at 0 (Rect.unit (s := S544) (k0_off1 (grid0.coords t)) S1.size (k0_off1_inb _)) numel1_S1).toNat * 1 + 1 * (y 0).val = _
  have h : (y 0).val < 1 := (y 0).isLt
  rw [at0, teAt_congr m (coords_val t) _ t.isLt]; omega

theorem iblk6_apply (hO : Ok m) (c : Dev nD) (t : Fin (cfgM m hO).N) (y : S1x1x1024.Idx) (j : S32x1x1024.Idx)
    (h0 : (j 0).val = (teAt m t.val t.isLt).toNat) (h1 : (j 1).val = (y 1).val) (h2 : (j 2).val = (y 2).val) :
    iblk m hO c 6 t y = V m c main_v4 j := by
  unfold iblk
  refine congrArg (V m c main_v4) (funext fun a => Fin.ext ?_)
  match a with
  | ⟨0, _⟩ => exact (emb6_expert m hO t y).trans h0.symm
  | ⟨1, _⟩ => show 0 * 1 + 1 * (y 1).val = (j 1).val; rw [h1]; omega
  | ⟨2, _⟩ => show 0 * 1024 + 1 * (y 2).val = (j 2).val; rw [h2]; omega

end Cert.ExpertsIdeal.Launched

end
-- ==== Proof.Experts.Kept.lean ====
/-
  A used tile of the expert of the tile before it finds that expert's prepared weights where the tile before left them.
-/
module

public import proofs.«01_k».proof.Proof.Experts.Setup
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pointwise.Index
public import proofs.«01_k».proof.Proof.Experts.Blocks

@[expose] public section

set_option maxRecDepth 16384

noncomputable section

namespace Cert.ExpertsIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ)

/-- Tile `t` holds rows. -/
abbrev Live (i : grid0.Coords) : Prop := k0_cond2 i (nvAt m) = 1#1

theorem live_word : ∀ b : BitVec 1, Scalar.cmpi .ne (Scalar.extui b : BitVec 32) 0#32 = 1#1 ↔ b = 1#1 := by decide

theorem toInt_word (n : ℕ) (h : n < 544) : (BitVec.ofNat 32 n).toInt = (n : ℤ) := by
  rw [BitVec.toInt_eq_toNat_of_lt (by rw [word_toNat n h]; omega), word_toNat n h]

/-- The tiles that hold rows are the first ones. -/
theorem live_iff (i : grid0.Coords) : Live m i ↔ ((i 0).val : ℤ) < (nvAt m).toInt := by
  unfold Live k0_cond2
  refine (live_word _).trans ?_
  rw [← toInt_word _ (coord_lt i)]
  show IntOp.cmpi .slt (BitVec.ofNat 32 (i 0).val) (nvAt m) = 1#1 ↔ _
  exact WordCmp.ofBool_decide_eq_one_iff _

/-- What the body's test says when it does not prepare anew at a tile that holds rows: not the first tile, and the expert before. -/
theorem not_prepares (i : grid0.Coords) (a b : BitVec 32) (hl : Live m i) (h : ¬ prepares i (nvAt m) a b = 1#1) : (i 0).val ≠ 0 ∧ a = b := by
  have key : ∀ p q r : BitVec 1, Scalar.cmpi .ne (Scalar.extui p : BitVec 32) 0#32 = 1#1 →
      ¬ Scalar.cmpi .ne (Scalar.extui (Scalar.andi p (Scalar.ori q r)) : BitVec 32) 0#32 = 1#1 → q = 0#1 ∧ r = 0#1 := by decide
  obtain ⟨hq, hr⟩ := key _ _ _ hl h
  constructor
  · intro h0
    rw [h0] at hq
    revert hq
    decide
  · by_contra hne
    revert hr
    show ¬ IntOp.cmpi .ne a b = 0#1
    simp [IntOp.cmpi, hne]

theorem iblk2_congr (hO : Ok m) (c : Dev nD) (t j : Fin (cfgM m hO).N) (h : teAt m t.val t.isLt = teAt m j.val j.isLt) :
    (iblk m hO c 2 t : S1x1024x2048.Idx → _) = iblk m hO c 2 j := by
  refine funext fun (y : S1x1024x2048.Idx) => ?_
  have e0 : ((((cfgM m hO).win 2).blk t).view.emb y (0 : Fin 3)).val = (teAt m t.val t.isLt).toNat := emb2_expert m hO t y
  have e1 : ((((cfgM m hO).win 2).blk t).view.emb y (1 : Fin 3)).val = (y 1).val := by
    show 0 * 1024 + 1 * (y 1).val = (y 1).val; omega
  have e2 : ((((cfgM m hO).win 2).blk t).view.emb y (2 : Fin 3)).val = (y 2).val := by
    show 0 * 2048 + 1 * (y 2).val = (y 2).val; omega
  generalize (((cfgM m hO).win 2).blk t).view.emb y = k at e0 e1 e2
  exact (iblk2_apply m hO c t y k e0 e1 e2).trans (iblk2_apply m hO c j y k (e0.trans (congrArg BitVec.toNat h)) e1 e2).symm

theorem iblk5_congr (hO : Ok m) (c : Dev nD) (t j : Fin (cfgM m hO).N) (h : teAt m t.val t.isLt = teAt m j.val j.isLt) :
    (iblk m hO c 5 t : S1x1024x1024.Idx → _) = iblk m hO c 5 j := by
  refine funext fun (y : S1x1024x1024.Idx) => ?_
  have e0 : ((((cfgM m hO).win 5).blk t).view.emb y (0 : Fin 3)).val = (teAt m t.val t.isLt).toNat := emb5_expert m hO t y
  have e1 : ((((cfgM m hO).win 5).blk t).view.emb y (1 : Fin 3)).val = (y 1).val := by
    show 0 * 1024 + 1 * (y 1).val = (y 1).val; omega
  have e2 : ((((cfgM m hO).win 5).blk t).view.emb y (2 : Fin 3)).val = (y 2).val := by
    show 0 * 1024 + 1 * (y 2).val = (y 2).val; omega
  generalize (((cfgM m hO).win 5).blk t).view.emb y = k at e0 e1 e2
  exact (iblk5_apply m hO c t y k e0 e1 e2).trans (iblk5_apply m hO c j y k (e0.trans (congrArg BitVec.toNat h)) e1 e2).symm

/-- The prepared weights of the expert of tile `t`. -/
def wgT (hO : Ok m) (c : Dev nD) (t : Fin (cfgM m hO).N) : Vec F S1024x1024 .bf16 := wgOf (iblk m hO c 1 t) (iblk m hO c 2 t)
def wlT (hO : Ok m) (c : Dev nD) (t : Fin (cfgM m hO).N) : Vec F S1024x1024 .bf16 := wlOf (iblk m hO c 1 t) (iblk m hO c 2 t)
def w2T (hO : Ok m) (c : Dev nD) (t : Fin (cfgM m hO).N) : Vec F S1024x1024 .bf16 := k0_pay6 (iblk m hO c 5 t)

/-- What tile `t` leaves in the result. -/
def yT (hO : Ok m) (c : Dev nD) (t : Fin (cfgM m hO).N) : Vec F S4608x128 .f32 :=
  if Live m (grid0.coords t) then yOf (iblk m hO c 0 t) (iblk m hO c 3 t) (iblk m hO c 4 t) (iblk m hO c 6 t) (wgT m hO c t) (wlT m hO c t) (w2T m hO c t) else k0_pay8

/-- After `n` tiles the kept weights are those of the last of them, if it held rows. -/
def Held (hO : Ok m) (c : Dev nD) (n : ℕ) (s0 s1 s2 : Vec F S1024x1024 .bf16) : Prop :=
  ∀ j : Fin (cfgM m hO).N, j.val + 1 = n → Live m (grid0.coords j) → s0 = wgT m hO c j ∧ s1 = wlT m hO c j ∧ s2 = w2T m hO c j

/-- The body's choice between preparing anew and keeping. -/
abbrev keep (t : Fin grid0.N) (c : Dev nD) (w s : Vec F S1024x1024 .bf16) : Vec F S1024x1024 .bf16 :=
  if prepares (grid0.coords t) (nvW c (tbl m 1)) (teW c (grid0.coords t) (tbl m 0)) (tpW c (grid0.coords t) (tbl m 0)) = 1#1 then w else s

theorem kept (hO : Ok m) (c : Dev nD) (t : Fin (cfgM m hO).N) (s0 s1 s2 : Vec F S1024x1024 .bf16) (h : Held m hO c t.val s0 s1 s2) (hl : Live m (grid0.coords t)) :
    keep m t c (wgT m hO c t) s0 = wgT m hO c t ∧ keep m t c (wlT m hO c t) s1 = wlT m hO c t ∧ keep m t c (w2T m hO c t) s2 = w2T m hO c t := by
  unfold keep
  by_cases hp : prepares (grid0.coords t) (nvW c (tbl m 1)) (teW c (grid0.coords t) (tbl m 0)) (tpW c (grid0.coords t) (tbl m 0)) = 1#1
  · rw [if_pos hp, if_pos hp, if_pos hp]; exact ⟨rfl, rfl, rfl⟩
  · rw [if_neg hp, if_neg hp, if_neg hp]
    have hp' := hp
    rw [nvW_eq] at hp'
    obtain ⟨h0, he⟩ := not_prepares m _ _ _ hl hp'
    rw [teW_eq, tpW_eq m c _ h0] at he
    have hv : (grid0.coords t 0).val = t.val := coords_val t
    have ht : t.val < 544 := t.isLt
    have hj : t.val - 1 < 544 := by omega
    let j : Fin (cfgM m hO).N := ⟨t.val - 1, hj⟩
    have hvj : (grid0.coords j 0).val = t.val - 1 := coords_val j
    have hlj : Live m (grid0.coords j) := by
      rw [live_iff] at hl ⊢
      rw [hvj]; rw [hv] at hl; omega
    have e : teAt m t.val t.isLt = teAt m j.val j.isLt := by
      rw [teAt_congr m hv.symm t.isLt (coord_lt _), he]
      exact teAt_congr m (by rw [hv]) _ _
    obtain ⟨a0, a1, a2⟩ := h j (by show t.val - 1 + 1 = t.val; omega) hlj
    have e1 : (iblk m hO c 1 t : S256x256.Idx → _) = iblk m hO c 1 j := (iblk1_eq m hO c t).trans (iblk1_eq m hO c j).symm
    have e2 := iblk2_congr m hO c t j e
    have e5 := iblk5_congr m hO c t j e
    refine ⟨a0.trans ?_, a1.trans ?_, a2.trans ?_⟩
    · exact (congrArg₂ wgOf e1 e2).symm
    · exact (congrArg₂ wlOf e1 e2).symm
    · exact (congrArg k0_pay6 e5).symm

/-- What the body leaves is what the next tile may rely on, and the result's block is that of `yT`. -/
theorem held_next (hO : Ok m) (c : Dev nD) (t : Fin (cfgM m hO).N) (s0 s1 s2 : Vec F S1024x1024 .bf16) (h : Held m hO c t.val s0 s1 s2) :
    Held m hO c (t.val + 1) (keep m t c (wgT m hO c t) s0) (keep m t c (wlT m hO c t) s1) (keep m t c (w2T m hO c t) s2) := by
  intro j hj hl
  obtain rfl : j = t := Fin.ext (by omega)
  exact kept m hO c j s0 s1 s2 h hl

theorem yT_of (hO : Ok m) (c : Dev nD) (t : Fin (cfgM m hO).N) (s0 s1 s2 : Vec F S1024x1024 .bf16) (h : Held m hO c t.val s0 s1 s2) :
    (if k0_cond2 (grid0.coords t) (nvW c (tbl m 1)) = 1#1 then yOf (iblk m hO c 0 t) (iblk m hO c 3 t) (iblk m hO c 4 t) (iblk m hO c 6 t)
      (keep m t c (wgT m hO c t) s0) (keep m t c (wlT m hO c t) s1) (keep m t c (w2T m hO c t) s2) else k0_pay8) = yT m hO c t := by
  unfold yT
  rw [nvW_eq]
  by_cases hl : Live m (grid0.coords t)
  · rw [if_pos hl, if_pos hl]
    obtain ⟨a0, a1, a2⟩ := kept m hO c t s0 s1 s2 h hl
    rw [a0, a1, a2]
  · rw [if_neg hl, if_neg hl]

end Cert.ExpertsIdeal.Launched

end
-- ==== Proof.Experts.Call.lean ====
/-
  The run of the experts' kernel: what the result's array holds at the end, and that the arguments are unchanged.
-/
module

public import proofs.«01_k».proof.Proof.Experts.Setup
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pointwise.Index
public import proofs.«01_k».proof.Proof.Experts.Run
public import proofs.«01_k».proof.Proof.Experts.Kept

@[expose] public section

set_option maxRecDepth 16384

noncomputable section

namespace Cert.ExpertsIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Between two tiles: the kept weights as `Held` says, the generator's register, the tables. -/
def between (hO : Ok m) (c : Dev nD) (n : ℕ) : sProp 𝕄 :=
  iprop(iprop(∃ s0, ∃ s1, ∃ s2, ⌜Held m hO c n s0 s1 s2⌝ ∗ owns (c : Thread nD τ) sc0 fullShare s0 ∗ owns (c : Thread nD τ) sc1 fullShare s1 ∗ owns (c : Thread nD τ) sc2 fullShare s2)
    ∗ (∃ r, prngReg c r) ∗ Pipeline.ΦT pre0 (tbl m) c)

/-- The arrays as the call finds them; after every tile its inputs' blocks as they were and the result's as `yT` says. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => yT m hO c t
  Φ n := between m hO c n.val
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = iblk m hO c 6 t := by dsimp only [dats]; try rfl
theorem after7 (hO : Ok m) (c : Dev nD) (t : Fin (cfgM m hO).N) : (dats m hO 0 c).after 7 t = yT m hO c t := by dsimp only [dats]; try rfl
theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d
theorem before2 (hO : Ok m) (c : Dev nD) (t : Fin (cfgM m hO).N) (d) : (dats m hO 0 c).before 2 t d = iblk m hO c 2 t :=
  before2_of m hO (dats m hO 0 c) (A_eq m hO c 2) (after2 m hO c) t d
theorem before3 (hO : Ok m) (c : Dev nD) (t : Fin (cfgM m hO).N) (d) : (dats m hO 0 c).before 3 t d = iblk m hO c 3 t :=
  before3_of m hO (dats m hO 0 c) (A_eq m hO c 3) (after3 m hO c) t d
theorem before4 (hO : Ok m) (c : Dev nD) (t : Fin (cfgM m hO).N) (d) : (dats m hO 0 c).before 4 t d = iblk m hO c 4 t :=
  before4_of m hO (dats m hO 0 c) (A_eq m hO c 4) (after4 m hO c) t d
theorem before5 (hO : Ok m) (c : Dev nD) (t : Fin (cfgM m hO).N) (d) : (dats m hO 0 c).before 5 t d = iblk m hO c 5 t :=
  before5_of m hO (dats m hO 0 c) (A_eq m hO c 5) (after5 m hO c) t d
theorem before6 (hO : Ok m) (c : Dev nD) (t : Fin (cfgM m hO).N) (d) : (dats m hO 0 c).before 6 t d = iblk m hO c 6 t :=
  before6_of m hO (dats m hO 0 c) (A_eq m hO c 6) (after6 m hO c) t d

/-- What the body is called with at tile `t`, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ owns (c : Thread nD τ) (ms6 m hO t) fullShare ((dats m hO 0 c).after 6 t)
    ∗ owns (c : Thread nD τ) (ms7 m hO t) fullShare ((dats m hO 0 c).after 7 t))

set_option maxHeartbeats 1600000 in
/-- The body at any tile: its run, with the kept weights traced. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3, before4, before5, before6]
  rw [show (dats m hO 0 c).Φ t.succ = between m hO c (t.val + 1) from rfl,
    show (dats m hO 0 c).owesAt () t.succ = (dats m hO 0 c).owesAt () t.castSucc from rfl,
    after0, after1, after2, after3, after4, after5, after6, after7]
  rw [show (dats m hO 0 c).Φ t.castSucc = between m hO c t.val from rfl]
  unfold between
  rw [PhiT_eq]
  iintro ⟨⟨⟨%s0, %s1, %s2, %hH, HS0, HS1, HS2⟩, Hg, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) s0 s1 s2 (tbl m 0) (tbl m 1)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HT0]; · iexact HT0
  isplitl [HT1]; · iexact HT1
  rw [← yT_of m hO c t s0 s1 s2 hH]
  iintro ⟨H0, H1, H2, H3, H4, H5, H6, H7, HS0, HS1, HS2, HT0, HT1⟩
  isplitl [HS0 HS1 HS2 Hg HT0 HT1]
  · isplitl [HS0 HS1 HS2]
    · iexists (keep m t c (wgT m hO c t) s0), (keep m t c (wlT m hO c t) s1), (keep m t c (w2T m hO c t) s2)
      isplitr
      · ipureintro; exact held_next m hO c t s0 s1 s2 hH
      isplitl [HS0]; · iexact HS0
      isplitl [HS1]; · iexact HS1
      iexact HS2
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- A body that always stores a window's block, or whose window is written back at every tile, owes the block it leaves. -/
theorem obligation_of {cfg : Pipeline.Cfg sig Λ₀} {c : Dev nD} (dat : Dat τ (Elt F) Unit ℕ (UR sig nD τ) ℕ cfg c) (defs : Defs nD τ sig (Elt F) Λ₀)
    (hw : ∀ w t, cfg.idle w (cfg.grid.coords t) = false ∨ (cfg.win w).flush t = true)
    (h : ∀ t : Fin cfg.N,
      iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE defs Variants.none c none) Set.univ (defs .tc cfg.body (cfg.bodyArgs t (cfg.slots t))) fun _ =>
          iprop(dat.Φ t.succ ∗ dat.owesAt () t.succ
            ∗ bigSep Finset.univ fun w : Fin cfg.W => owns (c : Thread nD τ) ((cfg.win w).stage (cfg.slots t w)) fullShare (dat.after w t))) :
    BodyObligation dat defs Variants.none () Set.univ := fun t =>
  (h t).trans (wp_mono _ _ _ fun _ => sep_mono .rfl (sep_mono .rfl (Idealize.SL.BI.bigSep_mono fun w _ =>
    show owns (c : Thread nD τ) ((cfg.win w).stage (cfg.slots t w)) fullShare (dat.after w t) ⊢ (dat.leavesExact w t : sProp 𝕄) from by
      unfold Dat.leavesExact
      rcases hw w t with hi | hf
      · rw [hi]
      · rw [hf]
        cases cfg.idle w (cfg.grid.coords t)
        · exact .rfl
        · exact .rfl)))

theorem always (hO : Ok m) (w : Fin (cfgM m hO).W) (t : Fin (cfgM m hO).N) :
    (cfgM m hO).idle w ((cfgM m hO).grid.coords t) = false ∨ ((cfgM m hO).win w).flush t = true :=
  match w with
  | ⟨0, _⟩ => Or.inl rfl
  | ⟨1, _⟩ => Or.inl rfl
  | ⟨2, _⟩ => Or.inl rfl
  | ⟨3, _⟩ => Or.inl rfl
  | ⟨4, _⟩ => Or.inl rfl
  | ⟨5, _⟩ => Or.inl rfl
  | ⟨6, _⟩ => Or.inl rfl
  | ⟨7, _⟩ => Or.inr (flush7 (adm m hO) t)

theorem body_obligation (hO : Ok m) (c : Dev nD) : BodyObligation (dats (F := F) m hO 0 c) (defs₀ (F := F)) Variants.none () Set.univ :=
  obligation_of (dats (F := F) m hO 0 c) (defs₀ (F := F)) (always m hO) fun t => by
    rw [bigSep_W0, bigSep_W0, defs₀_row m hO]
    exact triple_restated (sound_body m hO c t) rfl .rfl fun _ => .rfl

/-- Before the first tile nothing is known of the kept weights; -/
theorem enter (hO : Ok m) (c : Dev nD) : iprop(Pipeline.ΦA spec0 c ∗ Pipeline.ΦT pre0 (tbl m) c) ⊢ between m hO c 0 := by
  unfold between
  rw [PhiA_eq]
  iintro ⟨⟨⟨⟨%s0, HS0⟩, ⟨%s1, HS1⟩, ⟨%s2, HS2⟩⟩, Hg⟩, HT⟩
  isplitl [HS0 HS1 HS2]
  · iexists s0, s1, s2
    isplitr
    · ipureintro
      intro j hj
      exact absurd hj (Nat.succ_ne_zero _)
    isplitl [HS0]; · iexact HS0
    isplitl [HS1]; · iexact HS1
    iexact HS2
  isplitl [Hg]; · iexact Hg
  iexact HT

/-- after the last it is forgotten. -/
theorem leave (hO : Ok m) (c : Dev nD) (n : ℕ) : between m hO c n ⊢ Pipeline.ΦA spec0 c := by
  unfold between
  rw [PhiA_eq]
  iintro ⟨⟨%s0, %s1, %s2, -, HS0, HS1, HS2⟩, Hg, -⟩
  isplitl [HS0 HS1 HS2]
  · isplitl [HS0]; · iexists _; iexact HS0
    isplitl [HS1]; · iexists _; iexact HS1
    iexists _; iexact HS2
  iexact Hg

set_option backward.isDefEq.respectTransparency.types false in
theorem run_main (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => enter m hO c) (hout := fun c => leave m hO c _)

/-- The arguments end unchanged, the result's array is what the tiles wrote back, and the counters end at zero. -/
theorem runs (hO : Ok m) : θ_run defs (onTc (τ := τ) (main (F := F))) ⟨m, fun _ => 0, ρ⟩ (fun r => (∀ c : Dev nD,
      r.2.mem ((c.tc : Thread nD τ).loc main_v24) = (dats m hO 0 c).arrAt 7 (cfgM m hO).N)
      ∧ (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine θ_run_mono (run_main m ρ hO) fun r ⟨h, hs⟩ => ⟨fun c => ((h c).1 7 : _), fun c => ⟨?_, ?_, ?_, ?_, ?_, ?_, ?_⟩, hs⟩
  · exact ((h c).2 main_arg0 (by decide : main_arg0 ∈ Pipeline.restRefs sig spec0)).trans (V_arg0 m c)
  · exact ((h c).2 main_arg1 (by decide : main_arg1 ∈ Pipeline.restRefs sig spec0)).trans (V_arg1 m c)
  · exact (((h c).1 0).trans ((dats m hO 0 c).arrAt_in 0 rfl _)).trans ((A_eq m hO c 0).trans (V_arg2 m c))
  · exact (((h c).1 2).trans ((dats m hO 0 c).arrAt_in 2 rfl _)).trans ((A_eq m hO c 2).trans (V_arg3 m c))
  · exact ((h c).2 main_arg4 (by decide : main_arg4 ∈ Pipeline.restRefs sig spec0)).trans (V_arg4 m c)
  · exact (((h c).1 5).trans ((dats m hO 0 c).arrAt_in 5 rfl _)).trans ((A_eq m hO c 5).trans (V_arg5 m c))
  · exact ((h c).2 main_arg6 (by decide : main_arg6 ∈ Pipeline.restRefs sig spec0)).trans (V_arg6 m c)

end Cert.ExpertsIdeal.Launched

end
-- ==== Proof.Experts.Tables.lean ====
/-
  The tables in their ranges: every block of the experts' kernel is inside its array, and a used tile reads its own rows.
-/
module

public import proofs.«01_k».proof.Proof.Experts.Kept
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Pre_tables

@[expose] public section

set_option maxRecDepth 16384

noncomputable section

namespace Cert.ExpertsIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

theorem word_expert (x : BitVec 32) (h : IntOp.andi (IntOp.cmpi .sge x 0#32) (IntOp.cmpi .slt x 32#32) = 1#1) : x.toNat < 32 := by
  rw [WordCmp.cmpi_sge_eq, WordCmp.cmpi_slt_eq, WordCmp.andi_ofBool, WordCmp.ofBool_eq_one_iff, Bool.and_eq_true, decide_eq_true_iff, decide_eq_true_iff] at h
  have e0 : (0#32 : BitVec 32).toInt = 0 := by decide
  have e1 : (32#32 : BitVec 32).toInt = 32 := by decide
  rw [e0, e1, BitVec.toInt_eq_toNat_cond] at h
  have := x.isLt
  split at h <;> omega

theorem word_used (x : BitVec 32) (h : IntOp.cmpi .sge x 1#32 = 1#1) : 1 ≤ x.toNat ∧ x.toNat < 2147483648 := by
  rw [WordCmp.cmpi_sge_eq, WordCmp.ofBool_eq_one_iff, decide_eq_true_iff] at h
  have e0 : (1#32 : BitVec 32).toInt = 1 := by decide
  rw [e0, BitVec.toInt_eq_toNat_cond] at h
  have := x.isLt
  split at h <;> omega

variable (m : (ℓ : Loc nD τ sig) → Buf (Elt F) ℓ)

/-- The tables are in their ranges: every tile has one of the 32 experts, and at least one tile is used. -/
structure InRange : Prop where
  te : ∀ (t : ℕ) (h : t < 544), (teAt m t h).toNat < 32
  nv : 1 ≤ (nvAt m).toNat ∧ (nvAt m).toNat < 2147483648

theorem teAt_arg (t : ℕ) (h : t < 544) : teAt m t h = m (((0 : Dev nD) : Thread nD τ).loc main_arg0) (ix1 (⟨t, h⟩ : Fin 544)) :=
  congrFun (V_arg0 m (0 : Dev nD)) _
theorem nvAt_arg : nvAt m = m (((0 : Dev nD) : Thread nD τ).loc main_arg1) (ix1 (0 : Fin 1)) :=
  congrFun (V_arg1 m (0 : Dev nD)) _

theorem inRange_of
    (h0 : ∀ i : S544.Idx, IntOp.andi (IntOp.cmpi .sge (m (((0 : Dev nD) : Thread nD τ).loc main_arg0) i) 0#32) (IntOp.cmpi .slt (m (((0 : Dev nD) : Thread nD τ).loc main_arg0) i) 32#32) = 1#1)
    (h1 : ∀ i : S1.Idx, IntOp.cmpi .sge (m (((0 : Dev nD) : Thread nD τ).loc main_arg1) i) 1#32 = 1#1) :
    InRange m where
  te t h := by rw [teAt_arg]; exact word_expert _ (h0 _)
  nv := by rw [nvAt_arg]; exact word_used _ (h1 _)

variable {m}

theorem InRange.sub (h : InRange m) : (Scalar.subi (nvAt m) 1#32).toNat = (nvAt m).toNat - 1 := by
  show ((nvAt m) - 1#32).toNat = _
  have := h.nv
  rw [BitVec.toNat_sub]
  have e : (1#32 : BitVec 32).toNat = 1 := by decide
  rw [e]
  omega

theorem InRange.slt (h : InRange m) (t : ℕ) (ht : t < 544) :
    (BitVec.ofNat 32 t).slt (Scalar.subi (nvAt m) 1#32) = decide (t < (nvAt m).toNat - 1) := by
  have := h.nv
  have es := h.sub
  rw [BitVec.slt_eq_decide, BitVec.toInt_eq_toNat_of_lt (by rw [word_toNat t ht]; omega), BitVec.toInt_eq_toNat_of_lt (by rw [es]; omega), word_toNat t ht, es]
  simp only [Int.ofNat_lt]

theorem InRange.rowTile_eq (h : InRange m) (t : ℕ) (ht : t < 544) : rowTile m t = if t < (nvAt m).toNat - 1 then t else (nvAt m).toNat - 1 := by
  unfold rowTile
  show (if (BitVec.ofNat 32 t).slt (Scalar.subi (nvAt m) 1#32) then BitVec.ofNat 32 t else Scalar.subi (nvAt m) 1#32).toNat = _
  rw [h.slt t ht]
  by_cases hl : t < (nvAt m).toNat - 1
  · rw [if_pos (decide_eq_true hl), if_pos hl, word_toNat t ht]
  · rw [if_neg (by simpa using hl), if_neg hl, h.sub]

theorem InRange.rowTile_lt (h : InRange m) (t : ℕ) (ht : t < 544) : rowTile m t < 544 := by
  have := h.nv
  rw [h.rowTile_eq t ht]
  split <;> omega

/-- A used tile is below the number of used tiles. -/
theorem InRange.live_iff (h : InRange m) (i : grid0.Coords) : Live m i ↔ (i 0).val < (nvAt m).toNat := by
  have := h.nv
  rw [Launched.live_iff, BitVec.toInt_eq_toNat_of_lt (by omega), Int.ofNat_lt]

/-- A used tile reads its own rows. -/
theorem InRange.rowTile_live (h : InRange m) (t : ℕ) (ht : t < 544) (hl : t < (nvAt m).toNat) : rowTile m t = t := by
  rw [h.rowTile_eq t ht]
  split <;> omega

theorem index_te2 (i : grid0.Coords) : cc0_transform_2 k0_off1_inb numel1_S1 (tbl m) i 0 = (teAt m (i 0).val (coord_lt i)).toNat := congrArg BitVec.toNat (at0 m i)
theorem index_te3 (i : grid0.Coords) : cc0_transform_3 k0_off1_inb numel1_S1 (tbl m) i 0 = (teAt m (i 0).val (coord_lt i)).toNat := congrArg BitVec.toNat (at0 m i)
theorem index_te4 (i : grid0.Coords) : cc0_transform_4 k0_off1_inb numel1_S1 (tbl m) i 0 = (teAt m (i 0).val (coord_lt i)).toNat := congrArg BitVec.toNat (at0 m i)
theorem index_te5 (i : grid0.Coords) : cc0_transform_5 k0_off1_inb numel1_S1 (tbl m) i 0 = (teAt m (i 0).val (coord_lt i)).toNat := congrArg BitVec.toNat (at0 m i)
theorem index_te6 (i : grid0.Coords) : cc0_transform_6 k0_off1_inb numel1_S1 (tbl m) i 0 = (teAt m (i 0).val (coord_lt i)).toNat := congrArg BitVec.toNat (at0 m i)

/-- In their ranges the tables pick blocks inside the arrays. -/
theorem InRange.ok (h : InRange m) : Ok m := by
  refine ⟨fun i => ⟨fun a => ?_, Or.inl rfl⟩, fun i => ⟨fun a => ?_, Or.inl rfl⟩, fun i => ⟨fun a => ?_, Or.inl rfl⟩, fun i => ⟨fun a => ?_, Or.inl rfl⟩, fun i => ⟨fun a => ?_, Or.inl rfl⟩, fun i => ⟨fun a => ?_, Or.inl rfl⟩⟩
  · have hl := h.rowTile_lt _ (coord_lt i)
    match a with
    | ⟨0, _⟩ =>
      show (cc0_transform_0 inb_S1_S1_0 numel1_S1 (tbl m) i 0 + 1) * 4096 ≤ 2228224
      rw [index0]; omega
    | ⟨1, _⟩ => show (0 + 1) * 128 ≤ 128; decide
  · have hl := h.te _ (coord_lt i)
    match a with
    | ⟨0, _⟩ =>
      show (cc0_transform_2 k0_off1_inb numel1_S1 (tbl m) i 0 + 1) * 1 ≤ 32
      rw [index_te2]; omega
    | ⟨1, _⟩ => show (0 + 1) * 1024 ≤ 1024; decide
    | ⟨2, _⟩ => show (0 + 1) * 2048 ≤ 2048; decide
  · have hl := h.te _ (coord_lt i)
    match a with
    | ⟨0, _⟩ =>
      show (cc0_transform_3 k0_off1_inb numel1_S1 (tbl m) i 0 + 1) * 1 ≤ 32
      rw [index_te3]; omega
    | ⟨1, _⟩ => show (0 + 1) * 1 ≤ 1; decide
    | ⟨2, _⟩ => show (0 + 1) * 1024 ≤ 1024; decide
  · have hl := h.te _ (coord_lt i)
    match a with
    | ⟨0, _⟩ =>
      show (cc0_transform_4 k0_off1_inb numel1_S1 (tbl m) i 0 + 1) * 1 ≤ 32
      rw [index_te4]; omega
    | ⟨1, _⟩ => show (0 + 1) * 1 ≤ 1; decide
    | ⟨2, _⟩ => show (0 + 1) * 1024 ≤ 1024; decide
  · have hl := h.te _ (coord_lt i)
    match a with
    | ⟨0, _⟩ =>
      show (cc0_transform_5 k0_off1_inb numel1_S1 (tbl m) i 0 + 1) * 1 ≤ 32
      rw [index_te5]; omega
    | ⟨1, _⟩ => show (0 + 1) * 1024 ≤ 1024; decide
    | ⟨2, _⟩ => show (0 + 1) * 1024 ≤ 1024; decide
  · have hl := h.te _ (coord_lt i)
    match a with
    | ⟨0, _⟩ =>
      show (cc0_transform_6 k0_off1_inb numel1_S1 (tbl m) i 0 + 1) * 1 ≤ 32
      rw [index_te6]; omega
    | ⟨1, _⟩ => show (0 + 1) * 1 ≤ 1; decide
    | ⟨2, _⟩ => show (0 + 1) * 1024 ≤ 1024; decide

end Cert.ExpertsIdeal.Launched

end
-- ==== Proof.Experts.Products.lean ====
/-
  The products of the experts' kernel over the extended reals, at a row and a column: the de-interleaving of the first weights,
  the hidden values of the 512 rows, their gated product, and the output.
-/
module

public import proofs.«01_k».proof.Proof.Experts.Body
public import Idealize.ShloMosaic.Lib.Pipeline.ValueKit

@[expose] public section

set_option maxRecDepth 16384

noncomputable section

namespace Cert.ExpertsProducts

open Idealize.ShloMosaic Idealize.ShloMosaic.TcCoe Idealize.SL.Sem
open Cert.ExpertsIdeal Cert.ExpertsIdeal.Gen Cert.ExpertsIdeal.Launched

theorem pay10_apply (v19 : Vec Ideal S1x1024x256 .f32) (v22 : Vec Ideal S256x256 .bf16) (d : Fin 1024) (n : Fin 128) :
    k0_pay10 v19 v22 (ix2 d n) = ∑ k : Fin 256, v19 (ix3 0 d k) * v22 (ix2 k ⟨n.val, by omega⟩) := by
  unfold k0_pay10 k0_pay9
  pointwise
  done

theorem pay11_apply (v19 : Vec Ideal S1x1024x256 .f32) (v22 : Vec Ideal S256x256 .bf16) (d : Fin 1024) (n : Fin 128) :
    k0_pay11 v19 v22 (ix2 d n) = ∑ k : Fin 256, v19 (ix3 0 d k) * v22 (ix2 k ⟨128 + n.val, by omega⟩) := by
  unfold k0_pay11 k0_pay9
  pointwise
  done

theorem pay6_apply (v : Vec Ideal S1x1024x1024 .f32) (a b : Fin 1024) : k0_pay6 v (ix2 a b) = v (ix3 0 a b) := by
  unfold k0_pay6
  pointwise
  done

theorem pay30_apply (v0 v1 v2 v3 v4 v5 v6 v7 : Vec Ideal S512x128 .f32) (w : Vec Ideal S1024x1024 .bf16) (b : Vec Ideal S1x1x1024 .f32) (r : Fin 512) (f : Fin 1024) :
    k0_pay30 v0 v1 v2 v3 v4 v5 v6 v7 w b (ix2 r f) = min ((∑ k : Fin 1024, k0_pay29 v0 v1 v2 v3 v4 v5 v6 v7 (ix2 r k) * w (ix2 k f)) + b (ix3 0 0 f)) (Ideal.ofBits .f32 0x40E00000#32) := by
  unfold k0_pay30
  pointwise
  done

theorem pay31_apply (v0 v1 v2 v3 v4 v5 v6 v7 : Vec Ideal S512x128 .f32) (w : Vec Ideal S1024x1024 .bf16) (b : Vec Ideal S1x1x1024 .f32) (r : Fin 512) (f : Fin 1024) :
    k0_pay31 v0 v1 v2 v3 v4 v5 v6 v7 w b (ix2 r f) = min (Ideal.ofBits .f32 0x40E00000#32) (max (Ideal.ofBits .f32 0xC0E00000#32) ((∑ k : Fin 1024, k0_pay29 v0 v1 v2 v3 v4 v5 v6 v7 (ix2 r k) * w (ix2 k f)) + b (ix3 0 0 f))) := by
  unfold k0_pay31
  pointwise
  done

theorem pay32_apply (g l : FVec Ideal S512x1024 .f32) (a : Ideal .f32) (w : Vec Ideal S1024x1024 .bf16) (b : Vec Ideal S1x1x1024 .f32) (r : Fin 512) (d : Fin 1024) :
    k0_pay32 g l a w b (ix2 r d) = (∑ f : Fin 1024, g (ix2 r f) * Ideal.logistic (a * g (ix2 r f)) * (l (ix2 r f) + 1) * w (ix2 f d)) + b (ix3 0 0 d) := by
  unfold k0_pay32
  pointwise
  done

theorem rows_at (x : Vec Ideal S4096x128 .f32) (j : ℕ) (r : Fin 512) (l : Fin 128) (a : Fin 4096) (b : Fin 128)
    (h0 : a.val = j + 8 * r.val) (h1 : b.val = l.val) : rows x j (ix2 r l) = x (ix2 a b) := by
  unfold rows
  refine congrArg x (funext fun c => Fin.ext ?_)
  match c with
  | ⟨0, _⟩ => show (j + 8 * r.val) % 4096 = a.val; omega
  | ⟨1, _⟩ => exact h1.symm

/-- The eight groups of lines side by side are the 512 rows of 1024 features. -/
theorem pay29_apply (x : Vec Ideal S4096x128 .f32) (r : Fin 512) (k : Fin 1024) :
    k0_pay29 (rows x 0) (rows x 1) (rows x 2) (rows x 3) (rows x 4) (rows x 5) (rows x 6) (rows x 7) (ix2 r k)
      = x (ix2 ⟨8 * r.val + k.val / 128, by omega⟩ ⟨k.val % 128, by omega⟩) := by
  unfold k0_pay29
  pointwise
  have hk := k.isLt
  split_ifs <;> exact rows_at x _ _ _ _ _ (by dsimp only; omega) (by dsimp only; omega)

end Cert.ExpertsProducts

end
-- ==== Proof.Experts.Host.lean ====
/-
  What the launch's host lines write: the two halves of the first bias, the second bias, and the permutation.
-/
module

public import proofs.«01_k».proof.Proof.Experts.Setup
public import Idealize.ShloMosaic.Lib.Pipeline.ValueKit
public import Idealize.ShloMosaic.Lib.WordCmp

@[expose] public section

set_option maxRecDepth 16384

noncomputable section

namespace Cert.ExpertsHost

open Idealize.ShloMosaic Idealize.ShloMosaic.TcCoe Idealize.SL.Sem
open Cert.ExpertsIdeal Cert.ExpertsIdeal.Gen Cert.ExpertsIdeal.Launched

variable (m : (ℓ : Loc nD τ sig) → Buf (Elt Ideal) ℓ)

/-- The column a permuted column comes from: the even ones first, then the odd ones. -/
def src (n : ℕ) : ℕ := if n < 128 then 2 * n else 2 * (n - 128) + 1

def permIdx : (⟨S1x256, .i32⟩ : BufTy).Contents (Elt Ideal) := broadcastInDim S1x256 ![1] bcast_S256_S1x256_1 (iotaInDim S256 32 0)

/-- The permutation as the host lines write it. -/
def permTerm : (⟨S256x256, .bf16⟩ : BufTy).Contents (Elt Ideal) :=
  uitofp (F := Ideal) .bf16 (cmpi .eq (broadcastInDim S256x256 ![0, 1] bcast_S256x1_S256x256_0_1 (broadcastInDim S256x1 ![0] bcast_S256_S256x1_0 (iotaInDim S256 32 0)))
    (broadcastInDim S256x256 ![0, 1] bcast_S1x256_S256x256_0_1
      (select (cmpi .slt permIdx (broadcastInDim S1x256 ![] bcast_S_S1x256 (constantI S_ 32 128#32)))
        (muli (broadcastInDim S1x256 ![] bcast_S_S1x256 (constantI S_ 32 2#32)) permIdx)
        (addi (muli (broadcastInDim S1x256 ![] bcast_S_S1x256 (constantI S_ 32 2#32)) (subi permIdx (broadcastInDim S1x256 ![] bcast_S_S1x256 (constantI S_ 32 128#32))))
          (broadcastInDim S1x256 ![] bcast_S_S1x256 (constantI S_ 32 1#32))))))

theorem V_v23 (c : Dev nD) : V m c main_v23 = permTerm := by
  simp only [V, hostOps0, hostOps0_1, hostOps0_2, List.cons_append, List.nil_append, List.append_nil]
  after_results
  rfl

/-- A bit as a number. -/
theorem bit_one : FloatOps.uitofp (F := Ideal) FTy.bf16 (BitVec.ofBool true) = (1 : EReal) := by
  show (((BitVec.ofBool true).toNat : ℝ) : EReal) = 1
  simp
theorem bit_zero : FloatOps.uitofp (F := Ideal) FTy.bf16 (BitVec.ofBool false) = (0 : EReal) := by
  show (((BitVec.ofBool false).toNat : ℝ) : EReal) = 0
  simp

theorem src_word : ∀ n : Fin 256, Scalar.select (IntOp.cmpi .slt (BitVec.ofNat 32 n.val) 128#32) (IntOp.muli 2#32 (BitVec.ofNat 32 n.val))
    (IntOp.addi (IntOp.muli 2#32 (IntOp.subi (BitVec.ofNat 32 n.val) 128#32)) 1#32) = BitVec.ofNat 32 (src n.val) := by decide +kernel

theorem permTerm_apply (k n : Fin 256) : permTerm (ix2 k n) = if k.val = src n.val then (1 : EReal) else 0 := by
  unfold permTerm permIdx
  pointwise
  rw [src_word n, WordCmp.cmpi_eq_eq]
  have hs : src n.val < 2 ^ 32 := by have := n.isLt; unfold src; split <;> omega
  have hk : k.val < 2 ^ 32 := by have := k.isLt; omega
  by_cases h : k.val = src n.val
  · rw [if_pos h, decide_eq_true (by rw [h])]
    exact bit_one
  · rw [if_neg h, decide_eq_false (by rw [WordCmp.ofNat_eq_ofNat_iff hk hs]; exact h)]
    exact bit_zero

theorem V_v1 (c : Dev nD) (e : Fin 32) (f : Fin 1024) :
    V m c main_v1 (ix3 e 0 f) = m ((c : Thread nD τ).loc main_arg4) (ix2 e (⟨2 * f.val, by omega⟩ : Fin 2048)) := by
  simp only [V, hostOps0, hostOps0_1, hostOps0_2, List.cons_append, List.nil_append, List.append_nil]
  after_results
  pointwise
theorem V_v3 (c : Dev nD) (e : Fin 32) (f : Fin 1024) :
    V m c main_v3 (ix3 e 0 f) = m ((c : Thread nD τ).loc main_arg4) (ix2 e (⟨1 + 2 * f.val, by omega⟩ : Fin 2048)) := by
  simp only [V, hostOps0, hostOps0_1, hostOps0_2, List.cons_append, List.nil_append, List.append_nil]
  after_results
  pointwise
theorem V_v4 (c : Dev nD) (e : Fin 32) (d : Fin 1024) :
    V m c main_v4 (ix3 e 0 d) = m ((c : Thread nD τ).loc main_arg6) (ix2 e d) := by
  simp only [V, hostOps0, hostOps0_1, hostOps0_2, List.cons_append, List.nil_append, List.append_nil]
  after_results
  pointwise

end Cert.ExpertsHost

end
-- ==== Proof.Experts.Spec.lean ====
/-
  One row of 1024 features through one expert, over the extended reals; and which row, expert and column an element of the
  result is.
-/
module

public import Idealize.ShloMosaic.Lib.Pipeline.ValueKit

@[expose] public section

noncomputable section

namespace Cert.ExpertsSpec

open Idealize.ShloMosaic

/-- A hidden value before the gate: the row times a column of the first weights, and the bias. -/
def pre (x w : Fin 1024 → EReal) (b : EReal) : EReal := (∑ k, x k * w k) + b

/-- The gated product of a gate value and a linear value, both limited. -/
def hid (g l : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) l) + 1)

/-- A column of an expert's output of a row. -/
def expert (x : Fin 1024 → EReal) (wg wl : Fin 1024 → Fin 1024 → EReal) (bg bl : Fin 1024 → EReal) (w2 : Fin 1024 → Fin 1024 → EReal)
    (b2 : Fin 1024 → EReal) (d : Fin 1024) : EReal :=
  (∑ f, hid (pre x (fun k => wg k f) (bg f)) (pre x (fun k => wl k f) (bl f)) * w2 f d) + b2 d

/-- The features of row `n`: eight lines of 128. -/
def row (xs : Fin 2228224 → Fin 128 → EReal) (n : Fin 278528) (k : Fin 1024) : EReal :=
  xs ⟨8 * n.val + k.val / 128, by omega⟩ ⟨k.val % 128, by omega⟩

section
variable (xs : Fin 2228224 → Fin 128 → EReal) (w1 : Fin 32 → Fin 1024 → Fin 2048 → EReal) (b1 : Fin 32 → Fin 2048 → EReal)
  (w2 : Fin 32 → Fin 1024 → Fin 1024 → EReal) (b2 : Fin 32 → Fin 1024 → EReal)

/-- Row `n` through expert `e`: the even columns of the first weights are the gate's, the odd ones the linear values'. -/
def through (e : Fin 32) (n : Fin 278528) (d : Fin 1024) : EReal :=
  expert (row xs n) (fun k f => w1 e k ⟨2 * f.val, by omega⟩) (fun k f => w1 e k ⟨1 + 2 * f.val, by omega⟩)
    (fun f => b1 e ⟨2 * f.val, by omega⟩) (fun f => b1 e ⟨1 + 2 * f.val, by omega⟩) (w2 e) (b2 e) d

/-- An element of the result: nine lines to a row, the last one of zeros; a row of a tile past the used ones is zero, another one
    has gone through its tile's expert. -/
def result (te : Fin 544 → BitVec 32) (nv : BitVec 32) (i : Fin 2506752) (l : Fin 128) : EReal :=
  if h : i.val % 9 = 8 then 0
  else if i.val / 4608 < nv.toNat then
    through xs w1 b1 w2 b2 ⟨(te ⟨i.val / 4608, by omega⟩).toNat % 32, by omega⟩ ⟨i.val / 9, by omega⟩ ⟨128 * (i.val % 9) + l.val, by omega⟩
  else 0
end

end Cert.ExpertsSpec

end
-- ==== Proof.Experts.Value.lean ====
/-
  The experts' kernel's result over the extended reals: each element is a row of the sorted tokens through its tile's expert.
-/
module

public import proofs.«01_k».proof.Proof.Experts.Call
public import proofs.«01_k».proof.Proof.Experts.Tables
public import proofs.«01_k».proof.Proof.Experts.Products
public import proofs.«01_k».proof.Proof.Experts.Host
public import proofs.«01_k».proof.Proof.Experts.Spec

@[expose] public section

set_option maxRecDepth 16384

noncomputable section

namespace Cert.ExpertsValue

open Idealize.ShloMosaic Idealize.ShloMosaic.TcCoe Idealize.SL.Sem
open Idealize.ShloMosaic.Pipeline (Dat)
open Cert.ExpertsIdeal Cert.ExpertsIdeal.Gen Cert.ExpertsIdeal.Launched
open Cert.ExpertsProducts Cert.ExpertsHost Cert.ExpertsSpec

/-- A sum against a column of the permutation is one term. -/
theorem sum_pick (a : Fin 256 → EReal) (s : Fin 256) : ∑ k : Fin 256, a k * (if k.val = s.val then (1 : EReal) else 0) = a s := by
  rw [Finset.sum_eq_single s]
  · rw [if_pos rfl, mul_one]
  · intro k _ h
    rw [if_neg fun e => h (Fin.ext e), mul_zero]
  · intro h; exact absurd (Finset.mem_univ s) h

theorem chunk_at (x : Vec Ideal S1x1024x2048 .f32) (o : ℕ) (d : Fin 1024) (k : Fin 256) (p : Fin 2048) (h : p.val = o + k.val) :
    chunk x o (ix3 0 d k) = x (ix3 0 d p) := by
  unfold chunk
  refine congrArg x (funext fun c => Fin.ext ?_)
  have hp := p.isLt
  match c with
  | ⟨0, _⟩ => rfl
  | ⟨1, _⟩ => rfl
  | ⟨2, _⟩ => show (o + k.val) % 2048 = p.val; omega

/-- The prepared gate weights are the even columns. -/
theorem wgOf_apply (x : Vec Ideal S1x1024x2048 .f32) (d f : Fin 1024) :
    wgOf permTerm x (ix2 d f) = x (ix3 0 d (⟨2 * f.val, by omega⟩ : Fin 2048)) := by
  have hf := f.isLt
  have hs : src (f.val % 128) = 2 * (f.val % 128) := by unfold src; rw [if_pos (by omega)]
  refine (pay10_apply _ _ _ _).trans ?_
  refine (Finset.sum_congr rfl fun k _ => ?_ : _ = ∑ k : Fin 256, chunk x (256 * (f.val / 128)) (ix3 0 d k) * (if k.val = (⟨2 * (f.val % 128), by omega⟩ : Fin 256).val then (1 : EReal) else 0)).trans ?_
  · refine congrArg _ ((permTerm_apply _ _).trans ?_)
    show (if k.val = src (f.val % 128) then (1 : EReal) else 0) = _
    rw [hs]
  · exact (sum_pick _ _).trans (chunk_at _ _ _ _ _ (by show 2 * f.val = 256 * (f.val / 128) + 2 * (f.val % 128); omega))

/-- The prepared linear weights are the odd columns. -/
theorem wlOf_apply (x : Vec Ideal S1x1024x2048 .f32) (d f : Fin 1024) :
    wlOf permTerm x (ix2 d f) = x (ix3 0 d (⟨1 + 2 * f.val, by omega⟩ : Fin 2048)) := by
  have hf := f.isLt
  have hs : src (128 + f.val % 128) = 2 * (f.val % 128) + 1 := by unfold src; rw [if_neg (by omega)]; omega
  refine (pay11_apply _ _ _ _).trans ?_
  refine (Finset.sum_congr rfl fun k _ => ?_ : _ = ∑ k : Fin 256, chunk x (256 * (f.val / 128)) (ix3 0 d k) * (if k.val = (⟨2 * (f.val % 128) + 1, by omega⟩ : Fin 256).val then (1 : EReal) else 0)).trans ?_
  · refine congrArg _ ((permTerm_apply _ _).trans ?_)
    show (if k.val = src (128 + f.val % 128) then (1 : EReal) else 0) = _
    rw [hs]
  · exact (sum_pick _ _).trans (chunk_at _ _ _ _ _ (by show 1 + 2 * f.val = 256 * (f.val / 128) + (2 * (f.val % 128) + 1); omega))

/-- The block's output at a row and a column is the row through the expert whose weights were prepared. -/
theorem outOf_apply (x0 : Vec Ideal S4096x128 .f32) (x3 x4 x6 : Vec Ideal S1x1x1024 .f32) (wg wl w2 : Vec Ideal S1024x1024 .bf16) (r : Fin 512) (d : Fin 1024) :
    outOf x0 x3 x4 x6 wg wl w2 (ix2 r d)
      = expert (fun k => x0 (ix2 (⟨8 * r.val + k.val / 128, by omega⟩ : Fin 4096) (⟨k.val % 128, by omega⟩ : Fin 128)))
        (fun k f => wg (ix2 k f)) (fun k f => wl (ix2 k f)) (fun f => x3 (ix3 0 0 f)) (fun f => x4 (ix3 0 0 f)) (fun f e => w2 (ix2 f e)) (fun e => x6 (ix3 0 0 e)) d := by
  have hg : ∀ f : Fin 1024, gluOf x0 wg x3 (ix2 r f)
      = min (pre (fun k => x0 (ix2 (⟨8 * r.val + k.val / 128, by omega⟩ : Fin 4096) (⟨k.val % 128, by omega⟩ : Fin 128))) (fun k => wg (ix2 k f)) (x3 (ix3 0 0 f))) (Ideal.ofBits .f32 0x40E00000#32) := by
    intro f
    refine (pay30_apply _ _ _ _ _ _ _ _ _ _ _ _).trans ?_
    unfold pre
    simp only [pay29_apply]
  have hl : ∀ f : Fin 1024, linOf x0 wl x4 (ix2 r f)
      = min (Ideal.ofBits .f32 0x40E00000#32) (max (Ideal.ofBits .f32 0xC0E00000#32) (pre (fun k => x0 (ix2 (⟨8 * r.val + k.val / 128, by omega⟩ : Fin 4096) (⟨k.val % 128, by omega⟩ : Fin 128))) (fun k => wl (ix2 k f)) (x4 (ix3 0 0 f)))) := by
    intro f
    refine (pay31_apply _ _ _ _ _ _ _ _ _ _ _ _).trans ?_
    unfold pre
    simp only [pay29_apply]
  unfold outOf
  refine (pay32_apply _ _ _ _ _ _ _).trans ?_
  unfold expert hid
  simp only [hg, hl]
  rfl

variable (m : (ℓ : Loc nD τ sig) → Buf (Elt Ideal) ℓ)

/-- The arguments as functions of their coordinates. -/
def xsOf (c : Dev nD) (i : Fin 2228224) (l : Fin 128) : EReal := m ((c : Thread nD τ).loc main_arg2) (ix2 i l)
def w1Of (c : Dev nD) (e : Fin 32) (k : Fin 1024) (p : Fin 2048) : EReal := m ((c : Thread nD τ).loc main_arg3) (ix3 e k p)
def b1Of (c : Dev nD) (e : Fin 32) (p : Fin 2048) : EReal := m ((c : Thread nD τ).loc main_arg4) (ix2 e p)
def w2Of (c : Dev nD) (e : Fin 32) (f d : Fin 1024) : EReal := m ((c : Thread nD τ).loc main_arg5) (ix3 e f d)
def b2Of (c : Dev nD) (e : Fin 32) (d : Fin 1024) : EReal := m ((c : Thread nD τ).loc main_arg6) (ix2 e d)

variable {m}

/-- A used tile's block: its 512 rows, each through the tile's expert. -/
theorem out_tile (h : InRange m) (hO : Ok m) (c : Dev nD) (t : Fin (cfgM m hO).N) (hl : t.val < (nvAt m).toNat) (r : Fin 512) (d : Fin 1024)
    (n : Fin 278528) (hn : n.val = 512 * t.val + r.val) (e : Fin 32) (he : e.val = (teAt m t.val t.isLt).toNat) :
    outOf (iblk m hO c 0 t) (iblk m hO c 3 t) (iblk m hO c 4 t) (iblk m hO c 6 t) (wgT m hO c t) (wlT m hO c t) (w2T m hO c t) (ix2 r d)
      = through (xsOf m c) (w1Of m c) (b1Of m c) (w2Of m c) (b2Of m c) e n d := by
  have ht : t.val < 544 := t.isLt
  have hx : ∀ k : Fin 1024, iblk m hO c 0 t (ix2 (⟨8 * r.val + k.val / 128, by omega⟩ : Fin 4096) (⟨k.val % 128, by omega⟩ : Fin 128)) = row (xsOf m c) n k := by
    intro k
    refine (iblk0_apply m hO c t _ (ix2 (⟨8 * n.val + k.val / 128, by omega⟩ : Fin 2228224) (⟨k.val % 128, by omega⟩ : Fin 128)) ?_ rfl).trans ?_
    · show 8 * n.val + k.val / 128 = rowTile m t.val * 4096 + (8 * r.val + k.val / 128)
      rw [h.rowTile_live t.val ht hl]; omega
    · rw [V_arg2]; rfl
  have hw : ∀ (k : Fin 1024) (p : Fin 2048), iblk m hO c 2 t (ix3 0 k p) = w1Of m c e k p := by
    intro k p
    refine (iblk2_apply m hO c t _ (ix3 e k p) he rfl rfl).trans ?_
    rw [V_arg3]; rfl
  have hg : ∀ k f : Fin 1024, wgT m hO c t (ix2 k f) = w1Of m c e k ⟨2 * f.val, by omega⟩ := by
    intro k f
    unfold wgT
    rw [iblk1_eq, V_v23]
    exact (wgOf_apply _ _ _).trans (hw _ _)
  have hli : ∀ k f : Fin 1024, wlT m hO c t (ix2 k f) = w1Of m c e k ⟨1 + 2 * f.val, by omega⟩ := by
    intro k f
    unfold wlT
    rw [iblk1_eq, V_v23]
    exact (wlOf_apply _ _ _).trans (hw _ _)
  have h2 : ∀ f d : Fin 1024, w2T m hO c t (ix2 f d) = w2Of m c e f d := by
    intro f d
    unfold w2T
    refine (pay6_apply _ _ _).trans ((iblk5_apply m hO c t _ (ix3 e f d) he rfl rfl).trans ?_)
    rw [V_arg5]; rfl
  have hb : ∀ f : Fin 1024, iblk m hO c 3 t (ix3 0 0 f) = b1Of m c e ⟨2 * f.val, by omega⟩ := fun f =>
    (iblk3_apply m hO c t _ (ix3 e 0 f) he rfl rfl).trans (V_v1 m c e f)
  have hbl : ∀ f : Fin 1024, iblk m hO c 4 t (ix3 0 0 f) = b1Of m c e ⟨1 + 2 * f.val, by omega⟩ := fun f =>
    (iblk4_apply m hO c t _ (ix3 e 0 f) he rfl rfl).trans (V_v3 m c e f)
  have hb2 : ∀ d : Fin 1024, iblk m hO c 6 t (ix3 0 0 d) = b2Of m c e d := fun d =>
    (iblk6_apply m hO c t _ (ix3 e 0 d) he rfl rfl).trans (V_v4 m c e d)
  refine (outOf_apply _ _ _ _ _ _ _ _ _).trans ?_
  unfold through
  simp only [hx, hg, hli, h2, hb, hbl, hb2]

end Cert.ExpertsValue

end
-- ==== Proof.Experts.Array.lean ====
/-
  The experts' kernel's result array over the extended reals.
-/
module

public import proofs.«01_k».proof.Proof.Experts.Value

@[expose] public section

set_option maxRecDepth 16384

noncomputable section

namespace Cert.ExpertsValue

open Idealize.ShloMosaic Idealize.ShloMosaic.TcCoe Idealize.SL.Sem
open Idealize.ShloMosaic.Pipeline (Dat)
open Cert.ExpertsIdeal Cert.ExpertsIdeal.Gen Cert.ExpertsIdeal.Launched
open Cert.ExpertsProducts Cert.ExpertsHost Cert.ExpertsSpec

variable (m : (ℓ : Loc nD τ sig) → Buf (Elt Ideal) ℓ)

def teOf (c : Dev nD) (t : Fin 544) : BitVec 32 := m ((c : Thread nD τ).loc main_arg0) (ix1 t)
def nvOf (c : Dev nD) : BitVec 32 := m ((c : Thread nD τ).loc main_arg1) (ix1 0)

/-- The result array as a function of the arguments. -/
def resultArr (c : Dev nD) : (⟨S2506752x128, .f32⟩ : BufTy).Contents (Elt Ideal) := fun i =>
  result (xsOf m c) (w1Of m c) (b1Of m c) (w2Of m c) (b2Of m c) (teOf m c) (nvOf m c) (i 0) (i 1)

variable {m}

theorem teOf_eq (c : Dev nD) (t : ℕ) (h : t < 544) : teOf m c ⟨t, h⟩ = teAt m t h := by
  obtain rfl : c = 0 := Subsingleton.elim _ _
  exact (teAt_arg m t h).symm
theorem nvOf_eq (c : Dev nD) : nvOf m c = nvAt m := by
  obtain rfl : c = 0 := Subsingleton.elim _ _
  exact (nvAt_arg m).symm

theorem zeros7 (j : S512x128.Idx) : k0_pay7 (F := Ideal) j = (0 : EReal) := by
  unfold k0_pay7; pointwise
theorem zeros8 (j : S4608x128.Idx) : k0_pay8 (F := Ideal) j = (0 : EReal) := by
  unfold k0_pay8; pointwise

/-- What a grid point leaves in its block, at the block's place in the result. -/
theorem yT_apply (h : InRange m) (hO : Ok m) (c : Dev nD) (t : Fin (cfgM m hO).N) (y : S4608x128.Idx) (i : S2506752x128.Idx)
    (h0 : (i 0).val = 4608 * t.val + (y 0).val) (h1 : (i 1).val = (y 1).val) : yT m hO c t y = resultArr m c i := by
  have ht : t.val < 544 := t.isLt
  have hy0 : (y 0).val < 4608 := (y 0).isLt
  have hy1 : (y 1).val < 128 := (y 1).isLt
  have hn := h.te t.val t.isLt
  have et : (i 0).val / 4608 = t.val := by omega
  unfold yT resultArr result
  by_cases hl : t.val < (nvAt m).toNat
  · rw [if_pos ((h.live_iff _).2 (by rw [coords_val]; exact hl))]
    unfold yOf
    by_cases h8 : (y 0).val % 9 = 8
    · rw [if_pos h8, dif_pos (show (i 0).val % 9 = 8 by omega)]
      exact zeros7 _
    · rw [if_neg h8, dif_neg (show ¬(i 0).val % 9 = 8 by omega), if_pos (by rw [et, nvOf_eq]; exact hl)]
      refine (out_tile h hO c t hl _ _ (⟨(i 0).val / 9, by omega⟩ : Fin 278528) ?_ ⟨(teAt m t.val t.isLt).toNat, hn⟩ rfl).trans ?_
      · show (i 0).val / 9 = 512 * t.val + (y 0).val / 9 % 512; omega
      · have ee : teOf m c ⟨(i 0).val / 4608, by omega⟩ = teAt m t.val t.isLt :=
          (teOf_eq c _ _).trans (teAt_congr m et _ _)
        refine congr (congrFun (congrArg (through (xsOf m c) (w1Of m c) (b1Of m c) (w2Of m c) (b2Of m c)) (Fin.ext ?_)) _) (Fin.ext ?_)
        · show (teAt m t.val t.isLt).toNat = (teOf m c ⟨(i 0).val / 4608, _⟩).toNat % 32
          rw [ee]; omega
        · show (128 * ((y 0).val % 9) + (y 1).val) % 1024 = 128 * ((i 0).val % 9) + (i 1).val; omega
  · rw [if_neg (fun hL => hl (by have := (h.live_iff _).1 hL; rwa [coords_val] at this))]
    refine (zeros8 _).trans ?_
    by_cases h8 : (i 0).val % 9 = 8
    · rw [dif_pos h8]
    · rw [dif_neg h8, if_neg (by rw [et, nvOf_eq]; exact hl)]

theorem emb7_row (hO : Ok m) (t : Fin (cfgM m hO).N) (y : S4608x128.Idx) :
    ((((cfgM m hO).win 7).blk t).view.emb y (0 : Fin 2)).val = 4608 * t.val + (y 0).val := by
  show (BitVec.ofNat 32 (grid0.coords t 0).val).toNat * 4608 + 1 * (y 0).val = _
  rw [word_toNat _ (coord_lt _), coords_val]; omega
theorem emb7_col (hO : Ok m) (t : Fin (cfgM m hO).N) (y : S4608x128.Idx) :
    ((((cfgM m hO).win 7).blk t).view.emb y (1 : Fin 2)).val = (y 1).val := by
  show 0 * 128 + 1 * (y 1).val = _; omega

theorem emb7_eq (hO : Ok m) (t : Fin (cfgM m hO).N) (y : S4608x128.Idx) (i : S2506752x128.Idx)
    (h0 : 4608 * t.val + (y 0).val = (i 0).val) (h1 : (y 1).val = (i 1).val) : (((cfgM m hO).win 7).blk t).view.emb y = i := by
  refine funext fun a => Fin.ext ?_
  match a with
  | ⟨0, _⟩ => exact (emb7_row hO t y).trans h0
  | ⟨1, _⟩ => exact (emb7_col hO t y).trans h1

theorem mem7 (hO : Ok m) (t : Fin (cfgM m hO).N) (y : S4608x128.Idx) (i : S2506752x128.Idx)
    (h0 : 4608 * t.val + (y 0).val = (i 0).val) (h1 : (y 1).val = (i 1).val) : i ∈ (((cfgM m hO).win 7).blk t).view.set := by
  have e := View.emb_mem_set (((cfgM m hO).win 7).blk t).view y
  rw [emb7_eq hO t y i h0 h1] at e
  exact e

/-- The call's result array. -/
theorem arr (h : InRange m) (hO : Ok m) (c : Dev nD) : (dats m hO 0 c).arrAt 7 (cfgM m hO).N = resultArr m c := by
  refine (dats m hO 0 c).arrAt_eq_of_emb 7 (resultArr m c) (fun t _ y => ?_) fun i => ?_
  · rw [after7]
    have e1 := emb7_row hO t y
    have e2 := emb7_col hO t y
    have e3 := yT_apply h hO c t y
    have e4 := e3 _ e1 e2
    refine Eq.trans (cast_eq _ _) ?_
    refine Eq.trans ?_ e4
    exact congrArg (yT m hO c t) (funext fun a => Fin.ext rfl)
  · obtain ⟨i', hi'⟩ : ∃ j : S2506752x128.Idx, j = i := ⟨i, rfl⟩
    have hi : (i' 0).val < 2506752 := (i' 0).isLt
    obtain ⟨t, ht⟩ : ∃ t : Fin (cfgM m hO).N, t.val = (i' 0).val / 4608 := ⟨⟨(i' 0).val / 4608, by show (i' 0).val / 4608 < 544; omega⟩, rfl⟩
    refine ⟨t, flush7 (adm m hO) t, ?_⟩
    rw [← hi']
    exact mem7 hO t (ix2 (⟨(i' 0).val % 4608, by omega⟩ : Fin 4608) (i' 1)) i' (by show 4608 * t.val + (i' 0).val % 4608 = (i' 0).val; omega) rfl

end Cert.ExpertsValue

end
-- ==== Proof.Experts.Ref.lean ====
/-
  The reference of the experts over the extended reals: the sum over the experts, each with weight one or zero, is the tile's
  expert's output.
-/
module

public import proofs.«01_k».proof.Proof.Gen.ExpertsRefIdeal.Read
public import proofs.«01_k».proof.Proof.Experts.Spec
public import Idealize.ShloMosaic.Lib.WordCmp

@[expose] public section

set_option maxRecDepth 16384

noncomputable section

namespace Cert.ExpertsRef

open Idealize.ShloMosaic Idealize.ShloMosaic.TcCoe Idealize.SL.Sem
open Cert.ExpertsRefIdeal Cert.ExpertsRefIdeal.Read
open Cert.ExpertsSpec

variable (x0 : (⟨S544, .i32⟩ : BufTy).Contents (Elt Ideal)) (x1 : (⟨S1, .i32⟩ : BufTy).Contents (Elt Ideal))
  (x2 : (⟨S2228224x128, .f32⟩ : BufTy).Contents (Elt Ideal)) (x3 : (⟨S32x1024x2048, .f32⟩ : BufTy).Contents (Elt Ideal))
  (x4 : (⟨S32x2048, .f32⟩ : BufTy).Contents (Elt Ideal)) (x5 : (⟨S32x1024x1024, .f32⟩ : BufTy).Contents (Elt Ideal))
  (x6 : (⟨S32x1024, .f32⟩ : BufTy).Contents (Elt Ideal))

/-- A hidden value of the reference. -/
theorem v22_at (e : Fin 32) (n : Fin 278528) (p : Fin 2048) :
    val_main_v22 (F := Ideal) x2 x3 x4 (ix3 e n p) = pre (row (fun i l => x2 (ix2 i l)) n) (fun k => x3 (ix3 e k p)) (x4 (ix2 e p)) := by
  rw [val_main_v22_apply, val_main_v19_apply, val_main_v18_apply, val_main_v21_apply, val_main_v20_apply]
  unfold pre row
  refine Ideal.add_congr (Finset.sum_congr rfl fun k _ => ?_) (congrArg x4 (by idx_ext))
  rw [val_main_v0_apply, mul_comm]
  refine Ideal.mul_congr (congrArg x2 ?_) (congrArg x3 ?_)
  · refine funext fun a => ?_
    match a with
    | ⟨0, _⟩ => exact Fin.ext (show (n.val * 1024 + k.val) / 128 = 8 * n.val + k.val / 128 by omega)
    | ⟨1, _⟩ => exact Fin.ext (show (n.val * 1024 + k.val) % 128 = k.val % 128 by omega)
  · idx_ext

theorem v23_at (e : Fin 32) (n : Fin 278528) (f : Fin 1024) :
    val_main_v23 (F := Ideal) x2 x3 x4 (ix3 e n f) = val_main_v22 (F := Ideal) x2 x3 x4 (ix3 e n ⟨2 * f.val, by omega⟩) := by
  unfold val_main_v23
  pointwise
theorem v24_at (e : Fin 32) (n : Fin 278528) (f : Fin 1024) :
    val_main_v24 (F := Ideal) x2 x3 x4 (ix3 e n f) = val_main_v22 (F := Ideal) x2 x3 x4 (ix3 e n ⟨1 + 2 * f.val, by omega⟩) := by
  unfold val_main_v24
  pointwise

/-- The gated product of the reference. -/
theorem v39_at (e : Fin 32) (n : Fin 278528) (f : Fin 1024) :
    val_main_v39 (F := Ideal) x2 x3 x4 (ix3 e n f)
      = hid (val_main_v23 (F := Ideal) x2 x3 x4 (ix3 e n f)) (val_main_v24 (F := Ideal) x2 x3 x4 (ix3 e n f)) := by
  unfold hid Ideal.logistic
  simp only [val_main_v39_apply, val_main_v36_apply, val_main_v38_apply, val_main_v35_apply, val_main_v34_apply, val_main_v33_apply, val_main_v32_apply, val_main_v31_apply,
    val_main_v30_apply, val_main_v29_apply, val_main_v28_apply, val_main_v27_apply, val_main_v26_apply, val_main_v25_apply, val_main_v37_apply, val_main_call0_v4_apply,
    val_main_call0_v3_apply, val_main_call0_v2_apply, val_main_call0_v1_apply, val_main_call0_v0_apply, val_main_cst_apply, val_main_cst_0_apply, val_main_cst_1_apply,
    val_main_cst_2_apply, val_main_cst_3_apply, val_main_cst_4_apply, val_main_cst_5_apply]
  rw [show FloatOps.ofBits (F := Ideal) FTy.f32 1065353216#32 = (1 : EReal) from Ideal.ofBits_one_f32]
  rfl

/-- An expert's output of a row in the reference. -/
theorem v43_at (e : Fin 32) (n : Fin 278528) (d : Fin 1024) :
    val_main_v43 (F := Ideal) x2 x3 x4 x5 x6 (ix3 e n d)
      = through (fun i l => x2 (ix2 i l)) (fun e k p => x3 (ix3 e k p)) (fun e p => x4 (ix2 e p)) (fun e f d => x5 (ix3 e f d)) (fun e d => x6 (ix2 e d)) e n d := by
  rw [val_main_v43_apply, val_main_v40_apply, val_main_v42_apply, val_main_v41_apply]
  unfold through expert
  refine Ideal.add_congr (Finset.sum_congr rfl fun f _ => ?_) (congrArg x6 (by idx_ext))
  refine Ideal.mul_congr ?_ (congrArg x5 (by idx_ext))
  refine Eq.trans (congrArg (val_main_v39 (F := Ideal) x2 x3 x4) (by idx_ext : _ = ix3 e n f)) ?_
  rw [v39_at, v23_at, v24_at, v22_at, v22_at]

theorem v8_at (i : S_.Idx) : val_main_v8 (F := Ideal) x1 i = x1 (ix1 0) := by
  unfold val_main_v8
  exact shapeCast_apply x1 _ i (ix1 0) (by
    rw [Shape.rowMajor_val_one]
    have h : (S_.rowMajor i).val < 1 := (S_.rowMajor i).isLt
    show 0 = (S_.rowMajor i).val
    omega)

/-- The weight's word: the expert is the tile's, and the tile is below the number of used ones. -/
theorem weight_word (t : Fin 544) (e : Fin 32) : val_main_v14 (F := Ideal) x0 x1 (ix2 t e)
    = FloatOps.uitofp (F := Ideal) .f32 (IntOp.andi (IntOp.cmpi .eq (x0 (ix1 t)) (BitVec.ofNat 32 e.val)) (IntOp.cmpi .slt (BitVec.ofNat 32 t.val) (x1 (ix1 0)))) := by
  rw [val_main_v14_apply, val_main_v13_apply, val_main_v12_apply, val_main_v11_apply, val_main_v10_apply, val_main_v9_apply, v8_at, val_main_v7_apply, val_main_v6_apply,
    val_main_v5_apply, val_main_v4_apply, val_main_v3_apply, val_main_v2_apply, val_main_v1_apply,
    show idx_main_v1 (idx_main_v4 (ix2 t e)) = ix1 t by idx_ext]
  rfl

/-- A signed comparison of small words compares the numbers. -/
theorem slt_small (n : ℕ) (w : BitVec 32) (hn : n < 544) (hw : w.toNat < 2147483648) : IntOp.cmpi .slt (BitVec.ofNat 32 n) w = BitVec.ofBool (decide (n < w.toNat)) := by
  rw [WordCmp.cmpi_slt_eq]
  have e1 : (BitVec.ofNat 32 n).toNat = n := by rw [BitVec.toNat_ofNat]; omega
  rw [BitVec.toInt_eq_toNat_of_lt (by omega), BitVec.toInt_eq_toNat_of_lt (by omega), e1]
  exact congrArg BitVec.ofBool (decide_eq_decide.2 Int.ofNat_lt)

/-- The weight of an expert for a row: one if it is its tile's and the tile is used, zero otherwise. -/
theorem v46_at (hnv : (x1 (ix1 0) : BitVec 32).toNat < 2147483648) (e : Fin 32) (n : Fin 278528) (d : Fin 1024) :
    val_main_v46 (F := Ideal) x0 x1 (ix3 e n d)
      = if (x0 (ix1 (⟨n.val / 512, by omega⟩ : Fin 544)) : BitVec 32) = BitVec.ofNat 32 e.val ∧ n.val / 512 < (x1 (ix1 0) : BitVec 32).toNat then (1 : EReal) else 0 := by
  have ei : idx_main_v15 (idx_main_v16 (idx_main_v17 (idx_main_v44 (idx_main_v45 (idx_main_v46 (ix3 e n d)))))) = ix2 (⟨n.val / 512, by omega⟩ : Fin 544) e :=
    funext fun a => by
      match a with
      | ⟨0, _⟩ => exact Fin.ext (show (n.val * 32 + e.val) / 16384 = n.val / 512 by omega)
      | ⟨1, _⟩ => exact Fin.ext (show (n.val * 32 + e.val) % 32 = e.val by omega)
  rw [val_main_v46_apply, val_main_v45_apply, val_main_v44_apply, val_main_v17_apply, val_main_v16_apply, val_main_v15_apply, ei, weight_word]
  rw [WordCmp.cmpi_eq_eq, slt_small _ _ (by omega) hnv, WordCmp.andi_ofBool]
  by_cases h : (x0 (ix1 (⟨n.val / 512, by omega⟩ : Fin 544)) : BitVec 32) = BitVec.ofNat 32 e.val ∧ n.val / 512 < (x1 (ix1 0) : BitVec 32).toNat
  · rw [if_pos h, decide_eq_true h.1, decide_eq_true h.2]
    show (((BitVec.ofBool true).toNat : ℝ) : EReal) = 1
    simp
  · rw [if_neg h, ← Bool.decide_and, decide_eq_false h]
    show (((BitVec.ofBool false).toNat : ℝ) : EReal) = 0
    simp

/-- A row of the sum over the experts: its tile's expert's output, or zero in a tile past the used ones. -/
theorem v48_at (hte : ∀ t : Fin 544, (x0 (ix1 t) : BitVec 32).toNat < 32) (hnv : (x1 (ix1 0) : BitVec 32).toNat < 2147483648) (n : Fin 278528) (d : Fin 1024) :
    val_main_v48 (F := Ideal) x0 x1 x2 x3 x4 x5 x6 (ix2 n d)
      = if n.val / 512 < (x1 (ix1 0) : BitVec 32).toNat then
          through (fun i l => x2 (ix2 i l)) (fun e k p => x3 (ix3 e k p)) (fun e p => x4 (ix2 e p)) (fun e f d => x5 (ix3 e f d)) (fun e d => x6 (ix2 e d))
            ⟨(x0 (ix1 (⟨n.val / 512, by omega⟩ : Fin 544)) : BitVec 32).toNat % 32, by omega⟩ n d
        else 0 := by
  have hz : (val_main_cst_6 (F := Ideal)) (Shape.Idx.first Gen.h_S_) = (0 : EReal) := Ideal.ofBits_zero_f32
  have ht := hte ⟨n.val / 512, by omega⟩
  rw [val_main_v48_apply, hz, zero_add]
  have term : ∀ e : Fin 32, val_main_v47 (F := Ideal) x0 x1 x2 x3 x4 x5 x6 (idx_main_v48 (ix2 n d) e)
      = (if (x0 (ix1 (⟨n.val / 512, by omega⟩ : Fin 544)) : BitVec 32) = BitVec.ofNat 32 e.val ∧ n.val / 512 < (x1 (ix1 0) : BitVec 32).toNat then (1 : EReal) else 0)
        * val_main_v43 (F := Ideal) x2 x3 x4 x5 x6 (ix3 e n d) := fun e => by
    rw [show idx_main_v48 (ix2 n d) e = ix3 e n d by idx_ext, val_main_v47_apply, v46_at x0 x1 hnv]
    rfl
  rw [Finset.sum_congr rfl fun e _ => term e]
  by_cases hu : n.val / 512 < (x1 (ix1 0) : BitVec 32).toNat
  · rw [if_pos hu, Finset.sum_eq_single (⟨(x0 (ix1 (⟨n.val / 512, by omega⟩ : Fin 544)) : BitVec 32).toNat % 32, by omega⟩ : Fin 32)]
    · rw [if_pos ⟨BitVec.eq_of_toNat_eq (by rw [BitVec.toNat_ofNat]; simp only []; omega), hu⟩, one_mul, v43_at]
    · intro e _ hne
      rw [if_neg, zero_mul]
      intro ⟨he, _⟩
      refine hne (Fin.ext ?_)
      have := congrArg BitVec.toNat he
      rw [BitVec.toNat_ofNat] at this
      show e.val = _ % 32
      have := e.isLt
      omega
    · exact fun h => absurd (Finset.mem_univ _) h
  · rw [if_neg hu]
    exact Finset.sum_eq_zero fun e _ => by rw [if_neg (fun h => hu h.2), zero_mul]

/-- A line of a row in the padded array: one of its eight, or zeros. -/
theorem v50_at (n : Fin 278528) (j : Fin 9) (l : Fin 128) :
    val_main_v50 (F := Ideal) x0 x1 x2 x3 x4 x5 x6 (ix3 n j l)
      = if h : j.val = 8 then (0 : EReal)
        else val_main_v48 (F := Ideal) x0 x1 x2 x3 x4 x5 x6 (ix2 n ⟨128 * j.val + l.val, by omega⟩) := by
  unfold val_main_v50
  pointwise
  have hj := j.isLt
  by_cases h : j.val = 8
  · rw [dif_neg (by omega), dif_pos h]
    show (((0#32 : BitVec 32).toInt : ℝ) : EReal) = 0
    simp
  · rw [dif_pos (by omega), dif_neg h, val_main_v49_apply]
    refine congrArg _ (funext fun a => ?_)
    match a with
    | ⟨0, _⟩ => exact Fin.ext (show ((n.val * 8 + j.val) * 128 + l.val) / 1024 = n.val by omega)
    | ⟨1, _⟩ => exact Fin.ext (show ((n.val * 8 + j.val) * 128 + l.val) % 1024 = 128 * j.val + l.val by omega)

/-- The reference's result. -/
theorem value (hte : ∀ t : Fin 544, (x0 (ix1 t) : BitVec 32).toNat < 32) (hnv : (x1 (ix1 0) : BitVec 32).toNat < 2147483648) (i : S2506752x128.Idx) :
    val_main_v51 (F := Ideal) x0 x1 x2 x3 x4 x5 x6 i
      = result (fun i l => x2 (ix2 i l)) (fun e k p => x3 (ix3 e k p)) (fun e p => x4 (ix2 e p)) (fun e f d => x5 (ix3 e f d)) (fun e d => x6 (ix2 e d))
          (fun t => x0 (ix1 t)) (x1 (ix1 0)) (i 0) (i 1) := by
  have hi0 : (i 0).val < 2506752 := (i 0).isLt
  have hi1 : (i 1).val < 128 := (i 1).isLt
  rw [val_main_v51_apply]
  have e : idx_main_v51 i = ix3 (⟨(i 0).val / 9, by omega⟩ : Fin 278528) (⟨(i 0).val % 9, by omega⟩ : Fin 9) (⟨(i 1).val, hi1⟩ : Fin 128) := funext fun a => by
    match a with
    | ⟨0, _⟩ => exact Fin.ext (show ((i 0).val * 128 + (i 1).val) / 1152 = (i 0).val / 9 by omega)
    | ⟨1, _⟩ => exact Fin.ext (show ((i 0).val * 128 + (i 1).val) / 128 % 9 = (i 0).val % 9 by omega)
    | ⟨2, _⟩ => exact Fin.ext (show ((i 0).val * 128 + (i 1).val) % 128 = (i 1).val by omega)
  rw [e, v50_at]
  unfold result
  by_cases h8 : (i 0).val % 9 = 8
  · rw [dif_pos h8, dif_pos h8]
  · rw [dif_neg h8, dif_neg h8, v48_at x0 x1 x2 x3 x4 x5 x6 hte hnv]
    have et : (i 0).val / 9 / 512 = (i 0).val / 4608 := by omega
    simp only [et]

end Cert.ExpertsRef

end
-- ==== Proof.Experts.Claims.lean ====
/-
  The claims about the experts: the call runs and leaves its arguments as they were, and over the extended reals its result is the
  reference's.
-/
module

public import proofs.«01_k».proof.Defs
public import proofs.«01_k».proof.Proof.ExpertsBits.Tables
public import proofs.«01_k».proof.Proof.ExpertsBits.Call
public import proofs.«01_k».proof.Proof.Experts.Array
public import proofs.«01_k».proof.Proof.Experts.Ref
public import proofs.«01_k».proof.Proof.Gen.Pre_tables
public import proofs.«01_k».proof.Proof.Gen.Experts
public import proofs.«01_k».proof.Proof.Gen.ExpertsIdeal
public import proofs.«01_k».proof.Proof.Gen.ExpertsRefIdeal

@[expose] public section

noncomputable section

namespace Cert.ExpertsClaims

open Idealize.ShloMosaic Idealize.ShloMosaic.TcCoe Idealize.SL.Sem

/-- The precondition, element by element, for the kernel on bit patterns. -/
theorem in_range_bits (m : (ℓ : Loc Cert.Experts.nD Cert.Experts.τ Cert.Experts.sig) → Buf (Elt Bits) ℓ) (h : Cert.Pre_Experts m) :
    Cert.Experts.Launched.InRange m :=
  Cert.Experts.Launched.inRange_of m (fun i => congrFun (h 0).1 i) (fun i => congrFun (h 0).2 i)

/-- The same over the extended reals. -/
theorem in_range (m : (ℓ : Loc Cert.ExpertsIdeal.nD Cert.ExpertsIdeal.τ Cert.ExpertsIdeal.sig) → Buf (Elt Ideal) ℓ) (h : Cert.Pre_ExpertsIdeal m) :
    Cert.ExpertsIdeal.Launched.InRange m :=
  Cert.ExpertsIdeal.Launched.inRange_of m (fun i => congrFun (h 0).1 i) (fun i => congrFun (h 0).2 i)

theorem kernel_runs : Cert.quiescent_Experts := by
  intro m g h
  exact θ_run_mono (Cert.Experts.Launched.runs m g (in_range_bits m h).ok) fun r hr => hr.2

theorem ideal_runs : Cert.quiescent_ExpertsIdeal := by
  intro m g h
  exact θ_run_mono (Cert.ExpertsIdeal.Launched.runs m g (in_range m h).ok) fun r hr => hr.2

theorem ref_runs : Cert.quiescent_ExpertsRefIdeal := by
  intro m g _
  refine θ_run_mono (Cert.ExpertsRefIdeal.Value.run m g) fun r h => ⟨fun c => (h c).2, sem_eq_zero_of_no_sems (by decide) _⟩

theorem ref_runs_pre : Cert.quiescent_ExpertsRefIdeal_pre_tables := by
  intro m g _
  refine θ_run_mono (Cert.ExpertsRefIdeal.Value.run m g) fun r h => ⟨fun c => (h c).2, sem_eq_zero_of_no_sems (by decide) _⟩

theorem preserved : Cert.preserves_Experts_ExpertsIdeal := trivial

/-- The reference's result on the kernel's arguments is the kernel's result array. -/
theorem result (m : (ℓ : Loc Cert.ExpertsIdeal.nD Cert.ExpertsIdeal.τ Cert.ExpertsIdeal.sig) → Buf (Elt Ideal) ℓ) (h : Cert.Pre_ExpertsIdeal m)
    (c : Dev Cert.ExpertsIdeal.nD) :
    Cert.ExpertsRefIdeal.Read.val_main_v51 (F := Ideal) (m ((c : Thread Cert.ExpertsIdeal.nD Cert.ExpertsIdeal.τ).loc Cert.ExpertsIdeal.main_arg0))
        (m ((c : Thread Cert.ExpertsIdeal.nD Cert.ExpertsIdeal.τ).loc Cert.ExpertsIdeal.main_arg1))
        (m ((c : Thread Cert.ExpertsIdeal.nD Cert.ExpertsIdeal.τ).loc Cert.ExpertsIdeal.main_arg2))
        (m ((c : Thread Cert.ExpertsIdeal.nD Cert.ExpertsIdeal.τ).loc Cert.ExpertsIdeal.main_arg3))
        (m ((c : Thread Cert.ExpertsIdeal.nD Cert.ExpertsIdeal.τ).loc Cert.ExpertsIdeal.main_arg4))
        (m ((c : Thread Cert.ExpertsIdeal.nD Cert.ExpertsIdeal.τ).loc Cert.ExpertsIdeal.main_arg5))
        (m ((c : Thread Cert.ExpertsIdeal.nD Cert.ExpertsIdeal.τ).loc Cert.ExpertsIdeal.main_arg6))
      = Cert.ExpertsValue.resultArr m c := by
  have hr := in_range m h
  refine funext fun i => Cert.ExpertsRef.value _ _ _ _ _ _ _ (fun t => ?_) ?_ i
  · have := hr.te t.val t.isLt
    rw [← Cert.ExpertsValue.teOf_eq c] at this
    exact this
  · have := hr.nv.2
    rw [← Cert.ExpertsValue.nvOf_eq c] at this
    exact this

theorem equal : Cert.algebraic_ExpertsIdeal_ExpertsRefIdeal := by
  intro m g m' g' hpre hagree
  refine ⟨fun c => Cert.ExpertsValue.resultArr m c, ?_, ?_⟩
  · refine θ_run_mono (Cert.ExpertsIdeal.Launched.runs m g (in_range m hpre).ok) fun r hr c => ⟨?_, hr.2.1 c⟩
    exact (hr.1 c).trans (Cert.ExpertsValue.arr (in_range m hpre) _ c)
  · refine θ_run_mono (Cert.ExpertsRefIdeal.Value.run m' g') fun r hr c => ⟨?_, (hr c).2⟩
    refine (hr c).1.trans ?_
    rw [Cert.ExpertsRefIdeal.Read.val_main_v51_eq, (hagree c).1, (hagree c).2.1, (hagree c).2.2.1, (hagree c).2.2.2.1, (hagree c).2.2.2.2.1, (hagree c).2.2.2.2.2.1,
      (hagree c).2.2.2.2.2.2]
    exact result m hpre c

end Cert.ExpertsClaims

end
-- ==== Proof.Inproj.Host.lean ====
/-
  What the launch's host lines write: the three rope tables. At a lane of the first sixteen of a head they hold the cosine and the sine
  of the position's angle, the sine with the sign of its side; at the other lanes one, zero and zero.
-/
module

public import proofs.«01_k».proof.Defs
public import proofs.«01_k».proof.Proof.Gen.InprojIdeal.Frame
public import Idealize.ShloMosaic.Lib.Pipeline.ValueKit
public import Idealize.ShloMosaic.Lib.WordCmp

@[expose] public section

set_option maxRecDepth 16384

noncomputable section

namespace Cert.InprojHost

open Idealize.ShloMosaic Idealize.ShloMosaic.TcCoe Idealize.SL.Sem
open Cert.InprojIdeal Cert.InprojIdeal.Gen

variable (m : (ℓ : Loc nD τ sig) → Buf (Elt Ideal) ℓ)

/-! ## The words of a lane -/

/-- A word at every lane. -/
def allLanes (n : BitVec 32) : IVec S128 32 := broadcastInDim S128 ![] bcast_S_S128 (constantI S_ 32 n)

/-- The divisor the remainder is taken by: sixty-four, one in place of zero. -/
def divisor : IVec S_ 32 :=
  select (cmpi .eq (constantI S_ 32 64#32) (constantI S_ 32 0#32)) (constantI S_ 32 1#32) (constantI S_ 32 64#32)

def remRaw : IVec S128 32 :=
  Host.remsi (iotaInDim S128 32 0) (broadcastInDim S128 ![] bcast_S_S128 divisor)

/-- The lane's place within its head. -/
def place : IVec S128 32 :=
  select (andi (cmpi .ne (cmpi .slt remRaw (allLanes 0#32)) (broadcastInDim S128 ![] bcast_S_S128 (cmpi .slt divisor (constantI S_ 32 0#32))))
      (cmpi .ne remRaw (allLanes 0#32)))
    (addi remRaw (broadcastInDim S128 ![] bcast_S_S128 divisor)) remRaw

def isLow : IVec S128 1 := cmpi .slt place (allLanes 8#32)
def isHigh : IVec S128 1 := andi (cmpi .sge place (allLanes 8#32)) (cmpi .slt place (allLanes 16#32))

/-- The frequency a lane takes. -/
def freq : IVec S128 32 :=
  select isLow place (select isHigh (subi place (allLanes 8#32)) (allLanes 0#32))
def column : IVec S128x1 32 :=
  broadcastInDim S128x1 ![0] bcast_S128_S128x1_0 (select (cmpi .slt freq (allLanes 0#32)) (addi freq (allLanes 8#32)) freq)

/-! ## The angles -/

def everyFreq (n : BitVec 32) : FVec Ideal S8 .f32 :=
  broadcastInDim S8 ![] bcast_S_S8 (constant (F := Ideal) S_ .f32 n)
def angle : FVec Ideal S2048x8 .f32 :=
  mulf (broadcastInDim S2048x8 ![0, 1] bcast_S2048x1_S2048x8_0_1 (broadcastInDim S2048x1 ![0] bcast_S2048_S2048x1_0 (sitofp (F := Ideal) .f32 (iotaInDim S2048 32 0))))
    (broadcastInDim S2048x8 ![0, 1] bcast_S1x8_S2048x8_0_1 (broadcastInDim S1x8 ![1] bcast_S8_S1x8_1
      (Host.powf (everyFreq 0x48F42400#32)
        (Host.divf (Host.negf (addf (everyFreq 0x00000000#32) (mulf (everyFreq 0x40000000#32) (sitofp (F := Ideal) .f32 (iotaInDim S8 32 0)))))
          (everyFreq 0x41800000#32)))))

/-- A column of the angles' function at every lane. -/
def taken (f : FVec Ideal S2048x8 .f32) : FVec Ideal S2048x128 .f32 :=
  Host.gather gather_S2048x8_S128x1_S2048x128_0_1_n_n_1_1_20481 f column

/-- A table: `f` on the lanes of the condition, a number elsewhere. -/
def table (b : IVec S128 1) (f : FVec Ideal S2048x128 .f32) (n : BitVec 32) :
    FVec Ideal S2048x128 .f32 :=
  select (broadcastInDim S2048x128 ![0, 1] bcast_S1x128_S2048x128_0_1 (broadcastInDim S1x128 ![1] bcast_S128_S1x128_1 b)) f
    (broadcastInDim S2048x128 ![] bcast_S_S2048x128 (constant (F := Ideal) S_ .f32 n))

theorem V_cos (c : Dev nD) : V m c main_v40 = table (ori isLow isHigh) (taken (Host.cos angle)) 0x3F800000#32 := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results
  simp only [StableHlo.TRef.ofBuf_toBuf]
  rfl
theorem V_up (c : Dev nD) : V m c main_v49 = table isHigh (taken (Host.sin angle)) 0x00000000#32 := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results
  simp only [StableHlo.TRef.ofBuf_toBuf]
  rfl
theorem V_down (c : Dev nD) : V m c main_v59 = table isLow (Host.negf (taken (Host.sin angle))) 0x00000000#32 := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results
  simp only [StableHlo.TRef.ofBuf_toBuf]
  rfl

/-! ## The tables at a lane -/

theorem word_low : ∀ n : Fin 128, isLow (ix1 n) = BitVec.ofBool (decide (n.val % 64 < 8)) := by
  intro n
  unfold isLow place remRaw allLanes divisor
  pointwise
  revert n
  decide +kernel
theorem word_high : ∀ n : Fin 128, isHigh (ix1 n) = BitVec.ofBool (decide (8 ≤ n.val % 64 ∧ n.val % 64 < 16)) := by
  intro n
  unfold isHigh place remRaw allLanes divisor
  pointwise
  revert n
  decide +kernel
theorem word_column : ∀ n : Fin 128, column (ix2 n 0) = BitVec.ofNat 32 (if n.val % 64 < 8 then n.val % 64 else if n.val % 64 < 16 then n.val % 64 - 8 else 0) := by
  intro n
  unfold column freq isLow isHigh place remRaw allLanes divisor
  pointwise
  revert n
  decide +kernel

theorem gather_at (f : FVec Ideal S2048x8 .f32) (ix : IVec S128x1 32) (r : Fin 2048) (l : Fin 128) :
    Host.gather gather_S2048x8_S128x1_S2048x128_0_1_n_n_1_1_20481 f ix (ix2 r l) = f (ix2 r ⟨min (ix (ix2 l 0)).toInt.toNat 7, by omega⟩) := by
  unfold Host.gather
  congr 1
  funext a
  refine Fin.ext ?_
  show gather_S2048x8_S128x1_S2048x128_0_1_n_n_1_1_20481.start (ix2 r l) ix a + gather_S2048x8_S128x1_S2048x128_0_1_n_n_1_1_20481.batchCoord (ix2 r l) a
      + gather_S2048x8_S128x1_S2048x128_0_1_n_n_1_1_20481.offCoord (ix2 r l) a = _
  rw [GatherDims.batchCoord_eq_zero _ _ _ List.not_mem_nil]
  rcases (show ∀ a : Fin 2, a = 0 ∨ a = 1 by decide) a with rfl | rfl
  · unfold GatherDims.start GatherDims.offCoord
    rw [dif_neg (by decide), dif_pos (by decide)]
    rw [Nat.add_zero, Nat.zero_add]
    rfl
  · rw [GatherDims.offCoord_eq_zero _ _ _ (by decide)]
    unfold GatherDims.start
    rw [dif_pos (by decide), Nat.add_zero]
    refine congrArg (fun z => min (ix z).toInt.toNat 7) ?_
    funext b
    refine Fin.ext ?_
    match b with
    | ⟨0, _⟩ => rfl
    | ⟨1, _⟩ => rfl

/-- The frequency of a lane, as a number. -/
def freqOf (l : ℕ) : ℕ := if l % 64 < 8 then l % 64 else if l % 64 < 16 then l % 64 - 8 else 0

theorem freqOf_lt (l : ℕ) : freqOf l < 8 := by unfold freqOf; split_ifs <;> omega

theorem taken_at (f : FVec Ideal S2048x8 .f32) (r : Fin 2048) (l : Fin 128) :
    taken f (ix2 r l) = f (ix2 r ⟨freqOf l.val, freqOf_lt _⟩) := by
  unfold taken
  rw [gather_at]
  refine congrArg (fun z => f (ix2 r z)) (Fin.ext ?_)
  show min (column (ix2 l 0)).toInt.toNat 7 = freqOf l.val
  rw [word_column]
  change min (BitVec.ofNat 32 (freqOf l.val)).toInt.toNat 7 = freqOf l.val
  have h := freqOf_lt l.val
  generalize freqOf l.val = n at h
  revert n
  decide

theorem table_at (b : IVec S128 1) (f : FVec Ideal S2048x128 .f32) (n : BitVec 32) (r : Fin 2048) (l : Fin 128) (p : Prop) [Decidable p]
    (hb : b (ix1 l) = BitVec.ofBool (decide p)) : table b f n (ix2 r l) = if p then f (ix2 r l) else Ideal.ofBits .f32 n := by
  unfold table
  pointwise
  rw [hb]
  by_cases h : p
  · rw [if_pos h, decide_eq_true h]
    rfl
  · rw [if_neg h, decide_eq_false h]
    rfl

/-! ## The tables at a row and a lane -/

theorem cos_at (r : Fin 2048) (l : Fin 128) : table (ori isLow isHigh) (taken (Host.cos (F := Ideal) angle)) 0x3F800000#32 (ix2 r l)
    = if l.val % 64 < 16 then Host.cos (F := Ideal) angle (ix2 r ⟨freqOf l.val, freqOf_lt _⟩) else 1 := by
  rw [table_at _ _ _ r l (l.val % 64 < 16), taken_at, Ideal.ofBits_one_f32]
  show IntOp.ori (isLow (ix1 l)) (isHigh (ix1 l)) = _
  rw [word_low, word_high]
  revert l
  decide
theorem up_at (r : Fin 2048) (l : Fin 128) : table isHigh (taken (Host.sin (F := Ideal) angle)) 0x00000000#32 (ix2 r l)
    = if 8 ≤ l.val % 64 ∧ l.val % 64 < 16 then Host.sin (F := Ideal) angle (ix2 r ⟨freqOf l.val, freqOf_lt _⟩) else 0 := by
  rw [table_at _ _ _ r l _ (word_high l), taken_at, Ideal.ofBits_zero_f32]
theorem down_at (r : Fin 2048) (l : Fin 128) : table isLow (Host.negf (F := Ideal) (taken (Host.sin (F := Ideal) angle))) 0x00000000#32 (ix2 r l)
    = if l.val % 64 < 8 then -(Host.sin (F := Ideal) angle (ix2 r ⟨freqOf l.val, freqOf_lt _⟩)) else (0 : EReal) := by
  rw [table_at _ _ _ r l _ (word_low l), Ideal.ofBits_zero_f32]
  refine if_congr Iff.rfl ?_ rfl
  exact congrArg (fun z : EReal => -z) (taken_at _ r l)

end Cert.InprojHost
end
-- ==== Proof.Inproj.Tile.lean ====
/-
  A grid point's blocks, as functions of the rows, the weights and the tables it reads: each 128 columns of the projection are a slice of
  a product of 512 columns, turned by the tables in four of the six groups.
-/
module

public import proofs.«01_k».proof.Defs
public import proofs.«01_k».proof.Proof.Gen.InprojIdeal.Frame
public import Idealize.ShloMosaic.Lib.Pipeline.ValueKit

@[expose] public section

set_option maxRecDepth 16384

noncomputable section

namespace Cert.InprojTile

open Idealize.ShloMosaic Idealize.ShloMosaic.TcCoe Idealize.SL.Sem
open Cert.InprojIdeal Cert.InprojIdeal.Gen

/-! ## The mathematics -/

/-- The projection at a row and a column. -/
def raw (X W : ℕ → ℕ → EReal) (r q : ℕ) : EReal := ∑ k : Fin 1024, X r k.val * W k.val q

/-- The turned projection at lane `l` of the 128 columns from `n`: the lane, and the lanes eight before and eight after it, weighed by the tables. -/
def turnAt (X W C A B : ℕ → ℕ → EReal) (r n l : ℕ) : EReal :=
  raw X W r (n + l) * C r l + raw X W r (n + (l + 120) % 128) * A r l + raw X W r (n + (l + 8) % 128) * B r l

/-- Whether a group of 512 columns is turned: the queries and keys of both attentions. -/
def turns (s : ℕ) : Prop := s = 0 ∨ s = 1 ∨ s = 3 ∨ s = 4

instance (s : ℕ) : Decidable (turns s) := by unfold turns; infer_instance

/-- A block's entry at a row and a column. -/
def outAt (X W C A B : ℕ → ℕ → EReal) (r q : ℕ) : EReal :=
  if turns (q / 512) then turnAt X W C A B r (128 * (q / 128)) (q % 128) else raw X W r q

/-! ## The kernel's slices -/

def prod (x : FVec Ideal S512x1024 .bf16) (w : FVec Ideal S1024x512 .bf16) : FVec Ideal S512x512 .f32 :=
  matmul dot_S512x1024_S1024x512_S512x512_1_0_0_1_n_n none x w (constant S512x512 .f32 0x00000000#32)

def part (x : FVec Ideal S512x1024 .bf16) (w : FVec Ideal S1024x512 .bf16) (o : ℕ) (h : S512x512.Slices ![0, o] S512x128) : FVec Ideal S512x128 .f32 :=
  extractStridedSlice S512x128 ![0, o] (prod x w) h

def turn (p c a b : FVec Ideal S512x128 .f32) : FVec Ideal S512x128 .f32 :=
  addf (addf (mulf p c) (mulf (dynamicRotate 1 8#32 none p rotates_S512x128_d1) a)) (mulf (dynamicRotate 1 120#32 none p rotates_S512x128_d1) b)

theorem part_at (x : FVec Ideal S512x1024 .bf16) (w : FVec Ideal S1024x512 .bf16) (o : ℕ) (h) (ho : o + 128 ≤ 512) (X W : ℕ → ℕ → EReal) (s : ℕ)
    (hx : ∀ (r : Fin 512) (k : Fin 1024), x (ix2 r k) = X r.val k.val) (hw : ∀ (k : Fin 1024) (j : Fin 512), w (ix2 k j) = W k.val (s + j.val))
    (r : Fin 512) (l : Fin 128) : part x w o h (ix2 r l) = raw X W r.val (s + o + l.val) := by
  have e : part x w o h (ix2 r l) = prod x w (ix2 r ⟨o + l.val, by omega⟩) := by
    unfold part
    pointwise
  rw [e]
  unfold prod raw
  pointwise
  simp only [hx, hw, Nat.add_assoc]

theorem turn_at (p c a b : FVec Ideal S512x128 .f32) (r : Fin 512) (l : Fin 128) :
    turn p c a b (ix2 r l) = p (ix2 r l) * c (ix2 r l) + p (ix2 r ⟨(l.val + 120) % 128, by omega⟩) * a (ix2 r l)
      + p (ix2 r ⟨(l.val + 8) % 128, by omega⟩) * b (ix2 r l) := by
  unfold turn
  pointwise
  have e : ∀ (n m : ℕ) (h : l.val + 128 - n = l.val + m), (⟨(l.val + 128 - n) % 128, Nat.mod_lt _ (by decide)⟩ : Fin 128) = ⟨(l.val + m) % 128, Nat.mod_lt _ (by decide)⟩ :=
    fun n m h => Fin.ext (congrArg (· % 128) h)
  rw [e 8 120 (by omega), e 120 8 (by omega)]

/-! ## A block's entries -/

section Out

variable (x0 : Vec Ideal S512x1024 .f32) (x1 : Vec Ideal S1024x3072 .bf16) (x2 x3 x4 : Vec Ideal S512x128 .f32)
variable (X W C A B : ℕ → ℕ → EReal)
variable (hX : ∀ (r : Fin 512) (k : Fin 1024), x0 (ix2 r k) = X r.val k.val) (hW : ∀ (k : Fin 1024) (q : Fin 3072), x1 (ix2 k q) = W k.val q.val)
  (hC : ∀ (r : Fin 512) (l : Fin 128), x2 (ix2 r l) = C r.val l.val) (hA : ∀ (r : Fin 512) (l : Fin 128), x3 (ix2 r l) = A r.val l.val)
  (hB : ∀ (r : Fin 512) (l : Fin 128), x4 (ix2 r l) = B r.val l.val)

/-- The tables as the program casts them, and the rows. -/
theorem cast_at (x : Vec Ideal S512x128 .f32) (h) (r : Fin 512) (l : Fin 128) :
    shapeCast S512x128 (View.ld x r0_1) h (ix2 r l) = x (ix2 r l) := by
  refine (shapeCast_apply _ h (ix2 r l) (ix2 r l) rfl).trans (View.ld_unit_apply_of x _ _ _ (ix2 r l) (ix2 r l) fun a => ?_)
  match a with
  | ⟨0, _⟩ => exact (Nat.zero_add _).symm
  | ⟨1, _⟩ => exact (Nat.zero_add _).symm

theorem rows_at (r : Fin 512) (k : Fin 1024) : View.ld x0 r0_0 (ix2 r k) = x0 (ix2 r k) := by
  refine View.ld_unit_apply_of x0 _ _ _ (ix2 r k) (ix2 r k) fun a => ?_
  match a with
  | ⟨0, _⟩ => exact (Nat.zero_add _).symm
  | ⟨1, _⟩ => exact (Nat.zero_add _).symm

include hW in
theorem weights_at (s : ℕ) (hin : ∀ a, (![0, s] : Fin 2 → ℕ) a + S1024x512.size a ≤ S1024x3072.size a) (k : Fin 1024) (j : Fin 512) :
    View.ld x1 (Rect.unit (s := S1024x3072) ![0, s] S1024x512.size hin) (ix2 k j) = W k.val (s + j.val) := by
  have hs : s + 512 ≤ 3072 := hin 1
  refine (View.ld_unit_apply_of x1 _ _ _ (ix2 k j) (ix2 k (⟨s + j.val, by omega⟩ : Fin 3072)) fun a => ?_).trans (hW _ _)
  match a with
  | ⟨0, _⟩ => exact (Nat.zero_add _).symm
  | ⟨1, _⟩ => rfl

/-- The rows in the narrower type, and the tables. -/
abbrev xs : FVec Ideal S512x1024 .bf16 := truncf .bf16 (View.ld x0 r0_0) bitsLt_bf16_f32
abbrev tab (x : Vec Ideal S512x128 .f32) : FVec Ideal S512x128 .f32 := shapeCast S512x128 (View.ld x r0_1) shapeCasts_S512x128_S512x128

include hX hW in
theorem plain_at (s o n : ℕ) (hn : n = s + o) (h) (ho : o + 128 ≤ 512) (hin : ∀ a, (![0, s] : Fin 2 → ℕ) a + S1024x512.size a ≤ S1024x3072.size a)
    (r : Fin 512) (l : Fin 128) :
    part (xs x0) (View.ld x1 (Rect.unit (s := S1024x3072) ![0, s] S1024x512.size hin)) o h (ix2 r l) = raw X W r.val (n + l.val) := by
  rw [hn]
  exact part_at _ _ o h ho X W s (fun r k => (rows_at x0 r k).trans (hX r k)) (weights_at x1 W hW s hin) r l

include hX hW hC hA hB in
theorem turned_at (s o n : ℕ) (hn : n = s + o) (h) (ho : o + 128 ≤ 512) (hin : ∀ a, (![0, s] : Fin 2 → ℕ) a + S1024x512.size a ≤ S1024x3072.size a)
    (r : Fin 512) (l : Fin 128) :
    turn (part (xs x0) (View.ld x1 (Rect.unit (s := S1024x3072) ![0, s] S1024x512.size hin)) o h) (tab x2) (tab x3) (tab x4) (ix2 r l)
      = turnAt X W C A B r.val n l.val := by
  rw [turn_at]
  simp only [plain_at x0 x1 X W hX hW s o n hn h ho hin]
  have t2 : tab x2 (ix2 r l) = C r.val l.val := (cast_at x2 _ r l).trans (hC r l)
  have t3 : tab x3 (ix2 r l) = A r.val l.val := (cast_at x3 _ r l).trans (hA r l)
  have t4 : tab x4 (ix2 r l) = B r.val l.val := (cast_at x4 _ r l).trans (hB r l)
  rw [t2, t3, t4]
  rfl

theorem eta2 {n m : ℕ} (x : (⟨2, ![n, m]⟩ : Shape).Idx) : x = ix2 (x 0) (x 1) := funext fun a => by
  match a with
  | ⟨0, _⟩ => rfl
  | ⟨1, _⟩ => rfl

include hX hW hC hA hB in
/-- A grid point's block of the projections. -/
theorem out_at (y : S512x3072.Idx) : out0_5 x0 x1 x2 x3 x4 y = outAt X W C A B (y 0).val (y 1).val := by
  have turned : ∀ (s o n : ℕ) (hn : n = s + o) (h) (ho : o + 128 ≤ 512) (hin : ∀ a, (![0, s] : Fin 2 → ℕ) a + S1024x512.size a ≤ S1024x3072.size a)
      (x : S512x128.Idx) (g : EReal)
      (_ : g = turn (part (xs x0) (View.ld x1 (Rect.unit (s := S1024x3072) ![0, s] S1024x512.size hin)) o h) (tab x2) (tab x3) (tab x4) x)
      (_ : (y 0).val = 0 + (x 0).val ∨ (y 0).val = (x 0).val) (_ : (y 1).val = n + (x 1).val ∨ n = 0 ∧ (y 1).val = (x 1).val) (_ : turns (n / 512)) (_ : 128 ∣ n),
      g = outAt X W C A B (y 0).val (y 1).val := by
    intro s o n hn h ho hin x g hg h0 h1 ht hd
    have hx1 : (x 1).val < 128 := (x 1).isLt
    have e0 : (y 0).val = (x 0).val := by omega
    have e1 : (y 1).val = n + (x 1).val := by omega
    obtain ⟨q, rfl⟩ := hd
    have a1 : (128 * q + (x 1).val) / 512 = (128 * q) / 512 := by omega
    have a2 : (128 * q + (x 1).val) / 128 = q := by omega
    have a3 : (128 * q + (x 1).val) % 128 = (x 1).val := by omega
    rw [hg, e0, e1, outAt, a1, if_pos ht, a2, a3]
    exact (congrArg _ (eta2 x)).trans <| turned_at x0 x1 x2 x3 x4 X W C A B hX hW hC hA hB s o _ hn h ho hin (x 0) (x 1)
  have plain : ∀ (s o n : ℕ) (hn : n = s + o) (h) (ho : o + 128 ≤ 512) (hin : ∀ a, (![0, s] : Fin 2 → ℕ) a + S1024x512.size a ≤ S1024x3072.size a)
      (x : S512x128.Idx) (g : EReal)
      (_ : g = part (xs x0) (View.ld x1 (Rect.unit (s := S1024x3072) ![0, s] S1024x512.size hin)) o h x)
      (_ : (y 0).val = 0 + (x 0).val ∨ (y 0).val = (x 0).val) (_ : (y 1).val = n + (x 1).val) (_ : ¬ turns (n / 512)) (_ : 128 ∣ n),
      g = outAt X W C A B (y 0).val (y 1).val := by
    intro s o n hn h ho hin x g hg h0 e1 ht hd
    have hx1 : (x 1).val < 128 := (x 1).isLt
    have e0 : (y 0).val = (x 0).val := by omega
    obtain ⟨q, rfl⟩ := hd
    have a1 : (128 * q + (x 1).val) / 512 = (128 * q) / 512 := by omega
    rw [hg, e0, e1, outAt, a1, if_neg ht]
    exact (congrArg _ (eta2 x)).trans <| plain_at x0 x1 X W hX hW s o _ hn h ho hin (x 0) (x 1)
  unfold out0_5
  canon_tiles x h
  · exact plain 2560 384 2944 rfl slices_S512x512_o0_384_S512x128 (by decide) inb_S1024x3072_S1024x512_0_2560 x _ rfl (by omega) (by omega) (by decide) (by decide)
  · exact plain 2560 256 2816 rfl slices_S512x512_o0_256_S512x128 (by decide) inb_S1024x3072_S1024x512_0_2560 x _ rfl (by omega) (by omega) (by decide) (by decide)
  · exact plain 2560 128 2688 rfl slices_S512x512_o0_128_S512x128 (by decide) inb_S1024x3072_S1024x512_0_2560 x _ rfl (by omega) (by omega) (by decide) (by decide)
  · exact plain 2560 0 2560 rfl slices_S512x512_o0_0_S512x128 (by decide) inb_S1024x3072_S1024x512_0_2560 x _ rfl (by omega) (by omega) (by decide) (by decide)
  · exact turned 2048 384 2432 rfl slices_S512x512_o0_384_S512x128 (by decide) inb_S1024x3072_S1024x512_0_2048 x _ rfl (by omega) (by omega) (by decide) (by decide)
  · exact turned 2048 256 2304 rfl slices_S512x512_o0_256_S512x128 (by decide) inb_S1024x3072_S1024x512_0_2048 x _ rfl (by omega) (by omega) (by decide) (by decide)
  · exact turned 2048 128 2176 rfl slices_S512x512_o0_128_S512x128 (by decide) inb_S1024x3072_S1024x512_0_2048 x _ rfl (by omega) (by omega) (by decide) (by decide)
  · exact turned 2048 0 2048 rfl slices_S512x512_o0_0_S512x128 (by decide) inb_S1024x3072_S1024x512_0_2048 x _ rfl (by omega) (by omega) (by decide) (by decide)
  · exact turned 1536 384 1920 rfl slices_S512x512_o0_384_S512x128 (by decide) inb_S1024x3072_S1024x512_0_1536 x _ rfl (by omega) (by omega) (by decide) (by decide)
  · exact turned 1536 256 1792 rfl slices_S512x512_o0_256_S512x128 (by decide) inb_S1024x3072_S1024x512_0_1536 x _ rfl (by omega) (by omega) (by decide) (by decide)
  · exact turned 1536 128 1664 rfl slices_S512x512_o0_128_S512x128 (by decide) inb_S1024x3072_S1024x512_0_1536 x _ rfl (by omega) (by omega) (by decide) (by decide)
  · exact turned 1536 0 1536 rfl slices_S512x512_o0_0_S512x128 (by decide) inb_S1024x3072_S1024x512_0_1536 x _ rfl (by omega) (by omega) (by decide) (by decide)
  · exact plain 1024 384 1408 rfl slices_S512x512_o0_384_S512x128 (by decide) inb_S1024x3072_S1024x512_0_1024 x _ rfl (by omega) (by omega) (by decide) (by decide)
  · exact plain 1024 256 1280 rfl slices_S512x512_o0_256_S512x128 (by decide) inb_S1024x3072_S1024x512_0_1024 x _ rfl (by omega) (by omega) (by decide) (by decide)
  · exact plain 1024 128 1152 rfl slices_S512x512_o0_128_S512x128 (by decide) inb_S1024x3072_S1024x512_0_1024 x _ rfl (by omega) (by omega) (by decide) (by decide)
  · exact plain 1024 0 1024 rfl slices_S512x512_o0_0_S512x128 (by decide) inb_S1024x3072_S1024x512_0_1024 x _ rfl (by omega) (by omega) (by decide) (by decide)
  · exact turned 512 384 896 rfl slices_S512x512_o0_384_S512x128 (by decide) inb_S1024x3072_S1024x512_0_512 x _ rfl (by omega) (by omega) (by decide) (by decide)
  · exact turned 512 256 768 rfl slices_S512x512_o0_256_S512x128 (by decide) inb_S1024x3072_S1024x512_0_512 x _ rfl (by omega) (by omega) (by decide) (by decide)
  · exact turned 512 128 640 rfl slices_S512x512_o0_128_S512x128 (by decide) inb_S1024x3072_S1024x512_0_512 x _ rfl (by omega) (by omega) (by decide) (by decide)
  · exact turned 512 0 512 rfl slices_S512x512_o0_0_S512x128 (by decide) inb_S1024x3072_S1024x512_0_512 x _ rfl (by omega) (by omega) (by decide) (by decide)
  · exact turned 0 384 384 rfl slices_S512x512_o0_384_S512x128 (by decide) inb_S1024x3072_S1024x512_0_0 x _ rfl (by omega) (by omega) (by decide) (by decide)
  · exact turned 0 256 256 rfl slices_S512x512_o0_256_S512x128 (by decide) inb_S1024x3072_S1024x512_0_0 x _ rfl (by omega) (by omega) (by decide) (by decide)
  · exact turned 0 128 128 rfl slices_S512x512_o0_128_S512x128 (by decide) inb_S1024x3072_S1024x512_0_0 x _ rfl (by omega) (by omega) (by decide) (by decide)
  · exact turned 0 0 0 rfl slices_S512x512_o0_0_S512x128 (by decide) inb_S1024x3072_S1024x512_0_0 x _ rfl (by omega) (by omega) (by decide) (by decide)

end Out

end Cert.InprojTile

end
-- ==== Proof.Inproj.Mean.lean ====
/-
  A grid point's two key means: each lane of the turned moba keys summed over 256 rows, times the number the program writes for 1/256.
-/
module

public import proofs.«01_k».proof.Proof.Inproj.Tile

@[expose] public section

set_option maxRecDepth 16384

noncomputable section

namespace Cert.InprojTile

open Idealize.ShloMosaic Idealize.ShloMosaic.TcCoe Idealize.SL.Sem
open Cert.InprojIdeal Cert.InprojIdeal.Gen

/-- A lane's mean over the 256 rows from `256 b`. -/
def meanAt (X W C A B : ℕ → ℕ → EReal) (b q : ℕ) : EReal :=
  (∑ i : Fin 256, turnAt X W C A B (256 * b + i.val) (2048 + 128 * (q / 128)) (q % 128)) * Ideal.ofBits .f32 0x3B800000#32

def mean (p : FVec Ideal S512x128 .f32) (o : ℕ) (h : S512x128.Slices ![o, 0] S256x128) : FVec Ideal S1x1x128 .f32 :=
  shapeCast S1x1x128 (mulf (shapeCast S1x128 (multiReduction .add [0] S128 (extractStridedSlice S256x128 ![o, 0] p h) 0x00000000#32 reduces_S256x128_S128 (.inl rfl) rfl)
    shapeCasts_S128_S1x128) (broadcast S1x128 (Scalar.ofBits .f32 0x3B800000#32))) shapeCasts_S1x128_S1x1x128

theorem mean_at (p : FVec Ideal S512x128 .f32) (o : ℕ) (h) (ho : o + 256 ≤ 512) (l : Fin 128) :
    mean p o h (ix3 0 0 l) = (∑ i : Fin 256, p (ix2 ⟨o + i.val, by omega⟩ l)) * Ideal.ofBits .f32 0x3B800000#32 := by
  unfold mean
  pointwise

section Out

variable (x0 : Vec Ideal S512x1024 .f32) (x1 : Vec Ideal S1024x3072 .bf16) (x2 x3 x4 : Vec Ideal S512x128 .f32)
variable (X W C A B : ℕ → ℕ → EReal)
variable (hX : ∀ (r : Fin 512) (k : Fin 1024), x0 (ix2 r k) = X r.val k.val) (hW : ∀ (k : Fin 1024) (q : Fin 3072), x1 (ix2 k q) = W k.val q.val)
  (hC : ∀ (r : Fin 512) (l : Fin 128), x2 (ix2 r l) = C r.val l.val) (hA : ∀ (r : Fin 512) (l : Fin 128), x3 (ix2 r l) = A r.val l.val)
  (hB : ∀ (r : Fin 512) (l : Fin 128), x4 (ix2 r l) = B r.val l.val)

include hX hW hC hA hB in
/-- A grid point's block of the means. -/
theorem means_at (y : S2x1x512.Idx) : out0_6 x0 x1 x2 x3 x4 y = meanAt X W C A B (y 0).val (y 2).val := by
  have meaned : ∀ (o d : ℕ) (h) (ho : o + 128 ≤ 512) (h') (hd : d + 256 ≤ 512) (x : S1x1x128.Idx) (g : EReal)
      (_ : g = mean (turn (part (xs x0) (View.ld x1 (Rect.unit (s := S1024x3072) ![0, 2048] S1024x512.size inb_S1024x3072_S1024x512_0_2048)) o h) (tab x2) (tab x3) (tab x4)) d h' x)
      (_ : 256 * (y 0).val = d) (_ : (y 2).val = o + (x 2).val) (_ : 128 ∣ o) (_ : 256 ∣ d), g = meanAt X W C A B (y 0).val (y 2).val := by
    intro o d h ho h' hd x g hg h0 h2 hq _
    have hx2 : (x 2).val < 128 := (x 2).isLt
    have ex : x = ix3 0 0 (x 2) := funext fun a => by
      match a with
      | ⟨0, _⟩ => exact Fin.ext (by have := (x 0).isLt; change (x 0).val < 1 at this; show (x 0).val = 0; omega)
      | ⟨1, _⟩ => exact Fin.ext (by have := (x 1).isLt; change (x 1).val < 1 at this; show (x 1).val = 0; omega)
      | ⟨2, _⟩ => rfl
    obtain ⟨q, rfl⟩ := hq
    have a2 : (128 * q + (x 2).val) / 128 = q := by omega
    have a3 : (128 * q + (x 2).val) % 128 = (x 2).val := by omega
    rw [hg, meanAt, h0, h2, a2, a3]
    refine (congrArg _ ex).trans ((mean_at _ d h' hd (x 2)).trans (congrArg (· * _) (Finset.sum_congr rfl fun i _ => ?_)))
    exact turned_at x0 x1 x2 x3 x4 X W C A B hX hW hC hA hB 2048 (128 * q) _ rfl h ho _ ⟨d + i.val, _⟩ (x 2)
  unfold out0_6
  canon_tiles x h
  · exact meaned 384 256 slices_S512x512_o0_384_S512x128 (by decide) slices_S512x128_o256_0_S256x128 (by decide) x _ rfl (by omega) (by omega) (by decide) (by decide)
  · exact meaned 384 0 slices_S512x512_o0_384_S512x128 (by decide) slices_S512x128_o0_0_S256x128 (by decide) x _ rfl (by omega) (by omega) (by decide) (by decide)
  · exact meaned 256 256 slices_S512x512_o0_256_S512x128 (by decide) slices_S512x128_o256_0_S256x128 (by decide) x _ rfl (by omega) (by omega) (by decide) (by decide)
  · exact meaned 256 0 slices_S512x512_o0_256_S512x128 (by decide) slices_S512x128_o0_0_S256x128 (by decide) x _ rfl (by omega) (by omega) (by decide) (by decide)
  · exact meaned 128 256 slices_S512x512_o0_128_S512x128 (by decide) slices_S512x128_o256_0_S256x128 (by decide) x _ rfl (by omega) (by omega) (by decide) (by decide)
  · exact meaned 128 0 slices_S512x512_o0_128_S512x128 (by decide) slices_S512x128_o0_0_S256x128 (by decide) x _ rfl (by omega) (by omega) (by decide) (by decide)
  · exact meaned 0 256 slices_S512x512_o0_0_S512x128 (by decide) slices_S512x128_o256_0_S256x128 (by decide) x _ rfl (by omega) (by omega) (by decide) (by decide)
  · exact meaned 0 0 slices_S512x512_o0_0_S512x128 (by decide) slices_S512x128_o0_0_S256x128 (by decide) x _ rfl (by omega) (by omega) (by decide) (by decide)

end Out

end Cert.InprojTile

end
-- ==== Proof.Inproj.Spec.lean ====
/-
  The input projection's mathematics: a lane of the projection, rotated by its position's angle where it is one of the first sixteen of its
  head; and that the kernel's three tables give that rotation.
-/
module

public import proofs.«01_k».proof.Proof.Inproj.Mean

@[expose] public section

set_option maxRecDepth 16384

noncomputable section

namespace Cert.InprojSpec

open Idealize.ShloMosaic Idealize.ShloMosaic.TcCoe Idealize.SL.Sem
open Cert.InprojTile

/-- The rotated projection at row `R` and column `q`, with the cosines and sines of position and frequency. -/
def rot (X W Cs Sn : ℕ → ℕ → EReal) (R q : ℕ) : EReal :=
  if q % 64 < 8 then raw X W R q * Cs (R % 2048) (q % 64) - raw X W R (q + 8) * Sn (R % 2048) (q % 64)
  else if q % 64 < 16 then raw X W R q * Cs (R % 2048) (q % 64 - 8) + raw X W R (q - 8) * Sn (R % 2048) (q % 64 - 8)
  else raw X W R q

/-- The result at a row and a column. -/
def spec (X W Cs Sn : ℕ → ℕ → EReal) (R q : ℕ) : EReal := if turns (q / 512) then rot X W Cs Sn R q else raw X W R q

/-- The mean of a block's keys at a lane. -/
def specMean (X W Cs Sn : ℕ → ℕ → EReal) (B q : ℕ) : EReal :=
  (∑ i : Fin 256, rot X W Cs Sn (256 * B + i.val) (2048 + q)) * Ideal.ofBits .f32 0x3B800000#32

/-- The kernel's tables from the cosines and sines. -/
def tabC (Cs : ℕ → ℕ → EReal) (s l : ℕ) : EReal :=
  if l % 64 < 16 then Cs s (if l % 64 < 8 then l % 64 else if l % 64 < 16 then l % 64 - 8 else 0) else 1
def tabA (Sn : ℕ → ℕ → EReal) (s l : ℕ) : EReal :=
  if 8 ≤ l % 64 ∧ l % 64 < 16 then Sn s (if l % 64 < 8 then l % 64 else if l % 64 < 16 then l % 64 - 8 else 0) else 0
def tabB (Sn : ℕ → ℕ → EReal) (s l : ℕ) : EReal :=
  if l % 64 < 8 then -(Sn s (if l % 64 < 8 then l % 64 else if l % 64 < 16 then l % 64 - 8 else 0)) else 0

theorem turn_eq (X W C A B Cs Sn : ℕ → ℕ → EReal) (X' : ℕ → ℕ → EReal) (r R n l : ℕ) (hl : l < 128) (hn : 128 ∣ n) (hX : ∀ k, X r k = X' R k)
    (hC : C r l = tabC Cs (R % 2048) l) (hA : A r l = tabA Sn (R % 2048) l) (hB : B r l = tabB Sn (R % 2048) l) :
    turnAt X W C A B r n l = rot X' W Cs Sn R (n + l) := by
  obtain ⟨d, rfl⟩ := hn
  have hr : ∀ q, raw X W r q = raw X' W R q := fun q => Finset.sum_congr rfl fun k _ => by rw [hX]
  have hm : (128 * d + l) % 64 = l % 64 := by omega
  unfold turnAt rot
  simp only [hr, hC, hA, hB, hm, tabC, tabA, tabB]
  by_cases h8 : l % 64 < 8
  · rw [if_pos h8, if_pos (by omega), if_pos h8, if_neg (by omega), if_pos h8, mul_zero, add_zero, mul_neg, ← sub_eq_add_neg,
      show (l + 8) % 128 = l + 8 by omega, Nat.add_assoc]
  · by_cases h16 : l % 64 < 16
    · rw [if_pos h16, if_neg h8, if_pos h16, if_pos (by omega), if_neg h8, if_neg h8, mul_zero, add_zero,
        show (l + 120) % 128 = l - 8 by omega, show 128 * d + l - 8 = 128 * d + (l - 8) by omega]
      simp only [if_neg h8, if_pos h16]
    · rw [if_neg h16, if_neg (by omega), if_neg h8, if_neg h8, if_neg h16, mul_zero, mul_zero, add_zero, add_zero, mul_one]

end Cert.InprojSpec

end
-- ==== Proof.Inproj.Ref.lean ====
/-
  The reference's result, read at an entry: the projection, its first sixteen lanes of each head rotated by the position's angle, and the
  rotated keys' mean.
-/
module

public import proofs.«01_k».proof.Proof.Gen.InprojRefIdeal.Read
public import proofs.«01_k».proof.Proof.Inproj.Host
public import proofs.«01_k».proof.Proof.Inproj.Spec
public import Idealize.ShloMosaic.Lib.Pipeline.ValueKit

@[expose] public section

set_option maxRecDepth 16384

noncomputable section

namespace Cert.InprojRefValue

open Idealize.ShloMosaic Idealize.ShloMosaic.TcCoe Idealize.SL.Sem
open Cert.InprojTile Cert.InprojSpec
open Cert.InprojRefIdeal Cert.InprojRefIdeal.Gen Cert.InprojRefIdeal.Read

/-- A function of position and frequency, at every sequence and head. -/
def spread (f : FVec Ideal S2048x8 .f32) : FVec Ideal S32x2048x8x8 .f32 :=
  broadcastInDim S32x2048x8x8 ![0, 1, 2, 3] bcast_S1x2048x1x8_S32x2048x8x8_0_1_2_3
    (broadcastInDim S1x2048x1x8 ![1, 2, 3] bcast_S2048x1x8_S1x2048x1x8_1_2_3 (broadcastInDim S2048x1x8 ![0, 2] bcast_S2048x8_S2048x1x8_0_2 f))

def heads (p : FVec Ideal S65536x512 .f32) : FVec Ideal S32x2048x8x64 .f32 := shapeCast _ p shapeCasts_S65536x512_S32x2048x8x64
def first (p : FVec Ideal S65536x512 .f32) : FVec Ideal S32x2048x8x8 .f32 :=
  extractStridedSlice S32x2048x8x8 ![0, 0, 0, 0] (heads p) slices_S32x2048x8x64_S32x2048x8x8_0_0_0_0
def second (p : FVec Ideal S65536x512 .f32) : FVec Ideal S32x2048x8x8 .f32 :=
  extractStridedSlice S32x2048x8x8 ![0, 0, 0, 8] (heads p) slices_S32x2048x8x64_S32x2048x8x8_0_0_0_8
def rest (p : FVec Ideal S65536x512 .f32) : FVec Ideal S32x2048x8x48 .f32 :=
  extractStridedSlice S32x2048x8x48 ![0, 0, 0, 16] (heads p) slices_S32x2048x8x64_S32x2048x8x48_0_0_0_16

def rotatedHeads (p : FVec Ideal S65536x512 .f32) (f g : FVec Ideal S2048x8 .f32) : FVec Ideal S32x2048x8x64 .f32 :=
  concatenate S32x2048x8x64 3 [⟨S32x2048x8x8, (subf (mulf (first p) (spread f)) (mulf (second p) (spread g)) : FVec Ideal S32x2048x8x8 .f32)⟩,
    ⟨S32x2048x8x8, (addf (mulf (second p) (spread f)) (mulf (first p) (spread g)) : FVec Ideal S32x2048x8x8 .f32)⟩, ⟨S32x2048x8x48, rest p⟩]
    concatenates_S32x2048x8x8_S32x2048x8x8_S32x2048x8x48_S32x2048x8x64_d3
def rotated (p : FVec Ideal S65536x512 .f32) (f g : FVec Ideal S2048x8 .f32) : FVec Ideal S65536x512 .f32 :=
  shapeCast _ (rotatedHeads p f g) shapeCasts_S32x2048x8x64_S65536x512

variable (x0 : FVec Ideal S65536x1024 .f32) (x1 : FVec Ideal S1024x3072 .bf16)

abbrev cosine : FVec Ideal S2048x8 .f32 := Host.cos InprojHost.angle
abbrev sine : FVec Ideal S2048x8 .f32 := Host.sin InprojHost.angle

theorem v47 : val_main_v47 (F := Ideal) x0 x1 = rotated (val_main_v22 (F := Ideal) x0 x1) cosine sine := rfl
theorem v67 : val_main_v67 (F := Ideal) x0 x1 = rotated (val_main_v23 (F := Ideal) x0 x1) cosine sine := rfl
theorem v87 : val_main_v87 (F := Ideal) x0 x1 = rotated (val_main_v25 (F := Ideal) x0 x1) cosine sine := rfl
theorem v107 : val_main_v107 (F := Ideal) x0 x1 = rotated (val_main_v26 (F := Ideal) x0 x1) cosine sine := rfl

theorem heads_at (p : FVec Ideal S65536x512 .f32) (b : Fin 32) (s : Fin 2048) (h : Fin 8) (j : Fin 64) :
    heads p (ix4 b s h j) = p (ix2 (⟨2048 * b.val + s.val, by omega⟩ : Fin 65536) (⟨64 * h.val + j.val, by omega⟩ : Fin 512)) := by
  unfold heads
  pointwise
  refine congrArg p ?_
  rw [ix2_inj]
  exact ⟨Fin.ext (by show b.val * 2048 + s.val = 2048 * b.val + s.val; omega), Fin.ext (by show h.val * 64 + j.val = 64 * h.val + j.val; omega)⟩

theorem spread_at (f : FVec Ideal S2048x8 .f32) (b : Fin 32) (s : Fin 2048) (h : Fin 8) (j : Fin 8) : spread f (ix4 b s h j) = f (ix2 s j) := by
  unfold spread
  pointwise

/-- Dividing by 256 is multiplying by its inverse. -/
theorem div_256 (x : EReal) : Ideal.div x (Ideal.ofBits .f32 0x43800000#32) = x * Ideal.ofBits .f32 0x3B800000#32 := by
  have h : Ideal.ofBits .f32 0x43800000#32 = ((256 : ℝ) : EReal) := by
    simp [Ideal.ofBits, Ideal.ieee, -EReal.coe_mul]; norm_num
  have h' : Ideal.ofBits .f32 0x3B800000#32 = (((256 : ℝ)⁻¹ : ℝ) : EReal) := by
    simp [Ideal.ofBits, Ideal.ieee, -EReal.coe_mul]; norm_num
  rw [h, h', Ideal.div, if_neg (by norm_num), EReal.coe_inv]

/-- The numbers an array's entries are. -/
def num {n m : ℕ} (f : FVec Ideal (⟨2, ![n, m]⟩ : Shape) .f32) (i j : ℕ) : EReal := if h : i < n ∧ j < m then f (ix2 ⟨i, h.1⟩ ⟨j, h.2⟩) else 0

theorem num_at {n m : ℕ} (f : FVec Ideal (⟨2, ![n, m]⟩ : Shape) .f32) (i : Fin n) (j : Fin m) : f (ix2 i j) = num f i.val j.val := by
  unfold num
  rw [dif_pos ⟨i.isLt, j.isLt⟩]

/-- The rotation at a lane. -/
theorem rotatedHeads_at (p : FVec Ideal S65536x512 .f32) (f g : FVec Ideal S2048x8 .f32) (X W : ℕ → ℕ → EReal) (n : ℕ) (hn : 64 ∣ n)
    (hp : ∀ (R : Fin 65536) (c : Fin 512), p (ix2 R c) = raw X W R.val (n + c.val)) (b : Fin 32) (s : Fin 2048) (h : Fin 8) (j : Fin 64) :
    rotatedHeads p f g (ix4 b s h j) = rot X W (num f) (num g) (2048 * b.val + s.val) (n + (64 * h.val + j.val)) := by
  obtain ⟨d, rfl⟩ := hn
  have hs : (2048 * b.val + s.val) % 2048 = s.val := by have := s.isLt; omega
  have hj : (64 * d + (64 * h.val + j.val)) % 64 = j.val := by have := j.isLt; omega
  have h1 : ∀ i : Fin 8, first p (ix4 b s h i) = raw X W (2048 * b.val + s.val) (64 * d + (64 * h.val + i.val)) := fun i => by
    unfold first
    pointwise
    rw [heads_at, hp]
  have h2 : ∀ i : Fin 8, second p (ix4 b s h i) = raw X W (2048 * b.val + s.val) (64 * d + (64 * h.val + (8 + i.val))) := fun i => by
    unfold second
    pointwise
    rw [heads_at, hp]
  have h3 : ∀ i : Fin 48, rest p (ix4 b s h i) = raw X W (2048 * b.val + s.val) (64 * d + (64 * h.val + (16 + i.val))) := fun i => by
    unfold rest
    pointwise
    rw [heads_at, hp]
  unfold rotatedHeads rot
  pointwise
  rw [hs, hj]
  simp only [h1, h2, h3, spread_at, num_at]
  by_cases c8 : j.val < 8
  · rw [dif_pos c8, if_pos c8, show 64 * d + (64 * h.val + j.val) + 8 = 64 * d + (64 * h.val + (8 + j.val)) by omega]
  · rw [dif_neg c8, if_neg c8]
    by_cases c16 : j.val < 16
    · rw [dif_pos (by omega), if_pos c16, show 64 * d + (64 * h.val + j.val) - 8 = 64 * d + (64 * h.val + (j.val - 8)) by omega,
        show 8 + (j.val - 8) = j.val by omega]
    · rw [dif_neg (by omega), if_neg c16, show 16 + (j.val - 8 - 8) = j.val by omega]

theorem rotated_at (p : FVec Ideal S65536x512 .f32) (f g : FVec Ideal S2048x8 .f32) (X W : ℕ → ℕ → EReal) (n : ℕ) (hn : 64 ∣ n)
    (hp : ∀ (R : Fin 65536) (c : Fin 512), p (ix2 R c) = raw X W R.val (n + c.val)) (R : Fin 65536) (c : Fin 512) :
    rotated p f g (ix2 R c) = rot X W (num f) (num g) R.val (n + c.val) := by
  have e : rotated p f g (ix2 R c) = rotatedHeads p f g (ix4 (⟨R.val / 2048, by omega⟩ : Fin 32) (⟨R.val % 2048, by omega⟩ : Fin 2048)
      (⟨c.val / 64, by omega⟩ : Fin 8) (⟨c.val % 64, by omega⟩ : Fin 64)) := by
    unfold rotated
    pointwise
  rw [e, rotatedHeads_at p f g X W n hn hp]
  exact congrArg₂ (rot X W (num f) (num g)) (by show 2048 * (R.val / 2048) + R.val % 2048 = R.val; omega)
    (by show n + (64 * (c.val / 64) + c.val % 64) = n + c.val; omega)

variable (X W : ℕ → ℕ → EReal) (hX : ∀ (R : Fin 65536) (k : Fin 1024), x0 (ix2 R k) = X R.val k.val)
  (hW : ∀ (k : Fin 1024) (q : Fin 3072), x1 (ix2 k q) = W k.val q.val)

include hX hW in
theorem v21_at (R : Fin 65536) (q : Fin 3072) : val_main_v21 (F := Ideal) x0 x1 (ix2 R q) = raw X W R.val q.val := by
  unfold val_main_v21 val_main_v20 raw
  pointwise
  simp only [hX, hW]

include hX hW in
theorem part_of (o : ℕ) (h : S65536x3072.Slices ![0, o] S65536x512) (ho : o + 512 ≤ 3072) (R : Fin 65536) (c : Fin 512) :
    extractStridedSlice S65536x512 ![0, o] (val_main_v21 (F := Ideal) x0 x1) h (ix2 R c) = raw X W R.val (o + c.val) := by
  refine Eq.trans ?_ (v21_at x0 x1 X W hX hW R ⟨o + c.val, by omega⟩)
  pointwise

include hX hW in
/-- The first result at an entry. -/
theorem out_at (R : Fin 65536) (q : Fin 3072) : val_main_v114 (F := Ideal) x0 x1 (ix2 R q) = spec X W (num cosine) (num sine) R.val q.val := by
  have turned : ∀ (o : ℕ) (p : FVec Ideal S65536x512 .f32) (c : Fin 512) (_ : 64 ∣ o)
      (_ : ∀ (R : Fin 65536) (c : Fin 512), p (ix2 R c) = raw X W R.val (o + c.val)) (_ : turns (q.val / 512)) (_ : q.val = o + c.val),
      rotated p cosine sine (ix2 R c) = spec X W (num cosine) (num sine) R.val q.val := by
    intro o p c ho hp ht hq
    rw [rotated_at p cosine sine X W o ho hp, spec, if_pos ht, hq]
  have plain : ∀ (o : ℕ) (p : FVec Ideal S65536x512 .f32) (c : Fin 512) (_ : 64 ∣ o)
      (_ : ∀ (R : Fin 65536) (c : Fin 512), p (ix2 R c) = raw X W R.val (o + c.val)) (_ : ¬ turns (q.val / 512)) (_ : q.val = o + c.val),
      p (ix2 R c) = spec X W (num cosine) (num sine) R.val q.val := by
    intro o p c ho hp ht hq
    rw [hp, spec, if_neg ht, hq]
  have hq := q.isLt
  unfold val_main_v114 val_main_v113
  rw [v47, v67, v87, v107]
  pointwise
  by_cases c0 : q.val < 512
  · rw [dif_pos (by omega)]
    exact turned 0 _ _ (by decide) (fun R c => part_of x0 x1 X W hX hW 0 slices_S65536x3072_S65536x512_0_0 (by decide) R c) (by unfold turns; omega) (by show q.val = 0 + _; dsimp only; omega)
  rw [dif_neg (by omega)]
  by_cases c1 : q.val < 1024
  · rw [dif_pos (by omega)]
    exact turned 512 _ _ (by decide) (fun R c => part_of x0 x1 X W hX hW 512 slices_S65536x3072_S65536x512_0_512 (by decide) R c) (by unfold turns; omega) (by show q.val = 512 + _; dsimp only; omega)
  rw [dif_neg (by omega)]
  by_cases c2 : q.val < 1536
  · rw [dif_pos (by omega)]
    exact plain 1024 _ _ (by decide) (fun R c => part_of x0 x1 X W hX hW 1024 slices_S65536x3072_S65536x512_0_1024 (by decide) R c) (by unfold turns; omega) (by show q.val = 1024 + _; dsimp only; omega)
  rw [dif_neg (by omega)]
  by_cases c3 : q.val < 2048
  · rw [dif_pos (by omega)]
    exact turned 1536 _ _ (by decide) (fun R c => part_of x0 x1 X W hX hW 1536 slices_S65536x3072_S65536x512_0_1536 (by decide) R c) (by unfold turns; omega) (by show q.val = 1536 + _; dsimp only; omega)
  rw [dif_neg (by omega)]
  by_cases c4 : q.val < 2560
  · rw [dif_pos (by omega)]
    exact turned 2048 _ _ (by decide) (fun R c => part_of x0 x1 X W hX hW 2048 slices_S65536x3072_S65536x512_0_2048 (by decide) R c) (by unfold turns; omega) (by show q.val = 2048 + _; dsimp only; omega)
  rw [dif_neg (by omega)]
  exact plain 2560 _ _ (by decide) (fun R c => part_of x0 x1 X W hX hW 2560 slices_S65536x3072_S65536x512_0_2560 (by decide) R c) (by unfold turns; omega) (by show q.val = 2560 + _; dsimp only; omega)

include hX hW in
/-- The second result at an entry. -/
theorem mean_at (B : Fin 256) (q : Fin 512) : val_main_v112 (F := Ideal) x0 x1 (ix3 B 0 q) = specMean X W (num cosine) (num sine) B.val q.val := by
  unfold val_main_v112 val_main_v110 val_main_v111 val_main_v109 val_main_v108
  rw [v107]
  pointwise
  rw [show val_main_cst_3 (F := Ideal) (Shape.Idx.first h_S_) = (0 : EReal) from Ideal.ofBits_zero_f32, zero_add]
  refine (div_256 _).trans (congrArg (· * _) (Finset.sum_congr rfl fun i _ => ?_))
  refine (rotated_at (val_main_v26 (F := Ideal) x0 x1) cosine sine X W 2048 (by decide)
    (fun R c => part_of x0 x1 X W hX hW 2048 slices_S65536x3072_S65536x512_0_2048 (by decide) R c) _ q).trans ?_
  exact congrArg (rot X W _ _ · _) (by show B.val * 256 + i.val = 256 * B.val + i.val; omega)

end Cert.InprojRefValue

end
-- ==== Proof.Inproj.Value.lean ====
/-
  The launch's two results over the extended reals are the reference's: at each grid point the staged blocks are the rows, the weights and
  the tables of the block's positions.
-/
module

public import proofs.«01_k».proof.Proof.Gen.InprojIdeal.Value
public import proofs.«01_k».proof.Proof.Inproj.Ref
public import proofs.«01_k».proof.Proof.Inproj.Mean

@[expose] public section

set_option maxRecDepth 16384

noncomputable section

namespace Cert.InprojValue

open Idealize.ShloMosaic Idealize.ShloMosaic.TcCoe Idealize.SL.Sem
open Idealize.ShloMosaic.Pipeline (Dat)
open Cert.InprojIdeal Cert.InprojIdeal.Gen Cert.InprojTile Cert.InprojSpec
open Cert.InprojRefValue (num num_at cosine sine)

/-- Which blocks a grid point stages: its rows, the weights, and the tables of its positions. -/
theorem idx : ∀ t : Fin cfg0.N, win0_0.index t = ![t.val, 0] ∧ win0_1.index t = ![0, 0]
    ∧ win0_2.index t = ![t.val % 4, 0] ∧ win0_3.index t = ![t.val % 4, 0] ∧ win0_4.index t = ![t.val % 4, 0]
    ∧ win0_5.index t = ![t.val, 0] ∧ win0_6.index t = ![t.val, 0, 0] :=
  (by decide +kernel : ∀ t : Fin grid0.N, _)

variable (m : (ℓ : Loc nD τ sig) → Buf (Elt Ideal) ℓ)

abbrev rowsOf (c : Dev nD) : FVec Ideal S65536x1024 .f32 := m ((c : Thread nD τ).loc main_arg0)
abbrev weightsOf (c : Dev nD) : FVec Ideal S1024x3072 .bf16 := m ((c : Thread nD τ).loc main_arg1)

/-- A two-axis array's entries, as a function of two numbers. -/
def num' {n k : ℕ} (f : FVec Ideal (⟨2, ![n, k]⟩ : Shape) .bf16) (i j : ℕ) : EReal := if h : i < n ∧ j < k then f (ix2 ⟨i, h.1⟩ ⟨j, h.2⟩) else 0
theorem num'_at {n k : ℕ} (f : FVec Ideal (⟨2, ![n, k]⟩ : Shape) .bf16) (i : Fin n) (j : Fin k) : f (ix2 i j) = num' f i.val j.val := by
  unfold num'
  rw [dif_pos ⟨i.isLt, j.isLt⟩]

theorem rows (c : Dev nD) (t : Fin cfg0.N) (r : Fin 512) (k : Fin 1024) : iblk m c 0 t (ix2 r k) = num (rowsOf m c) (512 * t.val + r.val) k.val := by
  have ht : t.val < 128 := t.isLt
  refine Eq.trans ?_ (num_at (rowsOf m c) (⟨512 * t.val + r.val, by omega⟩ : Fin 65536) k)
  blk_ext [iblk, V, idx t]
theorem weights (c : Dev nD) (t : Fin cfg0.N) (k : Fin 1024) (q : Fin 3072) : iblk m c 1 t (ix2 k q) = num' (weightsOf m c) k.val q.val := by
  refine Eq.trans ?_ (num'_at (weightsOf m c) k q)
  blk_ext [iblk, V, idx t]
theorem tableC (c : Dev nD) (t : Fin cfg0.N) (r : Fin 512) (l : Fin 128) :
    iblk m c 2 t (ix2 r l) = tabC (num cosine) ((512 * t.val + r.val) % 2048) l.val := by
  have ht : t.val < 128 := t.isLt
  have e : iblk m c 2 t (ix2 r l) = V m c main_v40 (ix2 (⟨512 * (t.val % 4) + r.val, by omega⟩ : Fin 2048) l) := by
    blk_ext [iblk, idx t]
  rw [e, InprojHost.V_cos, InprojHost.cos_at,
    show Host.cos InprojHost.angle = cosine from rfl, num_at cosine, show (512 * t.val + r.val) % 2048 = 512 * (t.val % 4) + r.val by omega]
  rfl
theorem tableA (c : Dev nD) (t : Fin cfg0.N) (r : Fin 512) (l : Fin 128) :
    iblk m c 3 t (ix2 r l) = tabA (num sine) ((512 * t.val + r.val) % 2048) l.val := by
  have ht : t.val < 128 := t.isLt
  have e : iblk m c 3 t (ix2 r l) = V m c main_v49 (ix2 (⟨512 * (t.val % 4) + r.val, by omega⟩ : Fin 2048) l) := by
    blk_ext [iblk, idx t]
  rw [e, InprojHost.V_up, InprojHost.up_at,
    show Host.sin InprojHost.angle = sine from rfl, num_at sine, show (512 * t.val + r.val) % 2048 = 512 * (t.val % 4) + r.val by omega]
  rfl
theorem tableB (c : Dev nD) (t : Fin cfg0.N) (r : Fin 512) (l : Fin 128) :
    iblk m c 4 t (ix2 r l) = tabB (num sine) ((512 * t.val + r.val) % 2048) l.val := by
  have ht : t.val < 128 := t.isLt
  have e : iblk m c 4 t (ix2 r l) = V m c main_v59 (ix2 (⟨512 * (t.val % 4) + r.val, by omega⟩ : Fin 2048) l) := by
    blk_ext [iblk, idx t]
  rw [e, InprojHost.V_down, InprojHost.down_at,
    show Host.sin InprojHost.angle = sine from rfl, num_at sine, show (512 * t.val + r.val) % 2048 = 512 * (t.val % 4) + r.val by omega]
  rfl

/-- The staged tables turn a row's lane as the reference rotates it. -/
theorem turned (c : Dev nD) (t : ℕ) (r n l : ℕ) (hl : l < 128) (hn : 128 ∣ n) :
    turnAt (fun r k => num (rowsOf m c) (512 * t + r) k) (num' (weightsOf m c)) (fun r l => tabC (num cosine) ((512 * t + r) % 2048) l)
      (fun r l => tabA (num sine) ((512 * t + r) % 2048) l) (fun r l => tabB (num sine) ((512 * t + r) % 2048) l) r n l
      = rot (num (rowsOf m c)) (num' (weightsOf m c)) (num cosine) (num sine) (512 * t + r) (n + l) :=
  turn_eq _ _ _ _ _ _ _ _ r (512 * t + r) n l hl hn (fun k => rfl) rfl rfl rfl

theorem arr_out (c : Dev nD) :
    (dats m 0 c).arrAt 5 cfg0.N = Cert.InprojRefIdeal.Read.val_main_v114 (F := Ideal) (m ((c : Thread nD τ).loc main_arg0))
      (m ((c : Thread nD τ).loc main_arg1)) := by
  refine (dats m 0 c).arrAt_eq_of_covers 5 _ (by decide +kernel) fun t _ y => ?_
  blk_simp
  rw [after0_5]
  have ht : t.val < 128 := t.isLt
  have hy0 : (y 0).val < 512 := (y 0).isLt
  have hy1 : (y 1).val < 3072 := (y 1).isLt
  have he : (win0_5.blk t).view.emb y = ix2 (⟨512 * t.val + (y 0).val, by omega⟩ : Fin 65536) (⟨(y 1).val, hy1⟩ : Fin 3072) := by
    blk_ext [iblk, V, idx t]
  rw [he]
  refine (out_at _ _ _ _ _ (fun r k => num (rowsOf m c) (512 * t.val + r) k) (num' (weightsOf m c))
    (fun r l => tabC (num cosine) ((512 * t.val + r) % 2048) l) (fun r l => tabA (num sine) ((512 * t.val + r) % 2048) l)
    (fun r l => tabB (num sine) ((512 * t.val + r) % 2048) l)
    (rows m c t) (weights m c t) (tableC m c t) (tableA m c t) (tableB m c t) y).trans ?_
  refine Eq.trans ?_ (Cert.InprojRefValue.out_at _ _ _ _ (num_at (rowsOf m c)) (num'_at (weightsOf m c)) _ _).symm
  unfold outAt spec
  refine if_congr Iff.rfl ?_ rfl
  refine (turned m c t.val (y 0).val _ _ (Nat.mod_lt _ (by decide)) ⟨_, rfl⟩).trans ?_
  exact congrArg (rot _ _ _ _ _) (Nat.div_add_mod _ _)

theorem arr_mean (c : Dev nD) :
    (dats m 0 c).arrAt 6 cfg0.N = Cert.InprojRefIdeal.Read.val_main_v112 (F := Ideal) (m ((c : Thread nD τ).loc main_arg0))
      (m ((c : Thread nD τ).loc main_arg1)) := by
  refine (dats m 0 c).arrAt_eq_of_covers 6 _ (by decide +kernel) fun t _ y => ?_
  blk_simp
  rw [after0_6]
  have ht : t.val < 128 := t.isLt
  have hy0 : (y 0).val < 2 := (y 0).isLt
  have hy1 : (y 1).val < 1 := (y 1).isLt
  have hy2 : (y 2).val < 512 := (y 2).isLt
  have he : (win0_6.blk t).view.emb y = ix3 (⟨2 * t.val + (y 0).val, by omega⟩ : Fin 256) (0 : Fin 1) (⟨(y 2).val, hy2⟩ : Fin 512) := by
    blk_ext [iblk, V, idx t]
  rw [he]
  refine (means_at _ _ _ _ _ (fun r k => num (rowsOf m c) (512 * t.val + r) k) (num' (weightsOf m c))
    (fun r l => tabC (num cosine) ((512 * t.val + r) % 2048) l) (fun r l => tabA (num sine) ((512 * t.val + r) % 2048) l)
    (fun r l => tabB (num sine) ((512 * t.val + r) % 2048) l)
    (rows m c t) (weights m c t) (tableC m c t) (tableA m c t) (tableB m c t) y).trans ?_
  refine Eq.trans ?_ (Cert.InprojRefValue.mean_at _ _ _ _ (num_at (rowsOf m c)) (num'_at (weightsOf m c)) _ _).symm
  unfold meanAt specMean
  refine congrArg (· * _) (Finset.sum_congr rfl fun i _ => ?_)
  refine (turned m c t.val _ _ _ (Nat.mod_lt _ (by decide)) ⟨16 + (y 2).val / 128, by omega⟩).trans ?_
  exact congrArg₂ (rot _ _ _ _) (by show 512 * t.val + (256 * (y 0).val + i.val) = 256 * (2 * t.val + (y 0).val) + i.val; omega)
    (by show 2048 + 128 * ((y 2).val / 128) + (y 2).val % 128 = 2048 + (y 2).val; omega)

end Cert.InprojValue

end
-- ==== Proof.Inproj.Claims.lean ====
/-
  The claims about the input projection: it runs and leaves its arguments as they were, its idealization is the kernel itself, and
  over the extended reals both its results are the reference's.
-/
module

public import proofs.«01_k».proof.Defs
public import proofs.«01_k».proof.Proof.Inproj.Value
public import proofs.«01_k».proof.Proof.Gen.Inproj.Frame
public import proofs.«01_k».proof.Proof.Gen.InprojIdeal.Frame
public import proofs.«01_k».proof.Proof.Gen.InprojIdeal.Value
public import proofs.«01_k».proof.Proof.Gen.InprojRefIdeal.Run
public import proofs.«01_k».proof.Proof.Gen.InprojRefIdeal.Read

@[expose] public section

noncomputable section

namespace Cert.InprojClaims

open Idealize.ShloMosaic Idealize.ShloMosaic.TcCoe Idealize.SL.Sem

theorem kernel_runs : Cert.quiescent_Inproj := fun m g _ => Cert.Inproj.Gen.frame m g

theorem ideal_runs : Cert.quiescent_InprojIdeal := fun m g _ => Cert.InprojIdeal.Gen.frame m g

/-- The reference is host operations on a machine without semaphores. -/
theorem ref_runs : Cert.quiescent_InprojRefIdeal := by
  intro m g _
  refine θ_run_mono (Cert.InprojRefIdeal.Value.run m g) fun r h => ⟨fun c => (h c).2.2, sem_eq_zero_of_no_sems (by decide) _⟩

theorem preserved : Cert.preserves_Inproj_InprojIdeal := trivial

/-- The projection with its rotated lanes, and the means of the block-sparse keys. -/
theorem equal : Cert.algebraic_InprojIdeal_InprojRefIdeal := by
  pair_intro
  · run_from Cert.InprojIdeal.Value.run_blocks m g
  · run_from Cert.InprojRefIdeal.Value.run m' g'
    · rw [Cert.InprojRefIdeal.Read.val_main_v114_eq, (hagree c).1, (hagree c).2]
      exact (Cert.InprojValue.arr_out m c).symm
    · rw [Cert.InprojRefIdeal.Read.val_main_v112_eq, (hagree c).1, (hagree c).2]
      exact (Cert.InprojValue.arr_mean m c).symm

end Cert.InprojClaims

end
-- ==== Proof.Moba.Select.lean ====
/-
  The choice of the past blocks a query attends to. A block is chosen when it lies before the query's own one and fewer than three of
  those are ahead of it: of greater gate, or of equal gate and earlier. The stable sort by descending gate leaves a block at the position
  which is the number of blocks ahead of it, so the first three sorted positions that lie before the own block's number name the same blocks.
-/
module

public import Idealize.ShloMosaic.Lib.SortFacts
public import Mathlib.Data.EReal.Basic

@[expose] public section

noncomputable section

namespace Cert.MobaSelect

open Idealize.ShloMosaic

/-! ## The stable sort by descending key -/

section
variable {n : ℕ} (G : Fin n → EReal)

/-- The sort's comparison. -/
abbrev desc (x y : Fin n) : Bool := decide (G y < G x)

/-- Greater key first, then the earlier position. -/
def Before (x y : Fin n) : Prop := G y < G x ∨ (G x = G y ∧ x < y)

theorem before_irrefl (x : Fin n) : ¬ Before G x x := by
  rintro (h | ⟨-, h⟩) <;> exact lt_irrefl _ h

theorem before_asymm {x y : Fin n} (h : Before G x y) : ¬ Before G y x := by
  rcases h with h | ⟨e, h⟩
  · rintro (h' | ⟨e', -⟩)
    · exact lt_asymm h h'
    · exact h.ne e'
  · rintro (h' | ⟨-, h'⟩)
    · exact h'.ne e
    · exact lt_asymm h h'

theorem insert_before (a : Fin n) (l : List (Fin n)) (ha : ∀ b ∈ l, a < b) (hl : l.Pairwise (Before G)) :
    (insertBefore (desc G) a l).Pairwise (Before G) := by
  induction l with
  | nil => exact List.pairwise_singleton _ _
  | cons b l ih =>
    rw [List.pairwise_cons] at hl
    unfold insertBefore
    split
    · rename_i h
      refine List.pairwise_cons.2 ⟨fun c hc => ?_, ih (fun c hc => ha c (List.mem_cons_of_mem b hc)) hl.2⟩
      rcases List.mem_cons.1 ((perm_insertBefore _ a l).mem_iff.1 hc) with rfl | hc'
      · exact .inl (of_decide_eq_true h)
      · exact hl.1 c hc'
    · rename_i h
      have hle : G b ≤ G a := not_lt.1 fun hlt => h (decide_eq_true hlt)
      refine List.pairwise_cons.2 ⟨fun c hc => ?_, List.pairwise_cons.2 hl⟩
      have hac := ha c hc
      have hcb : G c ≤ G b := by
        rcases List.mem_cons.1 hc with rfl | hc'
        · exact le_rfl
        · rcases hl.1 c hc' with h' | ⟨e, -⟩
          · exact h'.le
          · exact e.ge
      rcases lt_or_eq_of_le (hcb.trans hle) with h' | e
      · exact .inl h'
      · exact .inr ⟨e.symm, hac⟩

theorem sort_before (l : List (Fin n)) (hl : l.Pairwise (· < ·)) : (stableSort (desc G) l).Pairwise (Before G) := by
  induction l with
  | nil => exact List.Pairwise.nil
  | cons a l ih =>
    obtain ⟨ha, hl'⟩ := List.pairwise_cons.1 hl
    unfold stableSort
    exact insert_before G a _ (fun b hb => ha b ((perm_stableSort _ l).mem_iff.1 hb)) (ih hl')

theorem sorted_before (i j : Fin n) (h : i < j) : Before G (sortedFrom (desc G) i) (sortedFrom (desc G) j) := by
  have hp : ∀ a b : Fin (sortPositions n (desc G)).length, a < b → Before G ((sortPositions n (desc G)).get a) ((sortPositions n (desc G)).get b) :=
    List.pairwise_iff_get.1 (sort_before G (List.finRange n) (List.pairwise_lt_finRange n))
  unfold sortedFrom
  exact hp _ _ (by simp only [Fin.lt_def, Fin.val_cast]; exact h)

theorem before_sorted (i j : Fin n) : Before G (sortedFrom (desc G) i) (sortedFrom (desc G) j) ↔ i < j := by
  refine ⟨fun h => ?_, sorted_before G i j⟩
  rcases lt_trichotomy i j with h' | rfl | h'
  · exact h'
  · exact absurd h (before_irrefl G _)
  · exact absurd (sorted_before G j i h') (before_asymm G h)

open Classical in
/-- How many positions are before one. -/
def place (k : Fin n) : ℕ := (Finset.univ.filter fun m => Before G m k).card

theorem place_sorted (i : Fin n) : place G (sortedFrom (desc G) i) = i.val := by
  classical
  have h : (Finset.univ.filter fun m => Before G m (sortedFrom (desc G) i)) = (Finset.Iio i).map ⟨_, sortedFrom_injective (desc G)⟩ := by
    ext m
    obtain ⟨j, rfl⟩ := sortedFrom_surjective (desc G) m
    simp only [Finset.mem_filter, Finset.mem_univ, true_and, Finset.mem_map, Finset.mem_Iio, Function.Embedding.coeFn_mk, before_sorted]
    exact ⟨fun h => ⟨j, h, rfl⟩, fun ⟨j', h, e⟩ => sortedFrom_injective (desc G) e ▸ h⟩
  unfold place
  convert (congrArg Finset.card h).trans ?_ using 1
  rw [Finset.card_map, Fin.card_Iio]

theorem sorted_iff (L : ℕ) (k : Fin n) : (∃ s : Fin n, s.val < L ∧ sortedFrom (desc G) s = k) ↔ place G k < L := by
  obtain ⟨j, rfl⟩ := sortedFrom_surjective (desc G) k
  rw [place_sorted]
  exact ⟨fun ⟨s, h, e⟩ => sortedFrom_injective (desc G) e ▸ h, fun h => ⟨j, h, rfl⟩⟩

end

/-! ## The chosen blocks -/

/-- Block `m` is ahead of block `k`. -/
def ahead (g : ℕ → EReal) (m k : ℕ) : Prop := g k < g m ∨ (g m = g k ∧ m < k)

open Classical in
/-- How many of the blocks before block `own` are ahead of block `k`. -/
def rankOf (g : ℕ → EReal) (own k : ℕ) : ℕ := ((Finset.range own).filter fun m => ahead g m k).card

/-- Block `k` is one of those a query of block `own` attends to besides its own. -/
def chosen (g : ℕ → EReal) (own k : ℕ) : Prop := k < own ∧ rankOf g own k < 3

theorem not_ahead_self (g : ℕ → EReal) (k : ℕ) : ¬ ahead g k k := by
  rintro (h | ⟨-, h⟩) <;> exact lt_irrefl _ h

theorem rankOf_lt (g : ℕ → EReal) {own k : ℕ} (h : k < own) : rankOf g own k < own := by
  classical
  have hs : ((Finset.range own).filter fun m => ahead g m k) ⊂ Finset.range own :=
    Finset.filter_ssubset.2 ⟨k, Finset.mem_range.2 h, not_ahead_self g k⟩
  simpa [rankOf] using Finset.card_lt_card hs

/-- With at most three past blocks all of them are chosen. -/
theorem chosen_few (g : ℕ → EReal) {own k : ℕ} (h : k < own) (h3 : own ≤ 3) : chosen g own k := ⟨h, (rankOf_lt g h).trans_le h3⟩

/-- The gates with those of the blocks not before the own one at minus infinity. -/
def past (g : ℕ → EReal) (own : ℕ) (p : Fin 8) : EReal := if p.val < own then g p.val else ⊥

theorem place_past (g : ℕ → EReal) (own : ℕ) (ho : own ≤ 8) (k : Fin 8) (hk : k.val < own) : place (past g own) k = rankOf g own k.val := by
  classical
  unfold place rankOf
  refine Finset.card_bij (fun m _ => m.val) ?_ (fun a _ b _ h => Fin.ext h) ?_
  · intro m hm
    have hm' : Before (past g own) m k := by simpa using hm
    have hmo : m.val < own := by
      by_contra hn
      rcases hm' with h | e
      · simp [past, hn] at h
      · exact hn (lt_trans (Fin.lt_def.1 e.2) hk)
    refine Finset.mem_filter.2 ⟨Finset.mem_range.2 hmo, ?_⟩
    rcases hm' with h | ⟨e, h⟩
    · exact .inl (by simpa [past, hmo, hk] using h)
    · exact .inr ⟨by simpa [past, hmo, hk] using e, h⟩
  · intro m hm
    obtain ⟨hm1, hm2⟩ := Finset.mem_filter.1 hm
    have hmo := Finset.mem_range.1 hm1
    refine ⟨⟨m, by omega⟩, ?_, rfl⟩
    rw [Finset.mem_filter]
    refine ⟨Finset.mem_univ _, ?_⟩
    rcases hm2 with h | ⟨e, h⟩
    · exact .inl (by simpa [past, hmo, hk] using h)
    · exact .inr ⟨by simpa [past, hmo, hk] using e, h⟩

theorem place_later (g : ℕ → EReal) (own : ℕ) (ho : own ≤ 8) (k : Fin 8) (hk : ¬ k.val < own) : own ≤ place (past g own) k := by
  classical
  unfold place
  have hb : ∀ m : Fin own, Before (past g own) (⟨m.val, by omega⟩ : Fin 8) k := fun m => by
    have hlt : (⟨m.val, by omega⟩ : Fin 8) < k := Fin.lt_def.2 (by show m.val < k.val; omega)
    have hb : past g own k = ⊥ := by simp [past, hk]
    unfold Before
    rw [hb]
    exact (eq_or_lt_of_le (bot_le (a := past g own (⟨m.val, by omega⟩ : Fin 8)))).elim (fun e => .inr ⟨e.symm, hlt⟩) .inl
  calc own = (Finset.univ : Finset (Fin own)).card := by simp
    _ ≤ _ := Finset.card_le_card_of_injOn (fun m => (⟨m.val, by omega⟩ : Fin 8)) (fun m _ => by simpa using hb m)
      (fun a _ b _ h => Fin.ext (by simpa using h))

/-- The first three sorted positions that lie before the own block's number name the chosen blocks. -/
theorem slots_iff (g : ℕ → EReal) (own : ℕ) (ho : own ≤ 8) (k : Fin 8) :
    (∃ s : Fin 8, (s.val < 3 ∧ s.val < own) ∧ sortedFrom (desc (past g own)) s = k) ↔ chosen g own k.val := by
  have h := sorted_iff (past g own) (min 3 own) k
  simp only [lt_min_iff] at h
  rw [h]
  by_cases hk : k.val < own
  · rw [place_past g own ho k hk]
    exact ⟨fun h => ⟨hk, h.1⟩, fun h => ⟨h.2, rankOf_lt g hk⟩⟩
  · exact ⟨fun h => absurd h.2 (not_lt.2 (place_later g own ho k hk)), fun h => absurd h.1 hk⟩

end Cert.MobaSelect

end
-- ==== Proof.Moba.Tile.lean ====
/-
  One tile of 256 query rows of the block-sparse attention for one head, written once for every number of past key blocks and for
  both heads of a block of lanes: the queries with the other head's lanes set to zero, the block gate and its ranks, the scores with the
  blocks not chosen masked, the weights 2^(score - row value), their product with the values (ones in the other head's lanes) and
  the quotient by the weights' sum read off one of those lanes.
-/
module

public import proofs.«01_k».proof.Proof.Diff.Rows

@[expose] public section

set_option maxRecDepth 16384

noncomputable section

namespace Cert.MobaTile

open Idealize.ShloMosaic Idealize.ShloMosaic.TcCoe Idealize.ShloMosaic.WordCmp Cert.DiffTile

/-- The lanes of head `hh` of a block of two heads. -/
def headMask (n hh : ℕ) (hi : (mat n 128).Iotas .tc 32 [1]) : IVec (mat n 128) 1 :=
  andi (cmpi .sge (iota .tc (mat n 128) 32 [1] hi) (broadcast (mat n 128) (BitVec.ofNat 32 (64 * hh))))
    (cmpi .slt (iota .tc (mat n 128) 32 [1] hi) (broadcast (mat n 128) (BitVec.ofNat 32 (64 * hh + 64))))

/-- The queries with the other head's lanes set to zero. -/
def onHead (hh : ℕ) (q : FVec Ideal (mat 256 128) .bf16) : FVec Ideal (mat 256 128) .bf16 :=
  select (headMask 256 hh (by decide)) q (broadcast (mat 256 128) (Scalar.ofBits .bf16 0x0000#16 : Ideal .bf16))

/-- The values with the other head's lanes set to one. -/
def onesOff (hh : ℕ) (v : FVec Ideal (mat 2048 128) .bf16) : FVec Ideal (mat 2048 128) .bf16 :=
  select (headMask 2048 hh (by decide)) v (broadcast (mat 2048 128) (Scalar.ofBits .bf16 0x3F80#16 : Ideal .bf16))

/-- The greatest of the columns `c` and `c + 128` of the own block and of the first `j` past ones. -/
def colMax {i : ℕ} (d : FVec Ideal (mat 256 256) .f32) (p : Fin i → FVec Ideal (mat 256 256) .f32) :
    (j : ℕ) → j ≤ i → FVec Ideal (mat 256 128) .f32
  | 0, _ => maximumf (cols d 0 (cols_slices (by decide))) (cols d 128 (cols_slices (by decide)))
  | j + 1, h => maximumf (maximumf (colMax d p j (by omega)) (cols (p ⟨j, h⟩) 0 (cols_slices (by decide))))
      (cols (p ⟨j, h⟩) 128 (cols_slices (by decide)))

/-- The past blocks, then the own one. -/
def parts {i : ℕ} (d : FVec Ideal (mat 256 256) .f32) (p : Fin i → FVec Ideal (mat 256 256) .f32) (j : Fin (i + 1)) :
    FVec Ideal (mat 256 256) .f32 := if h : j.val < i then p ⟨j.val, h⟩ else d

/-- The first `K` rows of the values. -/
def firstRows (K : ℕ) (v : FVec Ideal (mat 2048 128) .bf16) (hs : Shape.Slices (mat 2048 128) ![0, 0] (mat K 128)) :
    FVec Ideal (mat K 128) .bf16 := extractStridedSlice (mat K 128) ![0, 0] v hs

/-- The product of the weights with the values. -/
def product {K : ℕ} (E : FVec Ideal (mat 256 K) .bf16) (v : FVec Ideal (mat K 128) .bf16) : FVec Ideal (mat 256 128) .f32 :=
  matmul (DotDims.plain 256 K 128) none E v (constant (mat 256 128) .f32 0x00000000#32)

/-- A product over the sum of the weights, which stands in lane `o`. -/
def over (o : ℕ) (A : FVec Ideal (mat 256 128) .f32) (hs : Shape.Slices (mat 256 128) ![0, o] (mat 256 1)) : FVec Ideal (mat 256 128) .f32 :=
  divf A (broadcastTo (mat 256 128) (extractStridedSlice (mat 256 1) ![0, o] A hs) (by decide))

/-- The first block's attention. -/
def softFirst (o : ℕ) (d : FVec Ideal (mat 256 256) .f32) (v : FVec Ideal (mat 256 128) .bf16)
    (ho : Shape.Slices (mat 256 128) ![0, o] (mat 256 1)) : FVec Ideal (mat 256 128) .f32 :=
  over o (product (wts d (rowMax (colMax (i := 0) d (fun j => d) 0 (by decide))) (by decide)) v) ho

/-- A later block's attention. -/
def softLater {i : ℕ} (o : ℕ) (d : FVec Ideal (mat 256 256) .f32) (p : Fin i → FVec Ideal (mat 256 256) .f32)
    (v : FVec Ideal (mat (256 * (i + 1)) 128) .bf16)
    (hc : Shape.Concatenates ((List.ofFn fun j : Fin (i + 1) => (⟨mat 256 256, wts (parts d p j) (rowMax (colMax d p i (Nat.le_refl i))) (by decide)⟩ :
      (s : Shape) × (s.Idx → Ideal .bf16))).map (·.1)) (mat 256 (256 * (i + 1))) 1)
    (ho : Shape.Slices (mat 256 128) ![0, o] (mat 256 1)) : FVec Ideal (mat 256 128) .f32 :=
  over o (product (concatenate (mat 256 (256 * (i + 1))) 1 (List.ofFn fun j : Fin (i + 1) =>
    (⟨mat 256 256, wts (parts d p j) (rowMax (colMax d p i (Nat.le_refl i))) (by decide)⟩ : (s : Shape) × (s.Idx → Ideal .bf16))) hc) v) ho

/-- The gate of the row against the eight blocks' means. -/
def gate (km : FVec Ideal (mat 8 128) .bf16) (q : FVec Ideal (mat 256 128) .bf16) : FVec Ideal (mat 8 256) .f32 :=
  matmul (DotDims.transposedRhs 8 128 256) none km q (constant (mat 8 256) .f32 0x00000000#32)

/-- The number of a block. -/
def blockNo : IVec (mat 8 256) 32 := iota .tc (mat 8 256) 32 [0] (by decide)

/-- Ones where a condition holds, zeros elsewhere. -/
def ones (c : IVec (mat 8 256) 1) : FVec Ideal (mat 8 256) .f32 :=
  select c (broadcast (mat 8 256) (Scalar.ofBits .f32 0x3F800000#32 : Ideal .f32)) (broadcast (mat 8 256) (Scalar.ofBits .f32 0x00000000#32 : Ideal .f32))

/-- Block `m`'s gate beside every block's. -/
def rowOf (g : FVec Ideal (mat 8 256) .f32) (m : ℕ) (h : Shape.Slices (mat 8 256) ![m, 0] (mat 1 256)) : FVec Ideal (mat 8 256) .f32 :=
  broadcastTo (mat 8 256) (extractStridedSlice (mat 1 256) ![m, 0] g h) (by decide)

theorem row_slices {m : ℕ} (h : m < 8) : Shape.Slices (mat 8 256) ![m, 0] (mat 1 256) :=
  ⟨rfl, fun a => by
    match a with
    | ⟨0, _⟩ => exact h
    | ⟨1, _⟩ => exact Nat.le_refl 256⟩

/-- How many of the first `m` blocks are ahead of a block. -/
def rank (g : FVec Ideal (mat 8 256) .f32) : (m : ℕ) → m ≤ 8 → FVec Ideal (mat 8 256) .f32
  | 0, _ => broadcast (mat 8 256) (Scalar.ofBits .f32 0x00000000#32 : Ideal .f32)
  | m + 1, h => addf (rank g m (by omega)) (ones (ori (cmpf .ogt (rowOf g m (row_slices h)) g)
      (andi (cmpf .oeq (rowOf g m (row_slices h)) g) (cmpi .sgt blockNo (broadcast (mat 8 256) (BitVec.ofNat 32 m))))))

/-- One for the past blocks fewer than three of which are ahead of it, zero for the others: a row per query, a column per block. -/
def chosen (g : FVec Ideal (mat 8 256) .f32) (i : ℕ) (h : i ≤ 8) : FVec Ideal (mat 256 128) .f32 :=
  transpose (mat 256 128) [1, 0] (concatenate (mat 128 256) 0
    [⟨mat 8 256, ones (andi (cmpi .slt blockNo (broadcast (mat 8 256) (BitVec.ofNat 32 i)))
      (cmpf .olt (rank g i h) (broadcast (mat 8 256) (Scalar.ofBits .f32 0x40400000#32 : Ideal .f32))))⟩,
     ⟨mat 120 256, broadcast (mat 120 256) (Scalar.ofBits .f32 0x00000000#32 : Ideal .f32)⟩]
    (show Shape.Concatenates [mat 8 256, mat 120 256] (mat 128 256) 0 by decide)) (by decide)

/-- Scores of a past block, masked unless the block is chosen. -/
def gated (c : FVec Ideal (mat 256 128) .f32) (j : ℕ) (hj : Shape.Slices (mat 256 128) ![0, j] (mat 256 1)) (s : FVec Ideal (mat 256 256) .f32) (m : Ideal .f32) :
    FVec Ideal (mat 256 256) .f32 :=
  select (broadcastTo (mat 256 256) (shapeCast (mat 256 1) (cmpf .ogt (extractStridedSlice (mat 256 1) ![0, j] c hj)
    (broadcast (mat 256 1) (Scalar.ofBits .f32 0x3F000000#32 : Ideal .f32))) (by decide)) (by decide)) s (broadcast (mat 256 256) m)

theorem lane_slices {j : ℕ} (h : j < 128) : Shape.Slices (mat 256 128) ![0, j] (mat 256 1) :=
  ⟨rfl, fun a => by
    match a with
    | ⟨0, _⟩ => exact Nat.le_refl 256
    | ⟨1, _⟩ => exact h⟩

/-- The two heads' blocks put side by side. -/
def both (a b : FVec Ideal (mat 256 128) .f32) : FVec Ideal (mat 256 128) .bf16 :=
  truncf .bf16 (select (headMask 256 0 (by decide)) a b) (by decide)

/-- The first block of one head. -/
def headFirst (hh o : ℕ) (m : Ideal .f32) (q kd : FVec Ideal (mat 256 128) .bf16) (v : FVec Ideal (mat 2048 128) .bf16)
    (ho : Shape.Slices (mat 256 128) ![0, o] (mat 256 1)) : FVec Ideal (mat 256 128) .f32 :=
  softFirst o (masked (score (onHead hh q) kd) m) (firstRows 256 (onesOff hh v) (by decide)) ho

theorem rows_concat {i : ℕ} (hi : 1 ≤ i) (f : Fin (i + 1) → FVec Ideal (mat 256 256) .bf16) :
    Shape.Concatenates ((List.ofFn fun j : Fin (i + 1) => (⟨mat 256 256, f j⟩ : (s : Shape) × (s.Idx → Ideal .bf16))).map (·.1))
      (mat 256 (256 * (i + 1))) 1 := by
  refine ⟨by simp; omega, ?_, ?_⟩
  · intro s hs
    simp only [List.map_ofFn, List.mem_ofFn] at hs
    obtain ⟨j, rfl⟩ := hs
    refine ⟨rfl, fun b hb => ?_⟩
    match b, hb with
    | ⟨0, _⟩, _ => rfl
    | ⟨1, _⟩, hb => exact absurd rfl hb
  · have : (List.ofFn fun j : Fin (i + 1) => (⟨mat 256 256, f j⟩ : (s : Shape) × (s.Idx → Ideal .bf16))).map (·.1) = List.replicate (i + 1) (mat 256 256) := by
      rw [List.map_ofFn]
      exact List.ofFn_const _ _
    rw [this, List.map_replicate, List.sum_replicate]
    show (i + 1) • 256 = 256 * (i + 1)
    rw [smul_eq_mul, Nat.mul_comm]

theorem rows_slices {K : ℕ} (h : K ≤ 2048) : Shape.Slices (mat 2048 128) ![0, 0] (mat K 128) :=
  ⟨rfl, fun a => by
    match a with
    | ⟨0, _⟩ => show 0 + K ≤ 2048; omega
    | ⟨1, _⟩ => exact Nat.le_refl 128⟩

/-- A block of one head with at most three past blocks, all of them chosen. -/
def headFew {i : ℕ} (h1 : 1 ≤ i) (hi : i < 8) (hh o : ℕ) (m : Ideal .f32) (q kd : FVec Ideal (mat 256 128) .bf16) (kp : Fin i → FVec Ideal (mat 256 128) .bf16)
    (v : FVec Ideal (mat 2048 128) .bf16) (ho : Shape.Slices (mat 256 128) ![0, o] (mat 256 1)) : FVec Ideal (mat 256 128) .f32 :=
  softLater o (masked (score (onHead hh q) kd) m) (fun j => score (onHead hh q) (kp j))
    (firstRows _ (onesOff hh v) (rows_slices (by omega))) (rows_concat h1 _) ho

/-- A block of one head with more past blocks, three of them chosen. -/
def headMany {i : ℕ} (h1 : 1 ≤ i) (hi : i < 8) (hh o : ℕ) (m : Ideal .f32) (km : FVec Ideal (mat 8 128) .bf16)
    (q kd : FVec Ideal (mat 256 128) .bf16) (kp : Fin i → FVec Ideal (mat 256 128) .bf16) (v : FVec Ideal (mat (256 * (i + 1)) 128) .bf16)
    (ho : Shape.Slices (mat 256 128) ![0, o] (mat 256 1)) : FVec Ideal (mat 256 128) .f32 :=
  softLater o (masked (score (onHead hh q) kd) m)
    (fun j => gated (chosen (gate km (onHead hh q)) i (by omega)) j.val (lane_slices (by omega)) (score (onHead hh q) (kp j)) m)
    v (rows_concat h1 _) ho

end Cert.MobaTile

end
-- ==== Proof.Moba.Gate.lean ====
/-
  The tile's choice of blocks read at a row: the chain of comparisons counts the blocks ahead of a
  block, and a past block's scores are kept exactly when the block is chosen.
-/
module

public import proofs.«01_k».proof.Proof.Moba.Tile
public import proofs.«01_k».proof.Proof.Moba.Select
public import proofs.«01_k».proof.Proof.Diff.Block

@[expose] public section

set_option maxRecDepth 16384

noncomputable section

namespace Cert.MobaTile

open Idealize.ShloMosaic Idealize.ShloMosaic.TcCoe Idealize.ShloMosaic.WordCmp Cert.DiffTile Cert.DiffSoftmax
open Cert.MobaSelect (ahead rankOf)
open Classical

/-! ## One-bit words -/

theorem andi_ofBool (a b : Bool) : IntOp.andi (BitVec.ofBool a) (BitVec.ofBool b) = BitVec.ofBool (a && b) := by cases a <;> cases b <;> rfl

theorem ori_ofBool (a b : Bool) : IntOp.ori (BitVec.ofBool a) (BitVec.ofBool b) = BitVec.ofBool (a || b) := by cases a <;> cases b <;> rfl

theorem select_ofBool {α : Type} (b : Bool) (x y : α) : Scalar.select (BitVec.ofBool b) x y = if b = true then x else y := by
  cases b <;> rfl

/-! ## The two heads of a block of lanes -/

/-- Lane `j` is head `hh`'s. -/
abbrev inHead (hh j : ℕ) : Prop := 64 * hh ≤ j ∧ j < 64 * hh + 64

theorem headMask_apply (n hh : ℕ) (hi) (h : hh < 2) (r : Fin n) (j : Fin 128) :
    headMask n hh hi (ix2 r j) = BitVec.ofBool (decide (inHead hh j.val)) := by
  have e : iota .tc (mat n 128) 32 [1] hi (ix2 r j) = BitVec.ofNat 32 j.val := by
    show BitVec.ofNat 32 (0 * 128 + j.val) = _
    rw [Nat.zero_mul, Nat.zero_add]
  show IntOp.andi (IntOp.cmpi .sge (iota .tc (mat n 128) 32 [1] hi (ix2 r j)) (BitVec.ofNat 32 (64 * hh)))
    (IntOp.cmpi .slt (iota .tc (mat n 128) 32 [1] hi (ix2 r j)) (BitVec.ofNat 32 (64 * hh + 64))) = _
  rw [e, cmpi_sge_ofNat (by omega) (by omega), cmpi_slt_ofNat (by omega) (by omega), andi_ofBool, Bool.decide_and]

theorem onHead_apply (hh : ℕ) (h : hh < 2) (q : FVec Ideal (mat 256 128) .bf16) (r : Fin 256) (j : Fin 128) :
    onHead hh q (ix2 r j) = if inHead hh j.val then q (ix2 r j) else 0 := by
  show Scalar.select (headMask 256 hh _ (ix2 r j)) (q (ix2 r j)) (Ideal.ofBits .bf16 0x0000#16) = _
  rw [headMask_apply _ _ _ h, select_ofBool, show Ideal.ofBits .bf16 0x0000#16 = 0 by simp [Ideal.ofBits, Ideal.ieee]]
  by_cases hj : inHead hh j.val <;> simp [hj]

theorem onesOff_apply (hh : ℕ) (h : hh < 2) (v : FVec Ideal (mat 2048 128) .bf16) (k : Fin 2048) (j : Fin 128) :
    onesOff hh v (ix2 k j) = if inHead hh j.val then v (ix2 k j) else 1 := by
  show Scalar.select (headMask 2048 hh _ (ix2 k j)) (v (ix2 k j)) (Ideal.ofBits .bf16 0x3F80#16) = _
  rw [headMask_apply _ _ _ h, select_ofBool, Idealize.ShloMosaic.Ideal.ofBits_one_bf16]
  by_cases hj : inHead hh j.val <;> simp [hj]

theorem both_apply (a b : FVec Ideal (mat 256 128) .f32) (r : Fin 256) (j : Fin 128) :
    both a b (ix2 r j) = if j.val < 64 then a (ix2 r j) else b (ix2 r j) := by
  show Scalar.select (headMask 256 0 _ (ix2 r j)) (a (ix2 r j)) (b (ix2 r j)) = _
  rw [headMask_apply _ _ _ (by decide), select_ofBool]
  by_cases hj : j.val < 64
  · rw [if_pos (by simp [inHead, hj]), if_pos hj]
  · rw [if_neg (by simp [inHead, hj]), if_neg hj]

theorem sum_inHead {A : Type} [AddCommMonoid A] (f : ℕ → A) {hh : ℕ} (h : hh < 2) :
    ∑ j ∈ Finset.range 128, (if inHead hh j then f j else 0) = ∑ j ∈ Finset.range 64, f (64 * hh + j) := by
  rw [show (128 : ℕ) = 64 + 64 from rfl, Finset.sum_range_add]
  interval_cases hh
  · rw [Finset.sum_eq_zero (s := Finset.range 64) (f := fun j => if inHead 0 (64 + j) then f (64 + j) else 0) fun j _ => if_neg (by simp [inHead]), add_zero]
    refine Finset.sum_congr rfl fun j hj => ?_
    have := Finset.mem_range.1 hj
    rw [if_pos (by simp [inHead]; omega), Nat.mul_zero, Nat.zero_add]
  · rw [Finset.sum_eq_zero (s := Finset.range 64) (f := fun j => if inHead 1 j then f j else 0) fun j hj => if_neg (by
      have := Finset.mem_range.1 hj
      simp [inHead]; omega), zero_add]
    refine Finset.sum_congr rfl fun j hj => ?_
    have := Finset.mem_range.1 hj
    rw [if_pos (by simp [inHead]; omega), Nat.mul_one]

/-- A product of a row of the queries with a row of lanes, over the lanes of one head. -/
theorem sum_onHead {hh : ℕ} (h : hh < 2) (q : FVec Ideal (mat 256 128) .bf16) (r : Fin 256) (Q K : ℕ → ℕ → ℝ) (R k' : ℕ)
    (hq : ∀ j : Fin 128, q (ix2 r j) = (Q R j.val : EReal)) :
    ∑ j : Fin 128, onHead hh q (ix2 r j) * (K k' j.val : EReal) = (lane Q K hh R k' : EReal) := by
  have e : ∀ j : Fin 128, onHead hh q (ix2 r j) * (K k' j.val : EReal) = (((if inHead hh j.val then Q R j.val * K k' j.val else 0) : ℝ) : EReal) := fun j => by
    rw [onHead_apply hh h, hq]
    by_cases hj : inHead hh j.val
    · rw [if_pos hj, if_pos hj, EReal.coe_mul]
    · rw [if_neg hj, if_neg hj, zero_mul, EReal.coe_zero]
  rw [Finset.sum_congr rfl fun j _ => e j, coe_sum, Fin.sum_univ_eq_sum_range (fun j => if inHead hh j then Q R j * K k' j else 0) 128,
    sum_inHead (fun j => Q R j * K k' j) h]
  rfl

theorem score_onHead {hh : ℕ} (h : hh < 2) (q k : FVec Ideal (mat 256 128) .bf16) (r c : Fin 256) (Q K : ℕ → ℕ → ℝ) (R k' : ℕ)
    (hq : ∀ j : Fin 128, q (ix2 r j) = (Q R j.val : EReal)) (hk : ∀ j : Fin 128, k (ix2 c j) = (K k' j.val : EReal)) :
    score (onHead hh q) k (ix2 r c) = (lane Q K hh R k' : EReal) := by
  rw [score_apply]
  simp only [hk]
  exact sum_onHead h q r Q K R k' hq

/-- The gate of row `R` against the means of block `m`, over the lanes of one head. -/
def gateLane (Q : ℕ → ℕ → ℝ) (M : ℕ → ℕ → EReal) (hh R m : ℕ) : EReal :=
  ∑ j ∈ Finset.range 64, (Q R (64 * hh + j) : EReal) * M m (64 * hh + j)

theorem gate_onHead {hh : ℕ} (h : hh < 2) (km : FVec Ideal (mat 8 128) .bf16) (q : FVec Ideal (mat 256 128) .bf16) (r : Fin 256) (m : Fin 8)
    (Q : ℕ → ℕ → ℝ) (M : ℕ → ℕ → EReal) (R : ℕ) (hq : ∀ j : Fin 128, q (ix2 r j) = (Q R j.val : EReal)) (hm : ∀ j : Fin 128, km (ix2 m j) = M m.val j.val) :
    gate km (onHead hh q) (ix2 m r) = gateLane Q M hh R m.val := by
  have e : ∀ j : Fin 128, km (ix2 m j) * onHead hh q (ix2 r j) = if inHead hh j.val then (Q R j.val : EReal) * M m.val j.val else 0 := fun j => by
    refine ((congrArg (· * onHead hh q (ix2 r j)) (hm j)).trans (mul_comm _ _)).trans ?_
    rw [onHead_apply hh h, hq]
    by_cases hj : inHead hh j.val
    · rw [if_pos hj, if_pos hj]
    · rw [if_neg hj, if_neg hj, zero_mul]
  show FloatOps.matmul (DotDims.transposedRhs 8 128 256) none km (onHead hh q) _ (ix2 m r) = _
  refine (Ideal.matmul_transposedRhs_apply none km (onHead hh q) _ m r).trans ?_
  show Ideal.ofBits .f32 0x00000000#32 + _ = _
  rw [Ideal.ofBits_zero, zero_add]
  refine (Finset.sum_congr rfl fun j _ => e j).trans ?_
  rw [Fin.sum_univ_eq_sum_range (fun j => if inHead hh j then (Q R j : EReal) * M m.val j else 0) 128]
  exact sum_inHead (fun j => (Q R j : EReal) * M m.val j) h

/-! ## The ranks -/

theorem one_f32 : Ideal.ofBits .f32 0x3F800000#32 = ((1 : ℝ) : EReal) := by
  simp [Ideal.ofBits, Ideal.ieee, -EReal.coe_mul]
  try norm_num

theorem three_f32 : Ideal.ofBits .f32 0x40400000#32 = ((3 : ℝ) : EReal) := by
  simp [Ideal.ofBits, Ideal.ieee, -EReal.coe_mul]
  try norm_num

theorem half_f32 : Ideal.ofBits .f32 0x3F000000#32 = ((2⁻¹ : ℝ) : EReal) := by
  simp [Ideal.ofBits, Ideal.ieee, -EReal.coe_mul]
  try norm_num

theorem ones_apply (c : IVec (mat 8 256) 1) (p : Prop) (y : (mat 8 256).Idx) (h : c y = BitVec.ofBool (decide p)) :
    ones c y = (((if p then 1 else 0) : ℝ) : EReal) := by
  show Scalar.select (c y) (Ideal.ofBits .f32 0x3F800000#32) (Ideal.ofBits .f32 0x00000000#32) = _
  rw [h, select_ofBool, one_f32, Ideal.ofBits_zero]
  by_cases hp : p <;> simp [hp]

theorem rowOf_apply (g : FVec Ideal (mat 8 256) .f32) (m : ℕ) (h : m < 8) (k : Fin 8) (r : Fin 256) :
    rowOf g m (row_slices h) (ix2 k r) = g (ix2 (⟨m, h⟩ : Fin 8) r) := by
  unfold rowOf
  refine (broadcastTo_apply _ _ (ix2 k r) (ix2 (0 : Fin 1) r) fun a => ?_).trans ?_
  · match a with
    | ⟨0, _⟩ => rfl
    | ⟨1, _⟩ => rfl
  · refine extractStridedSlice_apply ![m, 0] g _ _ _ fun a => ?_
    match a with
    | ⟨0, _⟩ => rfl
    | ⟨1, _⟩ => show r.val = 0 + r.val; omega

theorem blockNo_apply (k : Fin 8) (r : Fin 256) : blockNo (ix2 k r) = BitVec.ofNat 32 k.val := by
  show BitVec.ofNat 32 (0 * 8 + k.val) = _
  rw [Nat.zero_mul, Nat.zero_add]

theorem cmpf_coe_ogt (x y : ℝ) : FloatOps.cmpf (F := Ideal) (φ := .f32) .ogt (x : EReal) (y : EReal) = BitVec.ofBool (decide (y < x)) := by
  show BitVec.ofBool (decide ((y : EReal) < (x : EReal))) = _
  simp only [EReal.coe_lt_coe_iff]

theorem cmpf_coe_olt (x y : ℝ) : FloatOps.cmpf (F := Ideal) (φ := .f32) .olt (x : EReal) (y : EReal) = BitVec.ofBool (decide (x < y)) := by
  show BitVec.ofBool (decide ((x : EReal) < (y : EReal))) = _
  simp only [EReal.coe_lt_coe_iff]

theorem cmpf_ogt (x y : EReal) : FloatOps.cmpf (F := Ideal) (φ := .f32) .ogt x y = BitVec.ofBool (decide (y < x)) := by
  show BitVec.ofBool (decide (y < x)) = _
  congr

theorem cmpf_oeq (x y : EReal) : FloatOps.cmpf (F := Ideal) (φ := .f32) .oeq x y = BitVec.ofBool (decide (x = y)) := by
  show BitVec.ofBool (decide (x = y)) = _
  congr

theorem rank_apply (g : FVec Ideal (mat 8 256) .f32) (G : ℕ → EReal) (r : Fin 256) (hg : ∀ m : Fin 8, g (ix2 m r) = G m.val) (k : Fin 8) :
    ∀ (m : ℕ) (h : m ≤ 8), rank g m h (ix2 k r) = ((rankOf G m k.val : ℝ) : EReal)
  | 0, h => by
    show Ideal.ofBits .f32 0x00000000#32 = _
    rw [Ideal.ofBits_zero]
    simp [rankOf]
  | m + 1, h => by
    have hm : m < 8 := h
    show rank g m _ (ix2 k r) + ones _ (ix2 k r) = _
    rw [rank_apply g G r hg k m (by omega), ones_apply _ (ahead G m k.val) _ ?_, ← EReal.coe_add]
    · refine congrArg _ ?_
      unfold rankOf
      rw [Finset.range_add_one, Finset.filter_insert]
      by_cases ha : ahead G m k.val
      · rw [if_pos ha, if_pos ha, Finset.card_insert_of_notMem (by simp), Nat.cast_add, Nat.cast_one]
      · rw [if_neg ha, if_neg ha, add_zero]
    · show IntOp.ori (FloatOps.cmpf (F := Ideal) (φ := .f32) .ogt (rowOf g m _ (ix2 k r)) (g (ix2 k r)))
        (IntOp.andi (FloatOps.cmpf (F := Ideal) (φ := .f32) .oeq (rowOf g m _ (ix2 k r)) (g (ix2 k r)))
          (IntOp.cmpi .sgt (blockNo (ix2 k r)) (BitVec.ofNat 32 m))) = _
      rw [rowOf_apply g m hm, hg, hg, cmpf_ogt, cmpf_oeq, blockNo_apply, cmpi_sgt_ofNat (by omega) (by omega), andi_ofBool, ori_ofBool]
      unfold ahead
      rw [Bool.decide_or, Bool.decide_and]

theorem chosen_apply (g : FVec Ideal (mat 8 256) .f32) (G : ℕ → EReal) (r : Fin 256) (hg : ∀ m : Fin 8, g (ix2 m r) = G m.val)
    (i : ℕ) (h : i ≤ 8) (k : Fin 8) :
    chosen g i h (ix2 r (⟨k.val, by omega⟩ : Fin 128)) = (((if Cert.MobaSelect.chosen G i k.val then 1 else 0) : ℝ) : EReal) := by
  unfold chosen
  refine (transpose_apply [1, 0] _ _ (ix2 r (⟨k.val, by omega⟩ : Fin 128)) (ix2 (⟨k.val, by omega⟩ : Fin 128) r) fun a => ?_).trans ?_
  · match a with
    | ⟨0, _⟩ => rfl
    | ⟨1, _⟩ => rfl
  · refine (concatenate_pair_apply_left (t := mat 128 256) (s₁ := mat 8 256) (s₂ := mat 120 256) 0 _ _ _ _ rfl (ix2 k r) fun b => ?_).trans ?_
    · match b with
      | ⟨0, _⟩ => rfl
      | ⟨1, _⟩ => rfl
    · refine ones_apply _ _ _ ?_
      show IntOp.andi (IntOp.cmpi .slt (blockNo (ix2 k r)) (BitVec.ofNat 32 i))
        (FloatOps.cmpf (F := Ideal) (φ := .f32) .olt (rank g i h (ix2 k r)) (Ideal.ofBits .f32 0x40400000#32)) = _
      rw [blockNo_apply, cmpi_slt_ofNat (by omega) (by omega), rank_apply g G r hg, three_f32, cmpf_coe_olt, andi_ofBool]
      unfold Cert.MobaSelect.chosen
      have e : ((rankOf G i k.val : ℝ) < 3) = (rankOf G i k.val < 3) := by
        rw [show (3 : ℝ) = ((3 : ℕ) : ℝ) by norm_num, Nat.cast_lt]
      simp only [e, Bool.decide_and]

theorem gated_apply (c : FVec Ideal (mat 256 128) .f32) (j : ℕ) (hj : j < 128) (s : FVec Ideal (mat 256 256) .f32) (m : Ideal .f32) (r k : Fin 256)
    (p : Prop) (hc : c (ix2 r (⟨j, hj⟩ : Fin 128)) = (((if p then 1 else 0) : ℝ) : EReal)) :
    gated c j (lane_slices hj) s m (ix2 r k) = if p then s (ix2 r k) else m := by
  have hs : extractStridedSlice (mat 256 1) ![0, j] c (lane_slices hj) (ix2 r (0 : Fin 1)) = c (ix2 r (⟨j, hj⟩ : Fin 128)) :=
    extractStridedSlice_apply ![0, j] c _ _ _ fun a => by
      match a with
      | ⟨0, _⟩ => show r.val = 0 + r.val; omega
      | ⟨1, _⟩ => rfl
  have hb : ∀ (b : IVec (mat 256 1) 1) (h1 h2), broadcastTo (mat 256 256) (shapeCast (mat 256 1) b h1) h2 (ix2 r k) = b (ix2 r (0 : Fin 1)) := by
    intro b h1 h2
    refine (broadcastTo_apply _ _ (ix2 r k) (ix2 r (0 : Fin 1)) fun a => ?_).trans ?_
    · match a with
      | ⟨0, _⟩ => rfl
      | ⟨1, _⟩ => rfl
    · exact shapeCast_apply b _ _ _ rfl
  show Scalar.select (broadcastTo (mat 256 256) (shapeCast (mat 256 1) _ _) _ (ix2 r k)) (s (ix2 r k)) m = _
  rw [hb]
  show Scalar.select (FloatOps.cmpf (F := Ideal) (φ := .f32) .ogt (extractStridedSlice (mat 256 1) ![0, j] c _ (ix2 r (0 : Fin 1)))
    (Ideal.ofBits .f32 0x3F000000#32)) (s (ix2 r k)) m = _
  rw [hs, hc, half_f32, cmpf_coe_ogt, select_ofBool]
  by_cases hp : p
  · rw [if_pos hp, if_pos (by norm_num), if_pos hp]
  · rw [if_neg hp, if_neg (by norm_num), if_neg hp]

end Cert.MobaTile

end
-- ==== Proof.Moba.Softmax.lean ====
/-
  The softmax over the keys a row sees, in both of the forms the two programs compute it: with powers of two and any real number taken
  off the scores, the quotient last; and with powers of e, each weight divided first. Both are the one real number `mean`. A score
  is a real number at a key the row sees and minus infinity at the others.
-/
module

public import proofs.«01_k».proof.Proof.Diff.Softmax

@[expose] public section

noncomputable section

namespace Cert.MobaSoftmax

open Idealize.ShloMosaic Cert.DiffSoftmax
open Classical

/-- The weighted mean of the values at the keys seen, the weights two to the power of the scores. -/
def mean (x v : ℕ → ℝ) (see : ℕ → Prop) (N : ℕ) : ℝ :=
  (∑ k ∈ Finset.range N, if see k then Real.rpow 2 (x k) * v k else 0) / ∑ k ∈ Finset.range N, if see k then Real.rpow 2 (x k) else 0

/-- The scores of a row. -/
def seen (x : ℕ → ℝ) (see : ℕ → Prop) (k : ℕ) : EReal := if see k then (x k : EReal) else ⊥

theorem seen_ne_top (x : ℕ → ℝ) (see : ℕ → Prop) (k : ℕ) : seen x see k ≠ ⊤ := by
  unfold seen
  split
  · exact EReal.coe_ne_top _
  · exact bot_ne_top

theorem seen_ne_bot (x : ℕ → ℝ) {see : ℕ → Prop} {k : ℕ} (h : see k) : seen x see k ≠ ⊥ := by
  unfold seen
  rw [if_pos h]
  exact EReal.coe_ne_bot _

/-- A sum over the first `K` keys, those beyond which are not seen. -/
theorem sum_seen {K N : ℕ} (hKN : K ≤ N) (see : ℕ → Prop) (hs : ∀ k, see k → k < K) (f : ℕ → ℝ) :
    ∑ k : Fin K, (if see k.val then f k.val else 0) = ∑ k ∈ Finset.range N, if see k then f k else 0 := by
  rw [Fin.sum_univ_eq_sum_range (fun k => if see k then f k else 0) K]
  refine Finset.sum_subset (Finset.range_subset_range.2 hKN) fun k _ hk => if_neg fun h => hk (Finset.mem_range.2 (hs k h))

theorem weight_pos {N : ℕ} (x : ℕ → ℝ) (see : ℕ → Prop) {k₀ : ℕ} (h0 : k₀ < N) (h1 : see k₀) :
    0 < ∑ k ∈ Finset.range N, if see k then Real.rpow 2 (x k) else 0 := by
  refine Finset.sum_pos' (fun k _ => ?_) ⟨k₀, Finset.mem_range.2 h0, by rw [if_pos h1]; exact two_rpow_pos _⟩
  split
  · exact (two_rpow_pos _).le
  · exact le_rfl

theorem exp2_seen (x : ℕ → ℝ) (see : ℕ → Prop) (k : ℕ) (M : ℝ) :
    Ideal.exp2 (seen x see k - (M : EReal)) = (((if see k then Real.rpow 2 (x k) * Real.rpow 2 (-M) else 0) : ℝ) : EReal) := by
  unfold seen
  split
  · rw [← EReal.coe_sub, Ideal.exp2_coe, sub_eq_add_neg]
    exact congrArg _ (Real.rpow_add (by norm_num) _ _)
  · rw [EReal.bot_sub, Ideal.exp2_bot, EReal.coe_zero]

/-- Powers of two, the quotient last. -/
theorem exp2_form {K N : ℕ} (hKN : K ≤ N) (x v : ℕ → ℝ) (see : ℕ → Prop) (hs : ∀ k, see k → k < K) {k₀ : ℕ} (h1 : see k₀) (M : ℝ) :
    Ideal.div (∑ k : Fin K, Ideal.exp2 (seen x see k.val - (M : EReal)) * (v k.val : EReal))
        (∑ k : Fin K, Ideal.exp2 (seen x see k.val - (M : EReal)) * 1) = (mean x v see N : EReal) := by
  have hn : ∑ k : Fin K, Ideal.exp2 (seen x see k.val - (M : EReal)) * (v k.val : EReal)
      = (((∑ k ∈ Finset.range N, if see k then Real.rpow 2 (x k) * v k else 0) * Real.rpow 2 (-M) : ℝ) : EReal) := by
    simp only [exp2_seen, ← EReal.coe_mul, coe_sum, ite_mul, zero_mul]
    rw [sum_seen hKN see hs (fun k => Real.rpow 2 (x k) * Real.rpow 2 (-M) * v k), Finset.sum_mul]
    refine congrArg _ (Finset.sum_congr rfl fun k _ => ?_)
    split <;> ring
  have hd : ∑ k : Fin K, Ideal.exp2 (seen x see k.val - (M : EReal)) * 1
      = (((∑ k ∈ Finset.range N, if see k then Real.rpow 2 (x k) else 0) * Real.rpow 2 (-M) : ℝ) : EReal) := by
    simp only [mul_one, exp2_seen, coe_sum]
    rw [sum_seen hKN see hs (fun k => Real.rpow 2 (x k) * Real.rpow 2 (-M)), Finset.sum_mul]
    refine congrArg _ (Finset.sum_congr rfl fun k _ => ?_)
    split <;> ring
  have hp := weight_pos x see ((hs _ h1).trans_le hKN) h1
  rw [hn, hd, coe_div (mul_pos hp (two_rpow_pos _)).ne', mul_div_mul_right _ _ (two_rpow_pos _).ne']
  rfl

theorem exp_seen (x : ℕ → ℝ) (see : ℕ → Prop) (k : ℕ) (M : ℝ) :
    Ideal.exp (seen (fun k => x k * Real.log 2) see k - (M : EReal))
      = (((if see k then Real.rpow 2 (x k) * Real.exp (-M) else 0) : ℝ) : EReal) := by
  unfold seen
  split
  · rw [← EReal.coe_sub, Ideal.exp_coe, sub_eq_add_neg, Real.exp_add]
    refine congrArg _ (congrArg (· * _) ?_)
    show _ = (2 : ℝ) ^ x k
    rw [Real.rpow_def_of_pos (by norm_num), mul_comm]
  · rw [EReal.bot_sub, Ideal.exp_bot, EReal.coe_zero]

/-- Powers of e, each weight divided by their sum first. -/
theorem exp_form {N : ℕ} (x v : ℕ → ℝ) (see : ℕ → Prop) (hs : ∀ k, see k → k < N) {k₀ : ℕ} (h1 : see k₀) (M : ℝ) :
    ∑ k : Fin N, (v k.val : EReal) * Ideal.div (Ideal.exp (seen (fun k => x k * Real.log 2) see k.val - (M : EReal)))
        (∑ k : Fin N, Ideal.exp (seen (fun k => x k * Real.log 2) see k.val - (M : EReal))) = (mean x v see N : EReal) := by
  have hd : ∑ k : Fin N, Ideal.exp (seen (fun k => x k * Real.log 2) see k.val - (M : EReal))
      = (((∑ k ∈ Finset.range N, if see k then Real.rpow 2 (x k) else 0) * Real.exp (-M) : ℝ) : EReal) := by
    simp only [exp_seen, coe_sum]
    rw [sum_seen le_rfl see hs (fun k => Real.rpow 2 (x k) * Real.exp (-M)), Finset.sum_mul]
    refine congrArg _ (Finset.sum_congr rfl fun k _ => ?_)
    split <;> ring
  have hp := weight_pos x see (hs _ h1) h1
  have hw : ∀ k : Fin N, (v k.val : EReal) * Ideal.div (Ideal.exp (seen (fun k => x k * Real.log 2) see k.val - (M : EReal)))
        (∑ k : Fin N, Ideal.exp (seen (fun k => x k * Real.log 2) see k.val - (M : EReal)))
      = (((if see k.val then Real.rpow 2 (x k.val) * v k.val / ∑ k ∈ Finset.range N, (if see k then Real.rpow 2 (x k) else 0) else 0) : ℝ) : EReal) := by
    intro k
    rw [hd, exp_seen, coe_div (mul_pos hp (Real.exp_pos _)).ne', ← EReal.coe_mul]
    refine congrArg _ ?_
    split
    · rw [mul_div_mul_right _ _ (Real.exp_pos _).ne']
      ring
    · simp
  rw [Finset.sum_congr rfl fun k _ => hw k, coe_sum,
    sum_seen le_rfl see hs (fun k => Real.rpow 2 (x k) * v k / ∑ k ∈ Finset.range N, (if see k then Real.rpow 2 (x k) else 0))]
  refine congrArg _ ?_
  unfold mean
  rw [Finset.sum_div]
  refine Finset.sum_congr rfl fun k _ => ?_
  split
  · rfl
  · simp

end Cert.MobaSoftmax

end
-- ==== Proof.Moba.Rows.lean ====
/-
  One row of the block-sparse attention's tile: the row's maximum is a real number, so the quotient is the mean of the values under the
  powers of two of the scores seen, whatever the maximum is; and each of the three kinds of block read at a row.
-/
module

public import proofs.«01_k».proof.Proof.Moba.Gate
public import proofs.«01_k».proof.Proof.Moba.Softmax
public import Idealize.ShloMosaic.Lib.Pipeline.Value

@[expose] public section

set_option maxRecDepth 16384

noncomputable section

namespace Cert.MobaTile

open Idealize.ShloMosaic Idealize.ShloMosaic.TcCoe Cert.DiffTile Cert.DiffSoftmax Cert.MobaSoftmax
open Classical

/-- Row `R` sees the keys of its own block up to itself and the keys of the chosen past blocks. -/
def see (g : ℕ → EReal) (R k : ℕ) : Prop := (k / 256 = R / 256 ∧ k ≤ R) ∨ Cert.MobaSelect.chosen g (R / 256) (k / 256)

theorem see_lt {g : ℕ → EReal} {R k : ℕ} (h : see g R k) : k < 256 * (R / 256 + 1) := by
  rcases h with h | h
  · omega
  · have := h.1; omega

theorem see_first (g : ℕ → EReal) (R : ℕ) : see g R (256 * (R / 256)) := .inl ⟨by omega, by omega⟩

/-! ## The quotient -/

theorem product_apply {K : ℕ} (E : FVec Ideal (mat 256 K) .bf16) (v : FVec Ideal (mat K 128) .bf16) (r : Fin 256) (c : Fin 128) :
    product E v (ix2 r c) = ∑ k : Fin K, E (ix2 r k) * v (ix2 k c) := by
  show FloatOps.matmul (DotDims.plain 256 K 128) none E v _ (ix2 r c) = _
  refine (Ideal.matmul_plain_apply none E v _ r c).trans ?_
  show Ideal.ofBits .f32 0x00000000#32 + _ = _
  rw [Ideal.ofBits_zero]
  exact zero_add _

theorem over_apply (o : ℕ) (h : o < 128) (A : FVec Ideal (mat 256 128) .f32) (hs) (r : Fin 256) (e : Fin 128) :
    over o A hs (ix2 r e) = Ideal.div (A (ix2 r e)) (A (ix2 r (⟨o, h⟩ : Fin 128))) := by
  have hb : broadcastTo (mat 256 128) (extractStridedSlice (mat 256 1) ![0, o] A hs) (by decide) (ix2 r e) = A (ix2 r (⟨o, h⟩ : Fin 128)) := by
    refine (broadcastTo_apply _ _ (ix2 r e) (ix2 r (0 : Fin 1)) fun a => ?_).trans ?_
    · match a with
      | ⟨0, _⟩ => rfl
      | ⟨1, _⟩ => rfl
    · refine extractStridedSlice_apply ![0, o] A _ _ _ fun a => ?_
      match a with
      | ⟨0, _⟩ => show r.val = 0 + r.val; omega
      | ⟨1, _⟩ => rfl
  exact congrArg (Ideal.div (A (ix2 r e))) hb

theorem firstRows_apply (K : ℕ) (v : FVec Ideal (mat 2048 128) .bf16) (hs) (hK : K ≤ 2048) (k : Fin K) (c : Fin 128) :
    firstRows K v hs (ix2 k c) = v (ix2 (⟨k.val, by omega⟩ : Fin 2048) c) :=
  extractStridedSlice_apply (s := mat 2048 128) (t := mat K 128) ![0, 0] v hs (ix2 k c) (ix2 (⟨k.val, by omega⟩ : Fin 2048) c) fun a => by
    match a with
    | ⟨0, _⟩ => show k.val = 0 + k.val; omega
    | ⟨1, _⟩ => show c.val = 0 + c.val; omega

/-- The quotient at a row, the weights being those of the scores seen less any real number. -/
theorem over_product {K : ℕ} (hK : K ≤ 2048) (o : ℕ) (ho : o < 128) (E : FVec Ideal (mat 256 K) .bf16) (v : FVec Ideal (mat K 128) .bf16) (hs)
    (r : Fin 256) (e : Fin 128) (x w : ℕ → ℝ) (s : ℕ → Prop) (hlt : ∀ k, s k → k < K) {k₀ : ℕ} (h0 : s k₀) (M : ℝ)
    (hE : ∀ k : Fin K, E (ix2 r k) = Ideal.exp2 (seen x s k.val - (M : EReal)))
    (hv : ∀ k : Fin K, v (ix2 k e) = (w k.val : EReal)) (hone : ∀ k : Fin K, v (ix2 k (⟨o, ho⟩ : Fin 128)) = 1) :
    over o (product E v) hs (ix2 r e) = (mean x w s 2048 : EReal) := by
  rw [over_apply o ho, product_apply, product_apply]
  simp only [hE, hv, hone]
  exact exp2_form hK x w s hlt h0 M

/-! ## The maximum -/

theorem colMax_ne_top {i : ℕ} (d : FVec Ideal (mat 256 256) .f32) (p : Fin i → FVec Ideal (mat 256 256) .f32) (r : Fin 256)
    (hd : ∀ k, d (ix2 r k) ≠ ⊤) (hp : ∀ j k, p j (ix2 r k) ≠ ⊤) (c : Fin 128) : ∀ (j : ℕ) (h : j ≤ i), colMax d p j h (ix2 r c) ≠ ⊤
  | 0, h => by
    show max (cols d 0 _ (ix2 r c)) (cols d 128 _ (ix2 r c)) ≠ (⊤ : EReal)
    rw [cols_apply d 0 (by decide), cols_apply d 128 (by decide)]
    exact (max_lt (hd _).lt_top (hd _).lt_top).ne
  | j + 1, h => by
    show max (max (colMax d p j _ (ix2 r c)) (cols (p ⟨j, h⟩) 0 _ (ix2 r c))) (cols (p ⟨j, h⟩) 128 _ (ix2 r c)) ≠ (⊤ : EReal)
    rw [cols_apply (p ⟨j, h⟩) 0 (by decide), cols_apply (p ⟨j, h⟩) 128 (by decide)]
    exact (max_lt (max_lt (colMax_ne_top d p r hd hp c j (by omega)).lt_top (hp _ _).lt_top) (hp _ _).lt_top).ne

theorem colMax_ne_bot {i : ℕ} (d : FVec Ideal (mat 256 256) .f32) (p : Fin i → FVec Ideal (mat 256 256) .f32) (r : Fin 256)
    (hd : d (ix2 r 0) ≠ ⊥) : ∀ (j : ℕ) (h : j ≤ i), colMax d p j h (ix2 r 0) ≠ ⊥
  | 0, h => by
    show max (cols d 0 _ (ix2 r 0)) (cols d 128 _ (ix2 r 0)) ≠ (⊥ : EReal)
    rw [cols_apply d 0 (by decide)]
    exact (lt_of_lt_of_le (bot_lt_iff_ne_bot.2 hd) (le_max_left _ _)).ne'
  | j + 1, h => by
    show max (max (colMax d p j _ (ix2 r 0)) (cols (p ⟨j, h⟩) 0 _ (ix2 r 0))) (cols (p ⟨j, h⟩) 128 _ (ix2 r 0)) ≠ (⊥ : EReal)
    exact (lt_of_lt_of_le (bot_lt_iff_ne_bot.2 (colMax_ne_bot d p r hd j (by omega))) ((le_max_left _ _).trans (le_max_left _ _))).ne'

/-! ## The softmax of a row -/

theorem softFirst_apply (o : ℕ) (h : o < 128) (d : FVec Ideal (mat 256 256) .f32) (v : FVec Ideal (mat 256 128) .bf16) (ho) (r : Fin 256) (e : Fin 128)
    (x w : ℕ → ℝ) (s : ℕ → Prop) (hlt : ∀ k, s k → k < 256) (h0 : s 0)
    (hd : ∀ k : Fin 256, d (ix2 r k) = seen x s k.val) (hv : ∀ k : Fin 256, v (ix2 k e) = (w k.val : EReal))
    (hone : ∀ k : Fin 256, v (ix2 k (⟨o, h⟩ : Fin 128)) = 1) :
    softFirst o d v ho (ix2 r e) = (mean x w s 2048 : EReal) := by
  have ht : ∀ k, d (ix2 r k) ≠ ⊤ := fun k => by rw [hd]; exact seen_ne_top _ _ _
  obtain ⟨M, hM⟩ := rowMax_real (colMax (i := 0) d (fun j => d) 0 (by decide)) r (fun c => colMax_ne_top d _ r ht (fun _ => ht) c 0 _)
    (colMax_ne_bot d _ r (by rw [hd]; exact seen_ne_bot _ h0) 0 _)
  exact over_product (by decide) o h _ v ho r e x w s hlt h0 M (fun k => by rw [wts_apply, hM, hd]) hv hone

/-- The weights of a row, the past blocks' and then its own. -/
theorem joined_apply {i : ℕ} (f : Fin (i + 1) → FVec Ideal (mat 256 256) .bf16) (hc) (r : Fin 256) (k : Fin (256 * (i + 1))) :
    concatenate (mat 256 (256 * (i + 1))) 1 (List.ofFn fun j : Fin (i + 1) => (⟨mat 256 256, f j⟩ : (s : Shape) × (s.Idx → Ideal .bf16))) hc (ix2 r k)
      = f ⟨k.val / 256, by omega⟩ (ix2 r ⟨k.val % 256, by omega⟩) :=
  concatenate_ofFn_apply (s₁ := mat 256 256) (t := mat 256 (256 * (i + 1))) 1 f hc rfl 256 rfl (ix2 r k) ⟨k.val / 256, by omega⟩ rfl
    (ix2 r ⟨k.val % 256, by omega⟩) rfl fun b hb => by
      match b, hb with
      | ⟨0, _⟩, _ => rfl
      | ⟨1, _⟩, hb => exact absurd rfl hb

theorem softLater_apply {i : ℕ} (hi : i < 8) (o : ℕ) (h : o < 128) (d : FVec Ideal (mat 256 256) .f32) (p : Fin i → FVec Ideal (mat 256 256) .f32)
    (v : FVec Ideal (mat (256 * (i + 1)) 128) .bf16) (hc ho) (r : Fin 256) (e : Fin 128)
    (x w : ℕ → ℝ) (s : ℕ → Prop) (hlt : ∀ k, s k → k < 256 * (i + 1)) (h0 : s (256 * i))
    (hd : ∀ k : Fin 256, d (ix2 r k) = seen x s (256 * i + k.val))
    (hp : ∀ (j : Fin i) (k : Fin 256), p j (ix2 r k) = seen x s (256 * j.val + k.val))
    (hv : ∀ k : Fin (256 * (i + 1)), v (ix2 k e) = (w k.val : EReal))
    (hone : ∀ k : Fin (256 * (i + 1)), v (ix2 k (⟨o, h⟩ : Fin 128)) = 1) :
    softLater o d p v hc ho (ix2 r e) = (mean x w s 2048 : EReal) := by
  have ht : ∀ k, d (ix2 r k) ≠ ⊤ := fun k => by rw [hd]; exact seen_ne_top _ _ _
  have ht' : ∀ j k, p j (ix2 r k) ≠ ⊤ := fun j k => by rw [hp]; exact seen_ne_top _ _ _
  obtain ⟨M, hM⟩ := rowMax_real (colMax d p i (Nat.le_refl i)) r (fun c => colMax_ne_top d p r ht ht' c i _)
    (colMax_ne_bot d p r (by rw [hd]; exact seen_ne_bot _ h0) i _)
  refine over_product (by omega) o h _ v ho r e x w s hlt h0 M (fun k => ?_) hv hone
  rw [joined_apply, wts_apply, hM]
  refine congrArg (fun y => Ideal.exp2 (y - (M : EReal))) ?_
  unfold parts
  have hk := k.isLt
  split
  · rename_i hj
    rw [hp]
    refine congrArg (seen x s) ?_
    show 256 * (k.val / 256) + k.val % 256 = k.val
    omega
  · rename_i hj
    rw [hd]
    refine congrArg (seen x s) ?_
    have hj' : ¬ k.val / 256 < i := hj
    show 256 * i + k.val % 256 = k.val
    omega

/-! ## The three kinds of block -/

section Heads

variable {hh o : ℕ} (h : hh < 2) (ho : o < 128) (hoh : ¬ inHead hh o) (q kd : FVec Ideal (mat 256 128) .bf16)
  (V : ℕ → ℕ → ℝ) (Q K : ℕ → ℕ → ℝ) (Mn : ℕ → ℕ → EReal) (r : Fin 256) (e : Fin 128) (he : inHead hh e.val)

include h

/-- The own block's scores, seen up to the row. -/
theorem own_scores (i : ℕ) (hq : ∀ j : Fin 128, q (ix2 r j) = (Q (256 * i + r.val) j.val : EReal))
    (hk : ∀ (c : Fin 256) (j : Fin 128), kd (ix2 c j) = (K (256 * i + c.val) j.val : EReal)) (g : ℕ → EReal) (k : Fin 256) :
    masked (score (onHead hh q) kd) (⊥ : EReal) (ix2 r k)
      = seen (lane Q K hh (256 * i + r.val)) (see g (256 * i + r.val)) (256 * i + k.val) := by
  have hr := r.isLt
  have hk' := k.isLt
  have hiff : see g (256 * i + r.val) (256 * i + k.val) ↔ k.val ≤ r.val := by
    unfold see
    rw [show (256 * i + r.val) / 256 = i by omega, show (256 * i + k.val) / 256 = i by omega]
    constructor
    · rintro (h | h)
      · omega
      · exact absurd h.1 (lt_irrefl _)
    · exact fun h => .inl ⟨rfl, by omega⟩
  rw [masked_apply, score_onHead h q kd r k Q K (256 * i + r.val) (256 * i + k.val) hq (hk k)]
  unfold seen
  by_cases hc : k.val ≤ r.val
  · rw [if_pos hc, if_pos (hiff.2 hc)]
  · rw [if_neg hc, if_neg (fun h => hc (hiff.1 h))]

theorem vals_apply (he : inHead hh e.val) (v : FVec Ideal (mat 2048 128) .bf16) (hv : ∀ k : Fin 2048, v (ix2 k e) = (V k.val e.val : EReal)) (k : Fin 2048) :
    onesOff hh v (ix2 k e) = (V k.val e.val : EReal) := by
  rw [onesOff_apply hh h, if_pos he, hv]

theorem vals_one (hoh : ¬ inHead hh o) (v : FVec Ideal (mat 2048 128) .bf16) (k : Fin 2048) : onesOff hh v (ix2 k (⟨o, ho⟩ : Fin 128)) = 1 := by
  rw [onesOff_apply hh h, if_neg hoh]

include ho hoh he

theorem headFirst_apply (v : FVec Ideal (mat 2048 128) .bf16) (hs) (g : ℕ → EReal) (hq : ∀ j : Fin 128, q (ix2 r j) = (Q r.val j.val : EReal))
    (hk : ∀ (c : Fin 256) (j : Fin 128), kd (ix2 c j) = (K c.val j.val : EReal))
    (hv : ∀ k : Fin 2048, v (ix2 k e) = (V k.val e.val : EReal)) :
    headFirst hh o (⊥ : EReal) q kd v hs (ix2 r e) = (mean (lane Q K hh r.val) (fun k => V k e.val) (see g r.val) 2048 : EReal) := by
  have hr := r.isLt
  refine softFirst_apply o ho _ _ hs r e _ _ (see g r.val) (fun k hk => ?_) ?_ (fun k => ?_) (fun k => ?_) (fun k => ?_)
  · have := see_lt hk; omega
  · have := see_first g r.val
    rwa [show 256 * (r.val / 256) = 0 by omega] at this
  · have := own_scores h q kd Q K r 0 (fun j => by rw [hq, Nat.mul_zero, Nat.zero_add]) (fun c j => by rw [hk, Nat.mul_zero, Nat.zero_add]) g k
    simpa only [Nat.mul_zero, Nat.zero_add] using this
  · rw [firstRows_apply 256 _ _ (by decide)]
    exact vals_apply h V e he v hv _
  · rw [firstRows_apply 256 _ _ (by decide)]
    exact vals_one h ho hoh v _

theorem later_apply {i : ℕ} (h1 : 1 ≤ i) (hi : i < 8) (p : Fin i → FVec Ideal (mat 256 256) .f32) (kp : Fin i → FVec Ideal (mat 256 128) .bf16)
    (v : FVec Ideal (mat (256 * (i + 1)) 128) .bf16) (hs) (g : ℕ → EReal)
    (hq : ∀ j : Fin 128, q (ix2 r j) = (Q (256 * i + r.val) j.val : EReal))
    (hk : ∀ (c : Fin 256) (j : Fin 128), kd (ix2 c j) = (K (256 * i + c.val) j.val : EReal))
    (hkp : ∀ (m : Fin i) (c : Fin 256) (j : Fin 128), kp m (ix2 c j) = (K (256 * m.val + c.val) j.val : EReal))
    (hp : ∀ (m : Fin i) (k : Fin 256), p m (ix2 r k) = if Cert.MobaSelect.chosen g i m.val then score (onHead hh q) (kp m) (ix2 r k) else (⊥ : EReal))
    (hv : ∀ k : Fin (256 * (i + 1)), v (ix2 k e) = (V k.val e.val : EReal)) (hone : ∀ k : Fin (256 * (i + 1)), v (ix2 k (⟨o, ho⟩ : Fin 128)) = 1) :
    softLater o (masked (score (onHead hh q) kd) (⊥ : EReal)) p v (rows_concat h1 _) hs (ix2 r e)
      = (mean (lane Q K hh (256 * i + r.val)) (fun k => V k e.val) (see g (256 * i + r.val)) 2048 : EReal) := by
  have hr := r.isLt
  have hR : (256 * i + r.val) / 256 = i := by omega
  refine softLater_apply hi o ho _ p v _ hs r e _ _ (see g (256 * i + r.val)) (fun k hk => ?_) ?_ (fun k => own_scores h q kd Q K r i hq hk g k)
    (fun m k => ?_) hv hone
  · have := see_lt hk; omega
  · have := see_first g (256 * i + r.val)
    rwa [hR] at this
  · have hk' := k.isLt
    have hm := m.isLt
    have hiff : see g (256 * i + r.val) (256 * m.val + k.val) ↔ Cert.MobaSelect.chosen g i m.val := by
      unfold see
      rw [hR, show (256 * m.val + k.val) / 256 = m.val by omega]
      exact ⟨fun h => h.resolve_left fun h => by omega, .inr⟩
    rw [hp, score_onHead h q (kp m) r k Q K (256 * i + r.val) (256 * m.val + k.val) hq (hkp m k)]
    unfold seen
    by_cases hc : Cert.MobaSelect.chosen g i m.val
    · rw [if_pos hc, if_pos (hiff.2 hc)]
    · rw [if_neg hc, if_neg (fun h => hc (hiff.1 h))]

theorem headFew_apply {i : ℕ} (h1 : 1 ≤ i) (h3 : i ≤ 3) (hi : i < 8) (kp : Fin i → FVec Ideal (mat 256 128) .bf16)
    (v : FVec Ideal (mat 2048 128) .bf16) (hs) (g : ℕ → EReal)
    (hq : ∀ j : Fin 128, q (ix2 r j) = (Q (256 * i + r.val) j.val : EReal))
    (hk : ∀ (c : Fin 256) (j : Fin 128), kd (ix2 c j) = (K (256 * i + c.val) j.val : EReal))
    (hkp : ∀ (m : Fin i) (c : Fin 256) (j : Fin 128), kp m (ix2 c j) = (K (256 * m.val + c.val) j.val : EReal))
    (hv : ∀ k : Fin 2048, v (ix2 k e) = (V k.val e.val : EReal)) :
    headFew h1 hi hh o (⊥ : EReal) q kd kp v hs (ix2 r e)
      = (mean (lane Q K hh (256 * i + r.val)) (fun k => V k e.val) (see g (256 * i + r.val)) 2048 : EReal) := by
  refine later_apply h ho hoh q kd V Q K r e he h1 hi _ kp _ hs g hq hk hkp (fun m k => ?_) (fun k => ?_) (fun k => ?_)
  · rw [if_pos (Cert.MobaSelect.chosen_few g m.isLt h3)]
  · rw [firstRows_apply _ _ _ (by omega)]
    exact vals_apply h V e he v hv _
  · rw [firstRows_apply _ _ _ (by omega)]
    exact vals_one h ho hoh v _

theorem headMany_apply {i : ℕ} (h1 : 1 ≤ i) (hi : i < 8) (km : FVec Ideal (mat 8 128) .bf16) (kp : Fin i → FVec Ideal (mat 256 128) .bf16)
    (v : FVec Ideal (mat (256 * (i + 1)) 128) .bf16) (hs)
    (hm : ∀ (m : Fin 8) (j : Fin 128), km (ix2 m j) = Mn m.val j.val)
    (hq : ∀ j : Fin 128, q (ix2 r j) = (Q (256 * i + r.val) j.val : EReal))
    (hk : ∀ (c : Fin 256) (j : Fin 128), kd (ix2 c j) = (K (256 * i + c.val) j.val : EReal))
    (hkp : ∀ (m : Fin i) (c : Fin 256) (j : Fin 128), kp m (ix2 c j) = (K (256 * m.val + c.val) j.val : EReal))
    (hv : ∀ k : Fin (256 * (i + 1)), v (ix2 k e) = (V k.val e.val : EReal)) (hone : ∀ k : Fin (256 * (i + 1)), v (ix2 k (⟨o, ho⟩ : Fin 128)) = 1) :
    headMany h1 hi hh o (⊥ : EReal) km q kd kp v hs (ix2 r e)
      = (mean (lane Q K hh (256 * i + r.val)) (fun k => V k e.val) (see (gateLane Q Mn hh (256 * i + r.val)) (256 * i + r.val)) 2048 : EReal) := by
  refine later_apply h ho hoh q kd V Q K r e he h1 hi _ kp v hs _ hq hk hkp (fun m k => ?_) hv hone
  have hm8 : m.val < 8 := by omega
  refine gated_apply _ m.val (by omega) _ _ r k _ ?_
  exact chosen_apply _ (gateLane Q Mn hh (256 * i + r.val)) r (fun m => gate_onHead h km q r m Q Mn (256 * i + r.val) hq (hm m)) i (by omega) ⟨m.val, hm8⟩

end Heads

end Cert.MobaTile

end
-- ==== Proof.Moba.Pieces.lean ====
/-
  The kernel's eight stores of one grid point are the eight blocks of rows of a pair of heads, from the pair's whole queries, keys and
  values and its eight key means.
-/
module

public import proofs.«01_k».proof.Proof.Moba.Tile
public import proofs.«01_k».proof.Proof.Gen.MobaIdeal.Frame
public import Idealize.ShloMosaic.Lib.Pipeline.ValueKit

@[expose] public section

set_option maxRecDepth 16384

noncomputable section

namespace Cert.MobaPieces

open Idealize.ShloMosaic Idealize.ShloMosaic.TcCoe Idealize.SL.Sem
open Cert.MobaIdeal Cert.MobaIdeal.Gen Cert.DiffTile Cert.MobaTile

/-- What the program writes for the mask: minus infinity. -/
abbrev maskVal : Ideal .f32 := Named.named κ "mask" 0xF149F2CA#32

theorem maskVal_eq : maskVal = (⊥ : EReal) := IdealRules.named_const.ideal_named_scalar _ _ _ _ rfl

/-- Block `j` of 256 rows. -/
def blk (x : Vec Ideal S2048x128 .bf16) (j : ℕ) (h : j < 8) : FVec Ideal (mat 256 128) .bf16 :=
  View.ld x (Rect.unit (s := S2048x128) ![256 * j, 0] (mat 256 128).size (by
    intro a
    match a with
    | ⟨0, _⟩ => show 256 * j + 256 ≤ 2048; omega
    | ⟨1, _⟩ => show 0 + 128 ≤ 128; omega))

variable (x0 x1 x2 : Vec Ideal S2048x128 .bf16) (x3 : Vec Ideal S1x8x128 .f32)

/-- All the values, and the key means. -/
abbrev vals : FVec Ideal (mat 2048 128) .bf16 := View.ld x2 r0_1
abbrev means : FVec Ideal (mat 8 128) .bf16 := k0_pay225 x0 x1 x2 x3

theorem piece0 :
    k0_pay15 (k0_pay226 x0 x1 x2 x3) (k0_pay229 x0 x1 x2 x3) (k0_pay9 (k0_pay224 x0 x1 x2 x3) (k0_pay227 x0 x1 x2 x3) (View.ld x0 r0_2) (View.ld x1 r0_2)) (k0_pay10 (k0_pay224 x0 x1 x2 x3) (k0_pay228 x0 x1 x2 x3) (k0_pay8 (View.ld x0 r0_2)) (View.ld x1 r0_2)) (k0_pay14 (k0_pay224 x0 x1 x2 x3) (k0_pay227 x0 x1 x2 x3) (View.ld x0 r0_2) (View.ld x1 r0_2))
      = both (headFirst 0 64 maskVal (blk x0 0 (by decide)) (blk x1 0 (by decide)) (vals x2) (by decide))
        (headFirst 1 0 maskVal (blk x0 0 (by decide)) (blk x1 0 (by decide)) (vals x2) (by decide)) := rfl

theorem piece1 :
    k0_pay25 (k0_pay226 x0 x1 x2 x3) (k0_pay229 x0 x1 x2 x3) (k0_pay17 (k0_pay224 x0 x1 x2 x3) (k0_pay227 x0 x1 x2 x3) (View.ld x0 r0_3) (View.ld x1 r0_3)) (k0_pay18 (k0_pay227 x0 x1 x2 x3) (View.ld x0 r0_3) (View.ld x1 r0_2)) (k0_pay19 (k0_pay228 x0 x1 x2 x3) (k0_pay230 x0 x1 x2 x3) (k0_pay231 x0 x1 x2 x3)) (k0_pay20 (k0_pay228 x0 x1 x2 x3) (k0_pay230 x0 x1 x2 x3) (k0_pay231 x0 x1 x2 x3))
      = both (headFew (i := 1) (by decide) (by decide) 0 64 maskVal (blk x0 1 (by decide)) (blk x1 1 (by decide)) (fun j => blk x1 j.val (by omega)) (vals x2) (by decide))
        (headFew (i := 1) (by decide) (by decide) 1 0 maskVal (blk x0 1 (by decide)) (blk x1 1 (by decide)) (fun j => blk x1 j.val (by omega)) (vals x2) (by decide)) := rfl

theorem piece2 :
    k0_pay36 (k0_pay226 x0 x1 x2 x3) (k0_pay229 x0 x1 x2 x3) (k0_pay27 (k0_pay224 x0 x1 x2 x3) (k0_pay227 x0 x1 x2 x3) (View.ld x0 r0_4) (View.ld x1 r0_4)) (k0_pay28 (k0_pay227 x0 x1 x2 x3) (View.ld x0 r0_4) (View.ld x1 r0_2)) (k0_pay29 (k0_pay227 x0 x1 x2 x3) (View.ld x0 r0_4) (View.ld x1 r0_3)) (k0_pay30 (k0_pay228 x0 x1 x2 x3) (k0_pay22 (k0_pay224 x0 x1 x2 x3) (k0_pay226 x0 x1 x2 x3) (View.ld x0 r0_4) (View.ld x1 r0_4)) (k0_pay23 (k0_pay226 x0 x1 x2 x3) (View.ld x0 r0_4) (View.ld x1 r0_2)) (k0_pay24 (k0_pay226 x0 x1 x2 x3) (View.ld x0 r0_4) (View.ld x1 r0_3)))
      = both (headFew (i := 2) (by decide) (by decide) 0 64 maskVal (blk x0 2 (by decide)) (blk x1 2 (by decide)) (fun j => blk x1 j.val (by omega)) (vals x2) (by decide))
        (headFew (i := 2) (by decide) (by decide) 1 0 maskVal (blk x0 2 (by decide)) (blk x1 2 (by decide)) (fun j => blk x1 j.val (by omega)) (vals x2) (by decide)) := rfl

theorem piece3 :
    k0_pay63 (k0_pay226 x0 x1 x2 x3) (k0_pay229 x0 x1 x2 x3) (k0_pay237 x0 x1 x2 x3) (k0_pay238 x0 x1 x2 x3) (k0_pay239 x0 x1 x2 x3) (k0_pay240 x0 x1 x2 x3) (k0_pay46 (k0_pay228 x0 x1 x2 x3) (k0_pay236 x0 x1 x2 x3) (k0_pay42 (k0_pay233 x0 x1 x2 x3) (k0_pay234 x0 x1 x2 x3) (k0_pay235 x0 x1 x2 x3) (k0_pay236 x0 x1 x2 x3)) (k0_pay43 (k0_pay233 x0 x1 x2 x3) (k0_pay234 x0 x1 x2 x3) (k0_pay235 x0 x1 x2 x3) (k0_pay236 x0 x1 x2 x3)) (k0_pay44 (k0_pay233 x0 x1 x2 x3) (k0_pay234 x0 x1 x2 x3) (k0_pay235 x0 x1 x2 x3) (k0_pay236 x0 x1 x2 x3)) (k0_pay45 (k0_pay233 x0 x1 x2 x3) (k0_pay234 x0 x1 x2 x3) (k0_pay235 x0 x1 x2 x3) (k0_pay236 x0 x1 x2 x3))) (k0_pay60 (k0_pay240 x0 x1 x2 x3)) (k0_pay61 (k0_pay240 x0 x1 x2 x3)) (k0_pay62 (k0_pay237 x0 x1 x2 x3) (k0_pay238 x0 x1 x2 x3) (k0_pay239 x0 x1 x2 x3))
      = both (headFew (i := 3) (by decide) (by decide) 0 64 maskVal (blk x0 3 (by decide)) (blk x1 3 (by decide)) (fun j => blk x1 j.val (by omega)) (vals x2) (by decide))
        (headFew (i := 3) (by decide) (by decide) 1 0 maskVal (blk x0 3 (by decide)) (blk x1 3 (by decide)) (fun j => blk x1 j.val (by omega)) (vals x2) (by decide)) := rfl

set_option maxHeartbeats 1000000 in
theorem piece4 :
    k0_pay96 (k0_pay226 x0 x1 x2 x3) (k0_pay229 x0 x1 x2 x3) (k0_pay65 (k0_pay224 x0 x1 x2 x3) (k0_pay227 x0 x1 x2 x3) (View.ld x0 r0_6) (View.ld x1 r0_6)) (k0_pay75 (k0_pay249 x0 x1 x2 x3) (k0_pay250 x0 x1 x2 x3) (k0_pay251 x0 x1 x2 x3) (View.ld x1 r0_2)) (k0_pay76 (k0_pay249 x0 x1 x2 x3) (k0_pay250 x0 x1 x2 x3) (k0_pay251 x0 x1 x2 x3) (View.ld x1 r0_3)) (k0_pay77 (k0_pay249 x0 x1 x2 x3) (k0_pay250 x0 x1 x2 x3) (k0_pay251 x0 x1 x2 x3) (View.ld x1 r0_4)) (k0_pay79 (k0_pay74 (k0_pay250 x0 x1 x2 x3) (k0_pay251 x0 x1 x2 x3)) (k0_pay78 (k0_pay249 x0 x1 x2 x3) (View.ld x1 r0_5))) (k0_pay80 (k0_pay228 x0 x1 x2 x3) (k0_pay48 (k0_pay224 x0 x1 x2 x3) (k0_pay226 x0 x1 x2 x3) (View.ld x0 r0_6) (View.ld x1 r0_6)) (k0_pay56 (k0_pay54 (k0_pay242 x0 x1 x2 x3) (View.ld x1 r0_2)) (k0_pay55 (k0_pay243 x0 x1 x2 x3) (k0_pay241 x0 x1 x2 x3) (k0_pay244 x0 x1 x2 x3) (k0_pay245 x0 x1 x2 x3) (Scalar.ofBits .f32 0x00000000#32) (k0_pay246 x0 x1 x2 x3))) (k0_pay57 (k0_pay242 x0 x1 x2 x3) (k0_pay247 x0 x1 x2 x3) (View.ld x1 r0_3)) (k0_pay58 (k0_pay242 x0 x1 x2 x3) (k0_pay247 x0 x1 x2 x3) (View.ld x1 r0_4)) (k0_pay59 (k0_pay242 x0 x1 x2 x3) (k0_pay247 x0 x1 x2 x3) (View.ld x1 r0_5)))
      = both (headMany (i := 4) (by decide) (by decide) 0 64 maskVal (means x0 x1 x2 x3) (blk x0 4 (by decide)) (blk x1 4 (by decide)) (fun j => blk x1 j.val (by omega)) (firstRows _ (onesOff 0 (vals x2)) (rows_slices (by decide))) (by decide))
        (headMany (i := 4) (by decide) (by decide) 1 0 maskVal (means x0 x1 x2 x3) (blk x0 4 (by decide)) (blk x1 4 (by decide)) (fun j => blk x1 j.val (by omega)) (firstRows _ (onesOff 1 (vals x2)) (rows_slices (by decide))) (by decide)) := rfl

set_option maxHeartbeats 1000000 in
theorem piece5 :
    k0_pay133 (k0_pay226 x0 x1 x2 x3) (k0_pay229 x0 x1 x2 x3) (k0_pay260 x0 x1 x2 x3) (k0_pay265 x0 x1 x2 x3) (k0_pay266 x0 x1 x2 x3) (k0_pay267 x0 x1 x2 x3) (k0_pay268 x0 x1 x2 x3) (k0_pay269 x0 x1 x2 x3) (k0_pay112 (k0_pay228 x0 x1 x2 x3) (k0_pay82 (k0_pay224 x0 x1 x2 x3) (k0_pay226 x0 x1 x2 x3) (View.ld x0 r0_7) (View.ld x1 r0_7)) (k0_pay89 (k0_pay87 (k0_pay253 x0 x1 x2 x3) (View.ld x1 r0_2)) (k0_pay88 (k0_pay254 x0 x1 x2 x3) (k0_pay252 x0 x1 x2 x3) (k0_pay255 x0 x1 x2 x3) (k0_pay256 x0 x1 x2 x3) (Scalar.ofBits .f32 0x3F800000#32)) (Scalar.ofBits .f32 0x3F000000#32)) (k0_pay90 (k0_pay253 x0 x1 x2 x3) (k0_pay257 x0 x1 x2 x3) (View.ld x1 r0_3)) (k0_pay91 (k0_pay253 x0 x1 x2 x3) (k0_pay257 x0 x1 x2 x3) (View.ld x1 r0_4)) (k0_pay92 (k0_pay253 x0 x1 x2 x3) (k0_pay257 x0 x1 x2 x3) (View.ld x1 r0_5)) (k0_pay95 (k0_pay93 (k0_pay253 x0 x1 x2 x3) (View.ld x1 r0_6)) (Named.named κ "mask" 0xF149F2CA#32) (k0_pay94 (k0_pay257 x0 x1 x2 x3)))) (k0_pay132 (k0_pay260 x0 x1 x2 x3) (k0_pay265 x0 x1 x2 x3) (k0_pay266 x0 x1 x2 x3) (k0_pay267 x0 x1 x2 x3) (k0_pay268 x0 x1 x2 x3) (k0_pay269 x0 x1 x2 x3))
      = both (headMany (i := 5) (by decide) (by decide) 0 64 maskVal (means x0 x1 x2 x3) (blk x0 5 (by decide)) (blk x1 5 (by decide)) (fun j => blk x1 j.val (by omega)) (firstRows _ (onesOff 0 (vals x2)) (rows_slices (by decide))) (by decide))
        (headMany (i := 5) (by decide) (by decide) 1 0 maskVal (means x0 x1 x2 x3) (blk x0 5 (by decide)) (blk x1 5 (by decide)) (fun j => blk x1 j.val (by omega)) (firstRows _ (onesOff 1 (vals x2)) (rows_slices (by decide))) (by decide)) := rfl

set_option maxHeartbeats 1000000 in
theorem piece6 :
    k0_pay181 (k0_pay226 x0 x1 x2 x3) (k0_pay229 x0 x1 x2 x3) (k0_pay291 x0 x1 x2 x3) (k0_pay292 x0 x1 x2 x3) (k0_pay293 x0 x1 x2 x3) (k0_pay294 x0 x1 x2 x3) (k0_pay295 x0 x1 x2 x3) (k0_pay157 (k0_pay228 x0 x1 x2 x3) (k0_pay280 x0 x1 x2 x3) (k0_pay281 x0 x1 x2 x3) (k0_pay282 x0 x1 x2 x3) (k0_pay151 (k0_pay272 x0 x1 x2 x3) (k0_pay277 x0 x1 x2 x3) (k0_pay278 x0 x1 x2 x3) (k0_pay279 x0 x1 x2 x3) (k0_pay280 x0 x1 x2 x3) (k0_pay281 x0 x1 x2 x3) (k0_pay282 x0 x1 x2 x3)) (k0_pay152 (k0_pay272 x0 x1 x2 x3) (k0_pay277 x0 x1 x2 x3) (k0_pay278 x0 x1 x2 x3) (k0_pay279 x0 x1 x2 x3) (k0_pay280 x0 x1 x2 x3) (k0_pay281 x0 x1 x2 x3) (k0_pay282 x0 x1 x2 x3)) (k0_pay153 (k0_pay272 x0 x1 x2 x3) (k0_pay277 x0 x1 x2 x3) (k0_pay278 x0 x1 x2 x3) (k0_pay279 x0 x1 x2 x3) (k0_pay280 x0 x1 x2 x3) (k0_pay281 x0 x1 x2 x3) (k0_pay282 x0 x1 x2 x3)) (k0_pay154 (k0_pay272 x0 x1 x2 x3) (k0_pay277 x0 x1 x2 x3) (k0_pay278 x0 x1 x2 x3) (k0_pay279 x0 x1 x2 x3) (k0_pay280 x0 x1 x2 x3) (k0_pay281 x0 x1 x2 x3) (k0_pay282 x0 x1 x2 x3)) (k0_pay155 (k0_pay272 x0 x1 x2 x3) (k0_pay277 x0 x1 x2 x3) (k0_pay278 x0 x1 x2 x3) (k0_pay279 x0 x1 x2 x3) (k0_pay280 x0 x1 x2 x3) (k0_pay281 x0 x1 x2 x3) (k0_pay282 x0 x1 x2 x3)) (k0_pay156 (k0_pay272 x0 x1 x2 x3) (k0_pay277 x0 x1 x2 x3) (k0_pay278 x0 x1 x2 x3) (k0_pay279 x0 x1 x2 x3) (k0_pay280 x0 x1 x2 x3) (k0_pay281 x0 x1 x2 x3) (k0_pay282 x0 x1 x2 x3))) (k0_pay178 (k0_pay285 x0 x1 x2 x3) (k0_pay290 x0 x1 x2 x3) (k0_pay291 x0 x1 x2 x3) (k0_pay292 x0 x1 x2 x3) (k0_pay293 x0 x1 x2 x3) (k0_pay294 x0 x1 x2 x3) (k0_pay295 x0 x1 x2 x3)) (k0_pay179 (k0_pay285 x0 x1 x2 x3) (k0_pay290 x0 x1 x2 x3) (k0_pay291 x0 x1 x2 x3) (k0_pay292 x0 x1 x2 x3) (k0_pay293 x0 x1 x2 x3) (k0_pay294 x0 x1 x2 x3) (k0_pay295 x0 x1 x2 x3)) (k0_pay180 (k0_pay285 x0 x1 x2 x3) (k0_pay290 x0 x1 x2 x3) (k0_pay291 x0 x1 x2 x3) (k0_pay292 x0 x1 x2 x3) (k0_pay293 x0 x1 x2 x3) (k0_pay294 x0 x1 x2 x3) (k0_pay295 x0 x1 x2 x3))
      = both (headMany (i := 6) (by decide) (by decide) 0 64 maskVal (means x0 x1 x2 x3) (blk x0 6 (by decide)) (blk x1 6 (by decide)) (fun j => blk x1 j.val (by omega)) (firstRows _ (onesOff 0 (vals x2)) (rows_slices (by decide))) (by decide))
        (headMany (i := 6) (by decide) (by decide) 1 0 maskVal (means x0 x1 x2 x3) (blk x0 6 (by decide)) (blk x1 6 (by decide)) (fun j => blk x1 j.val (by omega)) (firstRows _ (onesOff 1 (vals x2)) (rows_slices (by decide))) (by decide)) := rfl

set_option maxHeartbeats 1000000 in
theorem piece7 :
    k0_pay1 (k0_pay226 x0 x1 x2 x3) (k0_pay213 (k0_pay228 x0 x1 x2 x3) (k0_pay298 x0 x1 x2 x3) (k0_pay304 x0 x1 x2 x3) (k0_pay305 x0 x1 x2 x3) (k0_pay306 x0 x1 x2 x3) (k0_pay307 x0 x1 x2 x3) (k0_pay308 x0 x1 x2 x3) (k0_pay309 x0 x1 x2 x3) (k0_pay310 x0 x1 x2 x3) (k0_pay202 (k0_pay306 x0 x1 x2 x3)) (k0_pay203 (k0_pay306 x0 x1 x2 x3)) (k0_pay204 (k0_pay307 x0 x1 x2 x3)) (k0_pay205 (k0_pay307 x0 x1 x2 x3)) (k0_pay206 (k0_pay308 x0 x1 x2 x3)) (k0_pay207 (k0_pay308 x0 x1 x2 x3)) (k0_pay208 (k0_pay309 x0 x1 x2 x3)) (k0_pay209 (k0_pay309 x0 x1 x2 x3)) (k0_pay210 (k0_pay310 x0 x1 x2 x3)) (k0_pay211 (k0_pay310 x0 x1 x2 x3)) (k0_pay212 (k0_pay298 x0 x1 x2 x3) (k0_pay304 x0 x1 x2 x3) (k0_pay305 x0 x1 x2 x3))) (k0_pay223 (k0_pay229 x0 x1 x2 x3) (k0_pay313 x0 x1 x2 x3) (k0_pay317 x0 x1 x2 x3) (k0_pay318 x0 x1 x2 x3) (k0_pay319 x0 x1 x2 x3) (k0_pay320 x0 x1 x2 x3) (k0_pay199 (k0_pay312 x0 x1 x2 x3) (k0_pay316 x0 x1 x2 x3) (View.ld x1 r0_6)) (k0_pay200 (k0_pay312 x0 x1 x2 x3) (k0_pay316 x0 x1 x2 x3) (View.ld x1 r0_7)) (k0_pay201 (k0_pay312 x0 x1 x2 x3) (k0_pay316 x0 x1 x2 x3) (View.ld x1 r0_8)) (k0_pay214 (k0_pay313 x0 x1 x2 x3)) (k0_pay215 (k0_pay313 x0 x1 x2 x3)) (k0_pay216 (k0_pay317 x0 x1 x2 x3)) (k0_pay217 (k0_pay317 x0 x1 x2 x3)) (k0_pay218 (k0_pay318 x0 x1 x2 x3)) (k0_pay219 (k0_pay318 x0 x1 x2 x3)) (k0_pay220 (k0_pay319 x0 x1 x2 x3)) (k0_pay221 (k0_pay319 x0 x1 x2 x3)) (k0_pay222 (k0_pay320 x0 x1 x2 x3)))
      = both (headMany (i := 7) (by decide) (by decide) 0 64 maskVal (means x0 x1 x2 x3) (blk x0 7 (by decide)) (blk x1 7 (by decide)) (fun j => blk x1 j.val (by omega)) (onesOff 0 (vals x2)) (by decide))
        (headMany (i := 7) (by decide) (by decide) 1 0 maskVal (means x0 x1 x2 x3) (blk x0 7 (by decide)) (blk x1 7 (by decide)) (fun j => blk x1 j.val (by omega)) (onesOff 1 (vals x2)) (by decide)) := rfl

end Cert.MobaPieces

end
-- ==== Proof.Moba.Out.lean ====
/-
  The block one grid point writes, at a row and a lane: the lane's head's mean of the values over the keys the row sees.
-/
module

public import proofs.«01_k».proof.Proof.Moba.Pieces
public import proofs.«01_k».proof.Proof.Moba.Rows
public import Idealize.ShloMosaic.Lib.Pipeline.ValueKit.Tiles

@[expose] public section

set_option maxRecDepth 16384

noncomputable section

namespace Cert.MobaPieces

open Idealize.ShloMosaic Idealize.ShloMosaic.TcCoe Idealize.SL.Sem
open Cert.MobaIdeal Cert.MobaIdeal.Gen Cert.DiffTile Cert.MobaTile Cert.MobaSoftmax

/-- What a pair of heads writes for row `R` and lane `e`. -/
def outOf (Q K V : ℕ → ℕ → ℝ) (Mn : ℕ → ℕ → EReal) (R e : ℕ) : ℝ :=
  mean (lane Q K (e / 64) R) (fun k => V k e) (see (gateLane Q Mn (e / 64) R) R) 2048

variable (x0 x1 x2 : Vec Ideal S2048x128 .bf16) (x3 : Vec Ideal S1x8x128 .f32)

theorem means_apply (m : Fin 8) (j : Fin 128) : means x0 x1 x2 x3 (ix2 m j) = x3 (ix3 0 m j) := by
  have h : View.ld x3 r0_0 (ix3 (0 : Fin 1) m j) = x3 (ix3 0 m j) := by
    refine View.ld_unit_apply_of x3 _ _ _ (ix3 (0 : Fin 1) m j) (ix3 0 m j) fun a => ?_
    match a with
    | ⟨0, _⟩ => rfl
    | ⟨1, _⟩ => exact (Nat.zero_add _).symm
    | ⟨2, _⟩ => exact (Nat.zero_add _).symm
  refine Eq.trans ?_ h
  exact shapeCast_apply (s := S1x8x128) (t := S8x128) (View.ld x3 r0_0) _ (ix2 m j) (ix3 (0 : Fin 1) m j) (by
    rw [Shape.rowMajor_val_two, Shape.rowMajor_val_three]
    show ((0 : ℕ) * 8 + m.val) * 128 + j.val = m.val * 128 + j.val
    omega)

/-- The two heads put side by side. -/
theorem both_heads (a b : FVec Ideal (mat 256 128) .f32) (r : Fin 256) (e : Fin 128) (f : ℕ → EReal)
    (ha : inHead 0 e.val → a (ix2 r e) = f 0) (hb : inHead 1 e.val → b (ix2 r e) = f 1) : both a b (ix2 r e) = f (e.val / 64) := by
  have he := e.isLt
  rw [both_apply]
  by_cases h : e.val < 64
  · rw [if_pos h, ha (by simp [inHead]; omega), show e.val / 64 = 0 by omega]
  · rw [if_neg h, hb (by simp [inHead]; omega), show e.val / 64 = 1 by omega]

/-- A pair of heads' block at a row and a lane. -/
theorem out_apply (Q K V : ℕ → ℕ → ℝ) (Mn : ℕ → ℕ → EReal)
    (hq : ∀ (i : Fin 2048) (j : Fin 128), x0 (ix2 i j) = (Q i.val j.val : EReal))
    (hk : ∀ (i : Fin 2048) (j : Fin 128), x1 (ix2 i j) = (K i.val j.val : EReal))
    (hv : ∀ (i : Fin 2048) (j : Fin 128), x2 (ix2 i j) = (V i.val j.val : EReal))
    (hm : ∀ (m : Fin 8) (j : Fin 128), x3 (ix3 0 m j) = Mn m.val j.val) (y : S2048x128.Idx) :
    out0_4 x0 x1 x2 x3 y = (outOf Q K V Mn (y 0).val (y 1).val : EReal) := by
  have bq : ∀ (i : ℕ) (h : i < 8) (r : Fin 256) (j : Fin 128), blk x0 i h (ix2 r j) = (Q (256 * i + r.val) j.val : EReal) := by
    intro i h r j
    refine (View.ld_unit_apply_of x0 _ _ _ (ix2 r j) (ix2 (⟨256 * i + r.val, by omega⟩ : Fin 2048) j) fun a => ?_).trans (hq _ _)
    match a with
    | ⟨0, _⟩ => rfl
    | ⟨1, _⟩ => exact (Nat.zero_add _).symm
  have bk : ∀ (i : ℕ) (h : i < 8) (r : Fin 256) (j : Fin 128), blk x1 i h (ix2 r j) = (K (256 * i + r.val) j.val : EReal) := by
    intro i h r j
    refine (View.ld_unit_apply_of x1 _ _ _ (ix2 r j) (ix2 (⟨256 * i + r.val, by omega⟩ : Fin 2048) j) fun a => ?_).trans (hk _ _)
    match a with
    | ⟨0, _⟩ => rfl
    | ⟨1, _⟩ => exact (Nat.zero_add _).symm
  have bv : ∀ (i : Fin 2048) (j : Fin 128), vals x2 (ix2 i j) = (V i.val j.val : EReal) := by
    intro i j
    refine (View.ld_unit_apply_of x2 _ _ _ (ix2 i j) (ix2 i j) fun a => ?_).trans (hv _ _)
    match a with
    | ⟨0, _⟩ => exact (Nat.zero_add _).symm
    | ⟨1, _⟩ => exact (Nat.zero_add _).symm
  have bm : ∀ (m : Fin 8) (j : Fin 128), means x0 x1 x2 x3 (ix2 m j) = Mn m.val j.val := fun m j => (means_apply x0 x1 x2 x3 m j).trans (hm m j)
  have eta : ∀ x : (mat 256 128).Idx, x = ix2 (x 0) (x 1) := fun x => funext fun a => by
    match a with
    | ⟨0, _⟩ => rfl
    | ⟨1, _⟩ => rfl
  have close : ∀ (i : ℕ) (x : (mat 256 128).Idx) (g : EReal), g = (outOf Q K V Mn (256 * i + (x 0).val) (x 1).val : EReal) →
      (y 0).val = 256 * i + (x 0).val → (y 1).val = (x 1).val → g = (outOf Q K V Mn (y 0).val (y 1).val : EReal) := by
    intro i x g hg h0 h1
    rw [hg, h0, h1]
  have pair : ∀ (i : ℕ) (a b : FVec Ideal (mat 256 128) .f32) (x : (mat 256 128).Idx) {g : EReal} (_ : g = both a b x)
      (_ : inHead 0 (x 1).val → a (ix2 (x 0) (x 1)) = (mean (lane Q K 0 (256 * i + (x 0).val)) (fun k => V k (x 1).val) (see (gateLane Q Mn 0 (256 * i + (x 0).val)) (256 * i + (x 0).val)) 2048 : EReal))
      (_ : inHead 1 (x 1).val → b (ix2 (x 0) (x 1)) = (mean (lane Q K 1 (256 * i + (x 0).val)) (fun k => V k (x 1).val) (see (gateLane Q Mn 1 (256 * i + (x 0).val)) (256 * i + (x 0).val)) 2048 : EReal)),
      g = (outOf Q K V Mn (256 * i + (x 0).val) (x 1).val : EReal) := by
    intro i a b x g hg ha hb
    rw [hg, eta x]
    exact both_heads a b (x 0) (x 1) (fun hh => ((mean (lane Q K hh (256 * i + (x 0).val)) (fun k => V k (x 1).val)
      (see (gateLane Q Mn hh (256 * i + (x 0).val)) (256 * i + (x 0).val)) 2048 : ℝ) : EReal)) ha hb
  have n0 : ¬ inHead 0 64 := by simp [inHead]
  have n1 : ¬ inHead 1 0 := by simp [inHead]
  have few : ∀ (i : ℕ) (h1 : 1 ≤ i) (h3 : i ≤ 3) (hi : i < 8) (s0 s1) (x : (mat 256 128).Idx) {g : EReal}
      (_ : g = both (headFew (i := i) h1 hi 0 64 maskVal (blk x0 i hi) (blk x1 i hi) (fun j => blk x1 j.val (by omega)) (vals x2) s0)
        (headFew (i := i) h1 hi 1 0 maskVal (blk x0 i hi) (blk x1 i hi) (fun j => blk x1 j.val (by omega)) (vals x2) s1) x),
      g = (outOf Q K V Mn (256 * i + (x 0).val) (x 1).val : EReal) := by
    intro i h1 h3 hi s0 s1 x g hg
    rw [maskVal_eq] at hg
    refine pair i _ _ x hg (fun he => ?_) (fun he => ?_)
    · exact headFew_apply (by decide) (by decide) n0 _ _ V Q K (x 0) (x 1) he h1 h3 hi _ _ s0 _ (bq i hi (x 0)) (bk i hi) (fun m => bk m.val _) (fun k => bv k (x 1))
    · exact headFew_apply (by decide) (by decide) n1 _ _ V Q K (x 0) (x 1) he h1 h3 hi _ _ s1 _ (bq i hi (x 0)) (bk i hi) (fun m => bk m.val _) (fun k => bv k (x 1))
  have many : ∀ (i : ℕ) (h1 : 1 ≤ i) (hi : i < 8) (v0 v1 : FVec Ideal (mat (256 * (i + 1)) 128) .bf16) (s0 s1) (x : (mat 256 128).Idx) {g : EReal}
      (_ : g = both (headMany (i := i) h1 hi 0 64 maskVal (means x0 x1 x2 x3) (blk x0 i hi) (blk x1 i hi) (fun j => blk x1 j.val (by omega)) v0 s0)
        (headMany (i := i) h1 hi 1 0 maskVal (means x0 x1 x2 x3) (blk x0 i hi) (blk x1 i hi) (fun j => blk x1 j.val (by omega)) v1 s1) x)
      (_ : ∀ (k : Fin (256 * (i + 1))) (j : Fin 128), v0 (ix2 k j) = onesOff 0 (vals x2) (ix2 (⟨k.val, by omega⟩ : Fin 2048) j))
      (_ : ∀ (k : Fin (256 * (i + 1))) (j : Fin 128), v1 (ix2 k j) = onesOff 1 (vals x2) (ix2 (⟨k.val, by omega⟩ : Fin 2048) j)),
      g = (outOf Q K V Mn (256 * i + (x 0).val) (x 1).val : EReal) := by
    intro i h1 hi v0 v1 s0 s1 x g hg e0 e1
    rw [maskVal_eq] at hg
    refine pair i _ _ x hg (fun he => ?_) (fun he => ?_)
    · exact headMany_apply (by decide) (by decide) n0 _ _ V Q K Mn (x 0) (x 1) he h1 hi _ _ v0 s0 bm (bq i hi (x 0)) (bk i hi) (fun m => bk m.val _)
        (fun k => (e0 k (x 1)).trans (vals_apply (by decide) V (x 1) he _ (fun k => bv k (x 1)) _))
        (fun k => (e0 k _).trans (vals_one (by decide) (by decide) n0 _ _))
    · exact headMany_apply (by decide) (by decide) n1 _ _ V Q K Mn (x 0) (x 1) he h1 hi _ _ v1 s1 bm (bq i hi (x 0)) (bk i hi) (fun m => bk m.val _)
        (fun k => (e1 k (x 1)).trans (vals_apply (by decide) V (x 1) he _ (fun k => bv k (x 1)) _))
        (fun k => (e1 k _).trans (vals_one (by decide) (by decide) n1 _ _))
  unfold out0_4
  canon_tiles x h
  · exact close 7 x _ (many 7 (by decide) (by decide) _ _ _ _ x (congrFun (piece7 x0 x1 x2 x3) x) (fun k j => rfl) (fun k j => rfl)) h0 h1
  · exact close 6 x _ (many 6 (by decide) (by decide) _ _ _ _ x (congrFun (piece6 x0 x1 x2 x3) x) (fun k j => firstRows_apply _ _ _ (by decide) k j) (fun k j => firstRows_apply _ _ _ (by decide) k j)) h0 h1
  · exact close 5 x _ (many 5 (by decide) (by decide) _ _ _ _ x (congrFun (piece5 x0 x1 x2 x3) x) (fun k j => firstRows_apply _ _ _ (by decide) k j) (fun k j => firstRows_apply _ _ _ (by decide) k j)) h0 h1
  · exact close 4 x _ (many 4 (by decide) (by decide) _ _ _ _ x (congrFun (piece4 x0 x1 x2 x3) x) (fun k j => firstRows_apply _ _ _ (by decide) k j) (fun k j => firstRows_apply _ _ _ (by decide) k j)) h0 h1
  · exact close 3 x _ (few 3 (by decide) (by decide) (by decide) _ _ x (congrFun (piece3 x0 x1 x2 x3) x)) h0 h1
  · exact close 2 x _ (few 2 (by decide) (by decide) (by decide) _ _ x (congrFun (piece2 x0 x1 x2 x3) x)) h0 h1
  · exact close 1 x _ (few 1 (by decide) (by decide) (by decide) _ _ x (congrFun (piece1 x0 x1 x2 x3) x)) h0 h1
  · have hg := congrFun (piece0 x0 x1 x2 x3) x
    rw [maskVal_eq] at hg
    refine close 0 x _ (pair 0 _ _ x hg (fun he => ?_) (fun he => ?_)) (by omega) h1
    · simp only [Nat.mul_zero, Nat.zero_add]
      refine headFirst_apply (by decide) (by decide) n0 _ _ V Q K (x 0) (x 1) he _ _ _ (fun j => ?_) (fun c j => ?_) (fun k => bv k (x 1))
      · exact (bq 0 _ (x 0) j).trans (congrArg (fun n => ((Q n j.val : ℝ) : EReal)) (Nat.zero_add _))
      · exact (bk 0 _ c j).trans (congrArg (fun n => ((K n j.val : ℝ) : EReal)) (Nat.zero_add _))
    · simp only [Nat.mul_zero, Nat.zero_add]
      refine headFirst_apply (by decide) (by decide) n1 _ _ V Q K (x 0) (x 1) he _ _ _ (fun j => ?_) (fun c j => ?_) (fun k => bv k (x 1))
      · exact (bq 0 _ (x 0) j).trans (congrArg (fun n => ((Q n j.val : ℝ) : EReal)) (Nat.zero_add _))
      · exact (bk 0 _ c j).trans (congrArg (fun n => ((K n j.val : ℝ) : EReal)) (Nat.zero_add _))

end Cert.MobaPieces

end
-- ==== Proof.Moba.Reduce.lean ====
/-
  Two of the reference's host operations, read at an index: the largest score of a row, and the place a sort along the last axis takes
  an element from.
-/
module

public import proofs.«01_k».proof.Proof.Moba.Softmax
public import proofs.«01_k».proof.Proof.Diff.Ref
public import proofs.«01_k».proof.Proof.Gen.MobaRefIdeal.Read

@[expose] public section

set_option maxRecDepth 16384
noncomputable section

namespace Cert.MobaRefValue

open Idealize.ShloMosaic Idealize.ShloMosaic.TcCoe Idealize.SL.Sem Idealize.ShloMosaic.WordCmp
open Cert.MobaRefIdeal Cert.MobaRefIdeal.Gen Cert.MobaRefIdeal.Read Cert.DiffTile
variable (x0 : (⟨S65536x3072, .bf16⟩ : BufTy).Contents (Elt Ideal)) (x1 : (⟨S256x1x512, .f32⟩ : BufTy).Contents (Elt Ideal))

/-! ## The largest score -/

theorem keys_reduce : S32x8x2048x2048.Reduces [3] S32x8x2048 := by decide

theorem keys_lift (b : Fin 32) (h : Fin 8) (R : Fin 2048) (k : Fin 2048) : keys_reduce.lift (ix3 b h R) k = ix4 b h R k := funext fun a => by
    match a with
    | ⟨0, _⟩ | ⟨1, _⟩ | ⟨2, _⟩ | ⟨3, _⟩ => rfl

theorem largest_of (f : S32x8x2048x2048.Idx → EReal) (g : S_.Idx → EReal) (hg : g (Shape.Idx.first h_S_) = (⊥ : EReal)) (b : Fin 32) (h : Fin 8) (R : Fin 2048) :
    Host.reduce (s := S32x8x2048x2048) (t := S32x8x2048) (u := S_) (max : EReal → EReal → EReal) f g reducesTo_S32x8x2048x2048_S32x8x2048_d3 h_S_ (ix3 b h R)
      = (Finset.univ : Finset (Fin 2048)).fold max (⊥ : EReal) (fun k => f (ix4 b h R k)) := by
  refine (Host.reduce_eq_fold_single (s := S32x8x2048x2048) (t := S32x8x2048) (u := S_) (a := 3) (max : EReal → EReal → EReal)
    f g reducesTo_S32x8x2048x2048_S32x8x2048_d3 keys_reduce h_S_ (ix3 b h R)).trans ?_
  rw [hg]
  exact congrArg (fun f => Finset.fold max (⊥ : EReal) f (Finset.univ : Finset (Fin 2048)))
    (funext fun k => congrArg f (keys_lift b h R k))

/-- The largest score of a row. -/
theorem largest_at (b : Fin 32) (h : Fin 8) (R : Fin 2048) :
    val_main_v58 (F := Ideal) x0 x1 (ix3 b h R)
      = (Finset.univ : Finset (Fin 2048)).fold max (⊥ : EReal) (fun k => val_main_v57 (F := Ideal) x0 x1 (ix4 b h R k)) := by
  unfold val_main_v58
  exact largest_of _ _ ofBits_negInf b h R

/-! ## The best indices -/

section Best

variable {s : Shape} (d : ℕ) (hd : d < s.rank)

include hd in
/-- What a sort of pairs leaves in the second array: the element at the place the order gives. -/
theorem sort2_snd {α β : Type} (before : α × β → α × β → BitVec 1) (x : s.Idx → α) (y : s.Idx → β) (j : s.Idx) :
    (Host.sort2 s d before x y).2 j = y (j.along ⟨d, hd⟩ (sortedFrom
      (fun k k' => before (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The indices of the best elements along an axis. -/
theorem topK_snd {α : Type} {t : Shape} (gt : α → α → BitVec 1) (x : s.Idx → α) (h : s.Slices (fun _ => 0) t) (j : t.Idx) (i : s.Idx)
    (hi : ∀ a : Fin s.rank, (i a).val = (j (a.cast h.1.symm)).val) :
    (Host.topK t d gt x h).2 j = BitVec.ofNat 32 (sortedFrom
      (fun k k' => gt (x (i.along ⟨d, hd⟩ k)) (x (i.along ⟨d, hd⟩ k')) == 1#1) (i ⟨d, hd⟩)).val := by
  unfold Host.topK
  dsimp only
  refine (extractStridedSlice_apply _ _ _ j i fun a => ((hi a).trans (Nat.zero_add _).symm)).trans ?_
  rw [sort2_snd d hd, dif_pos hd]
  unfold iotaInDim Shape.Idx.along
  rw [Function.update_self]

end Best

/-- The indices of the three best of a row. -/
theorem best_at (f : S32x8x2048x8.Idx → EReal) (b : Fin 32) (h : Fin 8) (R : Fin 2048) (G : Fin 8 → EReal) (hG : ∀ k, f (ix4 b h R k) = G k)
    (s : Fin 3) (k₀ : Fin 8) (hk : k₀.val = s.val) :
    (Host.topK S32x8x2048x3 3 (FloatOps.cmpfTotal (F := Ideal) (φ := .f32) .gt) f sliceFits_S32x8x2048x8_S32x8x2048x3).2 (ix4 b h R s)
      = BitVec.ofNat 32 (sortedFrom (fun k k' : Fin 8 => FloatOps.cmpfTotal (F := Ideal) (φ := .f32) .gt (G k) (G k') == 1#1) k₀).val := by
  have ha : ∀ k : Fin 8, f (Shape.Idx.along (s := S32x8x2048x8) (ix4 b h R k₀) (3 : Fin 4) k) = G k := fun k =>
    (congrArg f (funext fun a => by
      match a with
      | ⟨0, _⟩ | ⟨1, _⟩ | ⟨2, _⟩ | ⟨3, _⟩ => rfl)).trans (hG k)
  refine (topK_snd (s := S32x8x2048x8) (t := S32x8x2048x3) 3 (by decide) (FloatOps.cmpfTotal (F := Ideal) (φ := .f32) .gt) f
    sliceFits_S32x8x2048x8_S32x8x2048x3 (ix4 b h R s) (ix4 b h R k₀) fun a => ?_).trans ?_
  · match a with
    | ⟨0, _⟩ | ⟨1, _⟩ | ⟨2, _⟩ => rfl
    | ⟨3, _⟩ => exact hk
  · show BitVec.ofNat 32 (sortedFrom (fun k k' : Fin 8 => FloatOps.cmpfTotal (F := Ideal) (φ := .f32) .gt
      (f (Shape.Idx.along (s := S32x8x2048x8) (ix4 b h R k₀) (3 : Fin 4) k)) (f (Shape.Idx.along (s := S32x8x2048x8) (ix4 b h R k₀) (3 : Fin 4) k')) == 1#1) k₀).val = _
    simp only [ha]

end Cert.MobaRefValue

end
-- ==== Proof.Moba.Ref.lean ====
/-
  The reference at an index, read off its operations one at a time: which blocks it selects, and the softmax over the keys a row sees.
  The projections are given as real numbers `P`, the key means as `M`, which may be infinite; head `h` of sequence `b` is head `h % 2` of the pair `h / 2`, whose
  lanes are columns 128 (h / 2) … of each part.
-/
module

public import proofs.«01_k».proof.Proof.Moba.Select
public import proofs.«01_k».proof.Proof.Moba.Gate
public import proofs.«01_k».proof.Proof.Moba.Rows
public import proofs.«01_k».proof.Proof.Moba.Out
public import proofs.«01_k».proof.Proof.Moba.Reduce
public import proofs.«01_k».proof.Proof.Gen.MobaRefIdeal.Read

@[expose] public section

set_option maxRecDepth 16384

noncomputable section

namespace Cert.MobaSpec

/-- The queries, keys, values and key means of pair `p` of sequence `b`. -/
def qOf (P : ℕ → ℕ → ℝ) (b p R j : ℕ) : ℝ := P (2048 * b + R) (1536 + (128 * p + j))
def kOf (P : ℕ → ℕ → ℝ) (b p R j : ℕ) : ℝ := P (2048 * b + R) (2048 + (128 * p + j))
def vOf (P : ℕ → ℕ → ℝ) (b p R j : ℕ) : ℝ := P (2048 * b + R) (2560 + (128 * p + j))
def mOf (M : ℕ → ℕ → EReal) (b p n j : ℕ) : EReal := M (8 * b + n) (128 * p + j)

end Cert.MobaSpec

namespace Cert.MobaRefValue

open Idealize.ShloMosaic Idealize.ShloMosaic.TcCoe Idealize.SL.Sem Idealize.ShloMosaic.WordCmp
open Cert.MobaRefIdeal Cert.MobaRefIdeal.Gen Cert.MobaRefIdeal.Read Cert.DiffTile Cert.DiffSoftmax Cert.MobaSpec Cert.MobaSoftmax
open Cert.MobaTile (gateLane see see_first see_lt)
open Cert.MobaSelect (desc past)
open Classical

/-! ## The words -/

/-- The block a row or a key lies in. -/
theorem own_at : ∀ R : Fin 2048, val_main_v11 (F := Ideal) (ix1 R) = BitVec.ofNat 32 (R.val / 256) := by
  decide +kernel

instance : Std.Commutative (IntOp.ori (w := 1)) := ⟨fun a b => BitVec.or_comm a b⟩
instance : Std.Associative (IntOp.ori (w := 1)) := ⟨fun a b c => BitVec.or_assoc a b c⟩

theorem fold_ori {ι : Type} (s : Finset ι) (p : ι → Bool) :
    s.fold (IntOp.ori (w := 1)) 0#1 (fun i => BitVec.ofBool (p i)) = BitVec.ofBool (decide (∃ i ∈ s, p i = true)) := by
  induction s using Finset.induction_on with
  | empty => simp
  | insert a s ha ih =>
    rw [Finset.fold_insert ha, ih, ori_ofBool]
    refine congrArg BitVec.ofBool ?_
    rw [Bool.eq_iff_iff]
    simp

theorem past_at (R : Fin 2048) (n : Fin 8) : val_main_v17 (F := Ideal) (ix2 R n) = BitVec.ofBool (decide (n.val < R.val / 256)) := by
  rw [val_main_v17_apply, val_main_v15_apply, val_main_v13_apply, val_main_v12_apply, val_main_v16_apply, val_main_v14_apply]
  refine Eq.trans ?_ (cmpi_slt_ofNat (w := 32) (a := n.val) (b := R.val / 256) (by omega) (by omega))
  exact congrArg (IntOp.cmpi .slt (BitVec.ofNat 32 n.val)) (own_at R)

theorem slot_at (R : Fin 2048) (s : Fin 3) : val_main_v24 (F := Ideal) (ix2 R s) = BitVec.ofBool (decide (s.val < R.val / 256)) := by
  rw [val_main_v24_apply, val_main_v22_apply, val_main_v20_apply, val_main_v19_apply, val_main_v23_apply, val_main_v21_apply]
  refine Eq.trans ?_ (cmpi_slt_ofNat (w := 32) (a := s.val) (b := R.val / 256) (by omega) (by omega))
  exact congrArg (IntOp.cmpi .slt (BitVec.ofNat 32 s.val)) (own_at R)

theorem same_at (R k : Fin 2048) :
    val_main_v47 (F := Ideal) (ix2 R k) = BitVec.ofBool (decide (k.val / 256 = R.val / 256 ∧ k.val ≤ R.val)) := by
  have h1 : val_main_v41 (F := Ideal) (ix2 R k) = BitVec.ofBool (decide (k.val / 256 = R.val / 256)) := by
    rw [val_main_v41_apply, val_main_v39_apply, val_main_v37_apply, val_main_v40_apply, val_main_v38_apply]
    refine Eq.trans ?_ (cmpi_eq_ofNat (w := 32) (a := k.val / 256) (b := R.val / 256) (by omega) (by omega))
    exact congrArg₂ (IntOp.cmpi .eq) (own_at k) (own_at R)
  have h2 : val_main_v46 (F := Ideal) (ix2 R k) = BitVec.ofBool (decide (k.val ≤ R.val)) := by
    rw [val_main_v46_apply, val_main_v44_apply, val_main_v42_apply, val_main_v36_apply, val_main_v45_apply, val_main_v43_apply, val_main_v36_apply]
    exact cmpi_sle_ofNat (w := 32) (a := k.val) (b := R.val) (by omega) (by omega)
  rw [val_main_v47_apply, h1, h2, andi_ofBool, Bool.decide_and]

variable (x0 : (⟨S65536x3072, .bf16⟩ : BufTy).Contents (Elt Ideal)) (x1 : (⟨S256x1x512, .f32⟩ : BufTy).Contents (Elt Ideal))
  (P : ℕ → ℕ → ℝ) (M : ℕ → ℕ → EReal)

section Reads

variable (hx : ∀ y : S65536x3072.Idx, x0 y = (P (y 0).val (y 1).val : EReal))

include hx

theorem v1_at (i : S32x2048x3072.Idx) : val_main_v1 (F := Ideal) x0 i = (P (2048 * (i 0).val + (i 1).val) (i 2).val : EReal) := by
  have h2 : (i 2).val < 3072 := (i 2).isLt
  rw [val_main_v1_apply, val_main_v0_apply]
  refine (hx _).trans ?_
  show ((P ((((i 0).val * 2048 + (i 1).val) * 3072 + (i 2).val) / 3072) ((((i 0).val * 2048 + (i 1).val) * 3072 + (i 2).val) % 3072) : ℝ) : EReal) = _
  rw [show (((i 0).val * 2048 + (i 1).val) * 3072 + (i 2).val) / 3072 = 2048 * (i 0).val + (i 1).val by omega,
    show (((i 0).val * 2048 + (i 1).val) * 3072 + (i 2).val) % 3072 = (i 2).val by omega]

theorem q_at (b : Fin 32) (R : Fin 2048) (h : Fin 8) (l : Fin 64) :
    val_main_v3 (F := Ideal) x0 (ix4 b R h l) = (qOf P b.val (h.val / 2) R.val (64 * (h.val % 2) + l.val) : EReal) := by
  rw [val_main_v3_apply, val_main_v2_apply, v1_at x0 P hx]
  show ((P (2048 * ((((b.val * 2048 + R.val) * 8 + h.val) * 64 + l.val) / 1048576)
    + (((b.val * 2048 + R.val) * 8 + h.val) * 64 + l.val) / 512 % 2048)
    (1536 + (((b.val * 2048 + R.val) * 8 + h.val) * 64 + l.val) % 512) : ℝ) : EReal) = _
  unfold qOf
  congr 2 <;> omega

theorem k_at (b : Fin 32) (R : Fin 2048) (h : Fin 8) (l : Fin 64) :
    val_main_v5 (F := Ideal) x0 (ix4 b R h l) = (kOf P b.val (h.val / 2) R.val (64 * (h.val % 2) + l.val) : EReal) := by
  rw [val_main_v5_apply, val_main_v4_apply, v1_at x0 P hx]
  show ((P (2048 * ((((b.val * 2048 + R.val) * 8 + h.val) * 64 + l.val) / 1048576)
    + (((b.val * 2048 + R.val) * 8 + h.val) * 64 + l.val) / 512 % 2048)
    (2048 + (((b.val * 2048 + R.val) * 8 + h.val) * 64 + l.val) % 512) : ℝ) : EReal) = _
  unfold kOf
  congr 2 <;> omega

theorem v_at (b : Fin 32) (R : Fin 2048) (h : Fin 8) (l : Fin 64) :
    val_main_v7 (F := Ideal) x0 (ix4 b R h l) = (vOf P b.val (h.val / 2) R.val (64 * (h.val % 2) + l.val) : EReal) := by
  rw [val_main_v7_apply, val_main_v6_apply, v1_at x0 P hx]
  show ((P (2048 * ((((b.val * 2048 + R.val) * 8 + h.val) * 64 + l.val) / 1048576)
    + (((b.val * 2048 + R.val) * 8 + h.val) * 64 + l.val) / 512 % 2048)
    (2560 + (((b.val * 2048 + R.val) * 8 + h.val) * 64 + l.val) % 512) : ℝ) : EReal) = _
  unfold vOf
  congr 2 <;> omega

theorem dot_at (b : Fin 32) (h : Fin 8) (R k : Fin 2048) :
    val_main_v53 (F := Ideal) x0 (ix4 b h R k) = (lane (qOf P b.val (h.val / 2)) (kOf P b.val (h.val / 2)) (h.val % 2) R.val k.val : EReal) := by
  rw [val_main_v53_apply]
  have hl : ∀ l : Fin 64, lidx_main_v53 (ix4 b h R k) l = ix4 b R h l := fun l => funext fun a => by
    match a with
    | ⟨0, _⟩ | ⟨1, _⟩ | ⟨2, _⟩ | ⟨3, _⟩ => rfl
  have hr : ∀ l : Fin 64, ridx_main_v53 (ix4 b h R k) l = ix4 b k h l := fun l => funext fun a => by
    match a with
    | ⟨0, _⟩ | ⟨1, _⟩ | ⟨2, _⟩ | ⟨3, _⟩ => rfl
  simp only [hl, hr, q_at x0 P hx, k_at x0 P hx, ← EReal.coe_mul, coe_sum]
  refine congrArg _ ?_
  unfold lane
  exact Fin.sum_univ_eq_sum_range (fun l => qOf P b.val (h.val / 2) R.val (64 * (h.val % 2) + l) * kOf P b.val (h.val / 2) k.val (64 * (h.val % 2) + l)) 64

omit hx in
theorem ln2_at (i : S32x8x2048x2048.Idx) : val_main_v55 (F := Ideal) i = (Real.log 2 : EReal) := by
  rw [val_main_v55_apply, val_main_v54_apply]
  show Ideal.log (Ideal.ofBits .f32 0x40000000#32) = _
  have h2 : Ideal.ofBits .f32 0x40000000#32 = ((2 : ℝ) : EReal) := by
    simp [Ideal.ofBits, Ideal.ieee, -EReal.coe_mul]
    norm_num
  rw [h2]
  show (if (2 : ℝ) ≤ 0 then (⊥ : EReal) else (Real.log 2 : EReal)) = _
  rw [if_neg (by norm_num)]

variable (hm : ∀ y : S256x1x512.Idx, x1 y = M (y 0).val (y 2).val)

include hm

omit hx in
theorem m_at (b : Fin 32) (n h : Fin 8) (l : Fin 64) :
    val_main_v8 (F := Ideal) x1 (ix4 b n h l) = mOf M b.val (h.val / 2) n.val (64 * (h.val % 2) + l.val) := by
  rw [val_main_v8_apply]
  refine (hm _).trans ?_
  show M ((((b.val * 8 + n.val) * 8 + h.val) * 64 + l.val) / 512) ((((b.val * 8 + n.val) * 8 + h.val) * 64 + l.val) % 512) = _
  unfold mOf
  congr 2 <;> omega

/-- The gates of a row. -/
abbrev gateOf (P : ℕ → ℕ → ℝ) (M : ℕ → ℕ → EReal) (b h R : ℕ) : ℕ → EReal := gateLane (qOf P b (h / 2)) (mOf M b (h / 2)) (h % 2) R

theorem gate_at (b : Fin 32) (h : Fin 8) (R : Fin 2048) (n : Fin 8) :
    val_main_v9 (F := Ideal) x0 x1 (ix4 b h R n) = gateOf P M b.val h.val R.val n.val := by
  rw [val_main_v9_apply]
  have hl : ∀ l : Fin 64, lidx_main_v9 (ix4 b h R n) l = ix4 b R h l := fun l => funext fun a => by
    match a with
    | ⟨0, _⟩ | ⟨1, _⟩ | ⟨2, _⟩ | ⟨3, _⟩ => rfl
  have hr : ∀ l : Fin 64, ridx_main_v9 (ix4 b h R n) l = ix4 b n h l := fun l => funext fun a => by
    match a with
    | ⟨0, _⟩ | ⟨1, _⟩ | ⟨2, _⟩ | ⟨3, _⟩ => rfl
  simp only [hl, hr, q_at x0 P hx, m_at x1 M hm]
  unfold gateOf gateLane
  exact Fin.sum_univ_eq_sum_range (fun l => (qOf P b.val (h.val / 2) R.val (64 * (h.val % 2) + l) : EReal) * mOf M b.val (h.val / 2) n.val (64 * (h.val % 2) + l)) 64

/-- The gates, those of blocks not before the own one at minus infinity. -/
theorem masked_gate (b : Fin 32) (h : Fin 8) (R : Fin 2048) (n : Fin 8) :
    val_main_v18 (F := Ideal) x0 x1 (ix4 b h R n) = past (gateOf P M b.val h.val R.val) (R.val / 256) n := by
  have hp : val_main_call1_v1 (F := Ideal) (ix4 b h R n) = BitVec.ofBool (decide (n.val < R.val / 256)) := by
    rw [val_main_call1_v1_apply]
    exact past_at R n
  have hb : val_main_call1_v2 (F := Ideal) (ix4 b h R n) = (⊥ : EReal) := by
    rw [val_main_call1_v2_apply, val_main_call1_v0_apply]
    exact ofBits_negInf
  rw [val_main_v18_apply, hp, hb, gate_at x0 x1 P M hx hm, select_ofBool]
  unfold past
  simp only [decide_eq_true_eq]

omit hx hm in
theorem gt_desc (G : Fin 8 → EReal) (k k' : Fin 8) :
    (FloatOps.cmpfTotal (F := Ideal) (φ := .f32) .gt (G k) (G k') == 1#1) = desc G k k' := by
  show (BitVec.ofBool (decide (_ < _)) == 1#1) = _
  unfold desc
  by_cases hlt : G k' < G k <;> simp [hlt]

/-- The block each slot names. -/
theorem chosen_slot (b : Fin 32) (h : Fin 8) (R : Fin 2048) (s : Fin 3) :
    val_main_indices (F := Ideal) x0 x1 (ix4 b h R s)
      = BitVec.ofNat 32 (sortedFrom (desc (past (gateOf P M b.val h.val R.val) (R.val / 256))) (⟨s.val, by omega⟩ : Fin 8)).val := by
  unfold val_main_indices
  refine (best_at _ b h R _ (masked_gate x0 x1 P M hx hm b h R) s (⟨s.val, by omega⟩ : Fin 8) rfl).trans ?_
  exact congrArg (fun f : Fin 8 → Fin 8 → Bool => BitVec.ofNat 32 (sortedFrom f (⟨s.val, by omega⟩ : Fin 8)).val) (funext fun k => funext fun k' => gt_desc _ k k')

/-- Whether a slot names a block, and one the row may see. -/
theorem named_at (b : Fin 32) (h : Fin 8) (R : Fin 2048) (s : Fin 3) (n : Fin 8) :
    val_main_v34 (F := Ideal) x0 x1 (ix5 b h R s n) = BitVec.ofBool (decide (s.val < R.val / 256
      ∧ sortedFrom (desc (past (gateOf P M b.val h.val R.val) (R.val / 256))) (⟨s.val, by omega⟩ : Fin 8) = n)) := by
  have h1 : val_main_v30 (F := Ideal) x0 x1 (ix5 b h R s n)
      = BitVec.ofBool (decide ((sortedFrom (desc (past (gateOf P M b.val h.val R.val) (R.val / 256))) (⟨s.val, by omega⟩ : Fin 8)).val = n.val)) := by
    rw [val_main_v30_apply, val_main_v28_apply, val_main_v25_apply, val_main_v29_apply, val_main_v27_apply, val_main_v26_apply,
      show idx_main_v25 (idx_main_v28 (ix5 b h R s n)) = ix4 b h R s from funext fun a => by
        match a with
        | ⟨0, _⟩ | ⟨1, _⟩ | ⟨2, _⟩ | ⟨3, _⟩ => rfl, chosen_slot x0 x1 P M hx hm]
    exact cmpi_eq_ofNat (w := 32) (b := n.val) (by omega) (by omega)
  have h2 : val_main_v33 (F := Ideal) (ix5 b h R s n) = BitVec.ofBool (decide (s.val < R.val / 256)) := by
    rw [val_main_v33_apply, val_main_v32_apply, val_main_v31_apply]
    exact slot_at R s
  rw [val_main_v34_apply, h1, h2, andi_ofBool, ← Bool.decide_and]
  refine congrArg BitVec.ofBool (decide_eq_decide.2 ?_)
  rw [Fin.ext_iff]
  exact and_comm

theorem chosen_at (b : Fin 32) (h : Fin 8) (R : Fin 2048) (n : Fin 8) :
    val_main_v35 (F := Ideal) x0 x1 (ix4 b h R n)
      = BitVec.ofBool (decide (Cert.MobaSelect.chosen (gateOf P M b.val h.val R.val) (R.val / 256) n.val)) := by
  have hr : S32x8x2048x3x8.Reduces [3] S32x8x2048x8 := by decide
  have hl : ∀ s : Fin 3, hr.lift (ix4 b h R n) s = ix5 b h R s n := fun s => funext fun a => by
    match a with
    | ⟨0, _⟩ | ⟨1, _⟩ | ⟨2, _⟩ | ⟨3, _⟩ | ⟨4, _⟩ => rfl
  have hf : val_main_v35 (F := Ideal) x0 x1 (ix4 b h R n)
      = (Finset.univ : Finset (Fin 3)).fold (IntOp.ori (w := 1)) 0#1 (fun s => val_main_v34 (F := Ideal) x0 x1 (ix5 b h R s n)) := by
    unfold val_main_v35
    refine (Host.reduce_eq_fold_single (s := S32x8x2048x3x8) (t := S32x8x2048x8) (u := S_) (a := 3) (IntOp.ori (w := 1))
      (val_main_v34 (F := Ideal) x0 x1) (val_main_c_0 (F := Ideal)) reducesTo_S32x8x2048x3x8_S32x8x2048x8_d3 hr h_S_ (ix4 b h R n)).trans ?_
    exact congrArg (fun f => Finset.fold (IntOp.ori (w := 1)) 0#1 f (Finset.univ : Finset (Fin 3)))
      (funext fun s => congrArg (val_main_v34 (F := Ideal) x0 x1) (hl s))
  rw [hf, show (fun s : Fin 3 => val_main_v34 (F := Ideal) x0 x1 (ix5 b h R s n)) = _ from funext fun s => named_at x0 x1 P M hx hm b h R s n, fold_ori]
  refine congrArg BitVec.ofBool (decide_eq_decide.2 ?_)
  rw [← Cert.MobaSelect.slots_iff _ _ (by omega)]
  simp only [decide_eq_true_eq]
  constructor
  · rintro ⟨s, -, h1, h2⟩
    exact ⟨⟨s.val, by omega⟩, ⟨s.isLt, h1⟩, h2⟩
  · rintro ⟨s, ⟨h0, h1⟩, h2⟩
    exact ⟨⟨s.val, h0⟩, Finset.mem_univ _, h1, h2⟩

/-! ## The softmax -/

/-- Which keys a row sees. -/
theorem see_at (b : Fin 32) (h : Fin 8) (R k : Fin 2048) :
    val_main_v52 (F := Ideal) x0 x1 (ix4 b h R k) = BitVec.ofBool (decide (see (gateOf P M b.val h.val R.val) R.val k.val)) := by
  have h1 : val_main_v49 (F := Ideal) x0 x1 (ix4 b h R k)
      = BitVec.ofBool (decide (Cert.MobaSelect.chosen (gateOf P M b.val h.val R.val) (R.val / 256) (k.val / 256))) := by
    rw [val_main_v49_apply, val_main_v48_apply]
    have hi : idx_main_v48 (idx_main_v49 (ix4 b h R k)) = ix4 b h R (⟨k.val / 256, by omega⟩ : Fin 8) := funext fun a => by
      match a with
      | ⟨0, _⟩ => exact Fin.ext (by show (((b.val * 8 + h.val) * 2048 + R.val) * 2048 + k.val) / 33554432 = b.val; omega)
      | ⟨1, _⟩ => exact Fin.ext (by show (((b.val * 8 + h.val) * 2048 + R.val) * 2048 + k.val) / 4194304 % 8 = h.val; omega)
      | ⟨2, _⟩ => exact Fin.ext (by show (((b.val * 8 + h.val) * 2048 + R.val) * 2048 + k.val) / 2048 % 2048 = R.val; omega)
      | ⟨3, _⟩ => exact Fin.ext (by show (((b.val * 8 + h.val) * 2048 + R.val) * 2048 + k.val) / 256 % 8 = k.val / 256; omega)
    rw [hi, chosen_at x0 x1 P M hx hm]
  have h2 : val_main_v51 (F := Ideal) (ix4 b h R k) = BitVec.ofBool (decide (k.val / 256 = R.val / 256 ∧ k.val ≤ R.val)) := by
    rw [val_main_v51_apply, val_main_v50_apply]
    exact same_at R k
  rw [val_main_v52_apply, h1, h2, ori_ofBool, ← Bool.decide_or]
  refine congrArg BitVec.ofBool (decide_eq_decide.2 ?_)
  exact or_comm

/-- A row's scores. -/
abbrev scoreOf (P : ℕ → ℕ → ℝ) (b h R : ℕ) : ℕ → ℝ := lane (qOf P b (h / 2)) (kOf P b (h / 2)) (h % 2) R

theorem score_at (b : Fin 32) (h : Fin 8) (R k : Fin 2048) :
    val_main_v57 (F := Ideal) x0 x1 (ix4 b h R k)
      = seen (fun k => scoreOf P b.val h.val R.val k * Real.log 2) (see (gateOf P M b.val h.val R.val) R.val) k.val := by
  have hb : val_main_call2_v1 (F := Ideal) (ix4 b h R k) = (⊥ : EReal) := by
    rw [val_main_call2_v1_apply, val_main_call2_v0_apply]
    exact ofBits_negInf
  have hs : val_main_v56 (F := Ideal) x0 (ix4 b h R k) = ((scoreOf P b.val h.val R.val k.val * Real.log 2 : ℝ) : EReal) := by
    rw [val_main_v56_apply, dot_at x0 P hx, ln2_at, EReal.coe_mul]
    rfl
  rw [val_main_v57_apply, see_at x0 x1 P M hx hm, hb, hs, select_ofBool]
  unfold seen
  simp only [decide_eq_true_eq]

omit hx hm in
/-- A row sees some key. -/
theorem sees_some (g : ℕ → EReal) (R : Fin 2048) : ∃ k : Fin 2048, see g R.val k.val := by
  have hR := R.isLt
  exact ⟨⟨256 * (R.val / 256), by omega⟩, see_first _ _⟩

omit hx hm in
theorem real_largest (f : Fin 2048 → EReal) (x : ℕ → ℝ) (see : ℕ → Prop) (h : ∀ k, f k = seen x see k.val) (k₀ : Fin 2048) (h₀ : see k₀.val) :
    ∃ m : ℝ, (Finset.univ : Finset (Fin 2048)).fold max (⊥ : EReal) f = (m : EReal) :=
  fold_max_real (Finset.univ : Finset (Fin 2048)) f (fun k _ => by rw [h]; exact seen_ne_top _ _ _) (Finset.mem_univ k₀)
    (by rw [h]; exact seen_ne_bot _ h₀)

/-- What is taken off the scores of a row is one real number. -/
theorem rowVal (b : Fin 32) (h : Fin 8) (R : Fin 2048) :
    ∃ m : ℝ, ∀ k : Fin 2048, val_main_v62 (F := Ideal) x0 x1 (ix4 b h R k) = (m : EReal) := by
  obtain ⟨k₀, h₀⟩ := sees_some (gateOf P M b.val h.val R.val) R
  obtain ⟨m, hM⟩ := real_largest (fun k => val_main_v57 (F := Ideal) x0 x1 (ix4 b h R k)) _ _ (score_at x0 x1 P M hx hm b h R) k₀ h₀
  refine ⟨m, fun k => ?_⟩
  rw [val_main_v62_apply, val_main_v61_apply,
    show idx_main_v61 (idx_main_v62 (ix4 b h R k)) = ix3 b h R from funext fun a => by
      match a with
      | ⟨0, _⟩ | ⟨1, _⟩ | ⟨2, _⟩ => rfl,
    val_main_v60_apply, largest_at x0 x1, hM, val_main_v59_apply]
  show max (Ideal.ofBits .f32 0xFF800000#32) (m : EReal) = _
  rw [ofBits_negInf]
  exact max_eq_right bot_le

/-- One head's attention. -/
theorem row_at (b : Fin 32) (R : Fin 2048) (h : Fin 8) (e : Fin 64) :
    val_main_v70 (F := Ideal) x0 x1 (ix4 b R h e)
      = (mean (scoreOf P b.val h.val R.val) (fun k => vOf P b.val (h.val / 2) k (64 * (h.val % 2) + e.val)) (see (gateOf P M b.val h.val R.val) R.val) 2048 : EReal) := by
  obtain ⟨m, hM⟩ := rowVal x0 x1 P M hx hm b h R
  have he : ∀ k : Fin 2048, val_main_v64 (F := Ideal) x0 x1 (ix4 b h R k)
      = Ideal.exp (seen (fun k => scoreOf P b.val h.val R.val k * Real.log 2) (see (gateOf P M b.val h.val R.val) R.val) k.val - (m : EReal)) := by
    intro k
    rw [val_main_v64_apply, val_main_v63_apply, score_at x0 x1 P M hx hm, hM]
    rfl
  have hd : ∀ k : Fin 2048, val_main_v67 (F := Ideal) x0 x1 (ix4 b h R k) = ∑ k : Fin 2048, val_main_v64 (F := Ideal) x0 x1 (ix4 b h R k) := by
    intro k
    rw [val_main_v67_apply, val_main_v66_apply, val_main_v65_apply,
      show val_main_cst_5 (F := Ideal) (Shape.Idx.first h_S_) = (0 : EReal) from Ideal.ofBits_zero .f32, zero_add]
    refine Finset.sum_congr rfl fun k' _ => congrArg (val_main_v64 (F := Ideal) x0 x1) (funext fun a => ?_)
    match a with
    | ⟨0, _⟩ | ⟨1, _⟩ | ⟨2, _⟩ | ⟨3, _⟩ => rfl
  rw [val_main_v70_apply, val_main_v69_apply]
  have hi : ∀ k : Fin 2048, lidx_main_v69 (idx_main_v70 (ix4 b R h e)) k = ix4 b k h e := fun k => funext fun a => by
    match a with
    | ⟨0, _⟩ | ⟨1, _⟩ | ⟨2, _⟩ | ⟨3, _⟩ => rfl
  have hj : ∀ k : Fin 2048, ridx_main_v69 (idx_main_v70 (ix4 b R h e)) k = ix4 b h R k := fun k => funext fun a => by
    match a with
    | ⟨0, _⟩ | ⟨1, _⟩ | ⟨2, _⟩ | ⟨3, _⟩ => rfl
  have hw : ∀ k : Fin 2048, val_main_v68 (F := Ideal) x0 x1 (ix4 b h R k)
      = Ideal.div (val_main_v64 (F := Ideal) x0 x1 (ix4 b h R k)) (∑ k : Fin 2048, val_main_v64 (F := Ideal) x0 x1 (ix4 b h R k)) := by
    intro k
    rw [val_main_v68_apply, hd]
    rfl
  simp only [hi, hj, hw, he, v_at x0 P hx]
  have hR := R.isLt
  exact exp_form (scoreOf P b.val h.val R.val) (fun k => vOf P b.val (h.val / 2) k (64 * (h.val % 2) + e.val)) _
    (fun k hk => by have := see_lt hk; omega) (see_first _ _) m

/-- The reference's result. -/
theorem out_at (b : Fin 32) (R : Fin 2048) (p : Fin 4) (e : Fin 128) :
    val_main_v72 (F := Ideal) x0 x1 (ix2 (⟨2048 * b.val + R.val, by omega⟩ : Fin 65536) (⟨128 * p.val + e.val, by omega⟩ : Fin 512))
      = (Cert.MobaPieces.outOf (qOf P b.val p.val) (kOf P b.val p.val) (vOf P b.val p.val) (mOf M b.val p.val) R.val e.val : EReal) := by
  have he := e.isLt
  have hi : idx_main_v71 (ix2 (⟨2048 * b.val + R.val, by omega⟩ : Fin 65536) (⟨128 * p.val + e.val, by omega⟩ : Fin 512))
      = ix4 b R (⟨2 * p.val + e.val / 64, by omega⟩ : Fin 8) (⟨e.val % 64, by omega⟩ : Fin 64) := funext fun a => by
    match a with
    | ⟨0, _⟩ => exact Fin.ext (by show ((2048 * b.val + R.val) * 512 + (128 * p.val + e.val)) / 1048576 = b.val; omega)
    | ⟨1, _⟩ => exact Fin.ext (by show ((2048 * b.val + R.val) * 512 + (128 * p.val + e.val)) / 512 % 2048 = R.val; omega)
    | ⟨2, _⟩ => exact Fin.ext (by show ((2048 * b.val + R.val) * 512 + (128 * p.val + e.val)) / 64 % 8 = 2 * p.val + e.val / 64; omega)
    | ⟨3, _⟩ => exact Fin.ext (by show ((2048 * b.val + R.val) * 512 + (128 * p.val + e.val)) % 64 = e.val % 64; omega)
  rw [val_main_v72_apply, val_main_v71_apply, hi, row_at x0 x1 P M hx hm]
  show ((mean _ _ _ 2048 : ℝ) : EReal) = _
  unfold Cert.MobaPieces.outOf scoreOf gateOf
  rw [show (2 * p.val + e.val / 64) / 2 = p.val by omega, show (2 * p.val + e.val / 64) % 2 = e.val / 64 by omega,
    show 64 * (e.val / 64) + e.val % 64 = e.val by omega]

end Reads

end Cert.MobaRefValue

end
-- ==== Proof.Moba.Value.lean ====
/-
  The kernel's result is the reference's: each grid point's block is a pair of heads of a sequence, the same two rows of softmaxes
  over the keys each row sees.
-/
module

public import proofs.«01_k».proof.Proof.Moba.Ref
public import proofs.«01_k».proof.Proof.Gen.MobaIdeal.Value

@[expose] public section

set_option maxRecDepth 16384

noncomputable section

namespace Cert.MobaValue

open Idealize.ShloMosaic Idealize.ShloMosaic.TcCoe Idealize.SL.Sem
open Idealize.ShloMosaic.Pipeline (Dat)
open Cert.MobaIdeal Cert.MobaIdeal.Gen Cert.MobaSpec Cert.MobaPieces

/-- Which blocks a grid point stages: sequence `t / 4`, pair `t % 4`. -/
theorem idx : ∀ t : Fin cfg0.N, win0_0.index t = ![t.val / 4, 12 + t.val % 4] ∧ win0_1.index t = ![t.val / 4, 16 + t.val % 4]
    ∧ win0_2.index t = ![t.val / 4, 20 + t.val % 4] ∧ win0_3.index t = ![t.val / 4, 0, t.val % 4]
    ∧ win0_4.index t = ![t.val / 4, t.val % 4] :=
  (by decide +kernel : ∀ t : Fin grid0.N, _)

variable (m : (ℓ : Loc nD τ sig) → Buf (Elt Ideal) ℓ)

/-- The means as the host lays them out: eight rows to a sequence. -/
theorem V_means (c : Dev nD) (b : Fin 32) (n : Fin 8) (j : Fin 512) :
    V m c main_v0 (ix3 b n j) = m ((c : Thread nD τ).loc main_arg1) (ix3 (⟨8 * b.val + n.val, by omega⟩ : Fin 256) (0 : Fin 1) j) := by
  simp only [V, hostOps0]
  after_results
  refine shapeCast_apply (s := S256x1x512) (t := S32x8x512) _ _ (ix3 b n j) (ix3 (⟨8 * b.val + n.val, by omega⟩ : Fin 256) (0 : Fin 1) j) ?_
  rw [Shape.rowMajor_val_three, Shape.rowMajor_val_three]
  show ((8 * b.val + n.val) * 1 + 0) * 512 + j.val = (b.val * 8 + n.val) * 512 + j.val
  omega

theorem arr (c : Dev nD) (P : ℕ → ℕ → ℝ) (M : ℕ → ℕ → EReal)
    (hx : ∀ y : S65536x3072.Idx, m ((c : Thread nD τ).loc main_arg0) y = (P (y 0).val (y 1).val : EReal))
    (hm : ∀ y : S256x1x512.Idx, m ((c : Thread nD τ).loc main_arg1) y = M (y 0).val (y 2).val) :
    (dats m 0 c).arrAt 4 cfg0.N = Cert.MobaRefIdeal.Read.val_main_v72 (F := Ideal) (m ((c : Thread nD τ).loc main_arg0))
      (m ((c : Thread nD τ).loc main_arg1)) := by
  refine (dats m 0 c).arrAt_eq_of_covers 4 _ (by decide +kernel) fun t _ y => ?_
  have q_real : ∀ (i : Fin 2048) (j : Fin 128), iblk m c 0 t (ix2 i j) = (qOf P (t.val / 4) (t.val % 4) i.val j.val : EReal) := by
    intro i j
    refine Eq.trans ?_ (hx (ix2 ⟨2048 * (t.val / 4) + i.val, by have := t.isLt; change t.val < 128 at this; omega⟩ ⟨1536 + (128 * (t.val % 4) + j.val), by omega⟩))
    blk_ext [iblk, V, idx t]
  have k_real : ∀ (i : Fin 2048) (j : Fin 128), iblk m c 1 t (ix2 i j) = (kOf P (t.val / 4) (t.val % 4) i.val j.val : EReal) := by
    intro i j
    refine Eq.trans ?_ (hx (ix2 ⟨2048 * (t.val / 4) + i.val, by have := t.isLt; change t.val < 128 at this; omega⟩ ⟨2048 + (128 * (t.val % 4) + j.val), by omega⟩))
    blk_ext [iblk, V, idx t]
  have v_real : ∀ (i : Fin 2048) (j : Fin 128), iblk m c 2 t (ix2 i j) = (vOf P (t.val / 4) (t.val % 4) i.val j.val : EReal) := by
    intro i j
    refine Eq.trans ?_ (hx (ix2 ⟨2048 * (t.val / 4) + i.val, by have := t.isLt; change t.val < 128 at this; omega⟩ ⟨2560 + (128 * (t.val % 4) + j.val), by omega⟩))
    blk_ext [iblk, V, idx t]
  have m_real : ∀ (n : Fin 8) (j : Fin 128), iblk m c 3 t (ix3 0 n j) = mOf M (t.val / 4) (t.val % 4) n.val j.val := by
    intro n j
    have ht : t.val < 128 := t.isLt
    have e : iblk m c 3 t (ix3 0 n j) = V m c main_v0 (ix3 (⟨t.val / 4, by omega⟩ : Fin 32) n (⟨128 * (t.val % 4) + j.val, by omega⟩ : Fin 512)) := by
      blk_ext [iblk, V, idx t]
    refine (e.trans (V_means m c _ _ _)).trans (hm (ix3 ⟨8 * (t.val / 4) + n.val, by have := t.isLt; change t.val < 128 at this; omega⟩ 0 ⟨128 * (t.val % 4) + j.val, by omega⟩))
  blk_simp
  rw [after0_4]
  have ht : t.val < 128 := t.isLt
  have hy0 : (y 0).val < 2048 := (y 0).isLt
  have hy1 : (y 1).val < 128 := (y 1).isLt
  have he : (win0_4.blk t).view.emb y
      = ix2 (⟨2048 * (t.val / 4) + (y 0).val, by omega⟩ : Fin 65536) (⟨128 * (t.val % 4) + (y 1).val, by omega⟩ : Fin 512) := by
    blk_ext [iblk, V, idx t]
  rw [he]
  refine (out_apply _ _ _ _ _ _ _ _ q_real k_real v_real m_real y).trans ?_
  exact (Cert.MobaRefValue.out_at (m ((c : Thread nD τ).loc main_arg0)) (m ((c : Thread nD τ).loc main_arg1)) P M hx hm
    ⟨t.val / 4, by omega⟩ (y 0) ⟨t.val % 4, by omega⟩ (y 1)).symm

end Cert.MobaValue

end
-- ==== Proof.Moba.Finite.lean ====
/-
  What the precondition says of the block-sparse attention's arguments: every element of the projections is a real number.
-/
module

public import proofs.«01_k».proof.Proof.Diff.Finite
public import proofs.«01_k».proof.Proof.Gen.Pre_finite_moba

@[expose] public section

noncomputable section

namespace Cert.MobaFinite

open Idealize.ShloMosaic Idealize.ShloMosaic.TcCoe
open Cert.Pre_finite_moba Cert.DiffFinite

variable [Cert.Pre_finite_moba.Facts] (x0 : FVec Ideal S65536x3072 .bf16) (x1 : FVec Ideal S256x1x512 .f32)

theorem proj_real (h : fn (F := Ideal) x0 x1 = fun _ => 1#1) (y : S65536x3072.Idx) : x0 y = ((x0 y : EReal).toReal : EReal) :=
  real_of_both (x0 y) (congrFun h y)

end Cert.MobaFinite

end
-- ==== Proof.Moba.Claims.lean ====
/-
  The claims about the block-sparse attention: it runs and leaves its arguments as they were, its idealization is the sanctioned
  one, and over the extended reals its result is the reference's.
-/
module

public import proofs.«01_k».proof.Defs
public import proofs.«01_k».proof.Proof.Moba.Value
public import proofs.«01_k».proof.Proof.Moba.Finite
public import proofs.«01_k».proof.Proof.Gen.Moba.Frame

@[expose] public section

noncomputable section

namespace Cert.MobaClaims

open Idealize.ShloMosaic Idealize.ShloMosaic.TcCoe Idealize.SL.Sem

theorem kernel_runs : Cert.quiescent_Moba := fun m g _ => Cert.Moba.Gen.frame m g

theorem ideal_runs : Cert.quiescent_MobaIdeal := fun m g _ => Cert.MobaIdeal.Gen.frame m g

theorem ideal_runs_pre : Cert.quiescent_MobaIdeal_pre_finite_moba := fun m g _ => Cert.MobaIdeal.Gen.frame m g

/-- The reference is host operations on a machine without semaphores. -/
theorem ref_runs : Cert.quiescent_MobaRefIdeal := by
  intro m g _
  refine θ_run_mono (Cert.MobaRefIdeal.Value.run m g) fun r h => ⟨fun c => (h c).2, sem_eq_zero_of_no_sems (by decide) _⟩

theorem ref_runs_pre : Cert.quiescent_MobaRefIdeal_pre_finite_moba := by
  intro m g _
  refine θ_run_mono (Cert.MobaRefIdeal.Value.run m g) fun r h => ⟨fun c => (h c).2, sem_eq_zero_of_no_sems (by decide) _⟩

theorem preserved : Cert.preserves_Moba_MobaIdeal :=
  IdealRules.named_const.statement Cert.MobaIdeal.κ "mask" .f32 0xF149F2CA#32 ⊥ rfl

/-- Arrays the precondition holds of: the kernel's result is the reference's. -/
theorem result (m : (ℓ : Loc Cert.MobaIdeal.nD Cert.MobaIdeal.τ Cert.MobaIdeal.sig) → Buf (Elt Ideal) ℓ) (hpre : Cert.Pre_MobaIdeal_finite_moba m)
    (c : Dev Cert.MobaIdeal.nD) :
    (Cert.MobaIdeal.Gen.dats m 0 c).arrAt 4 Cert.MobaIdeal.cfg0.N
      = Cert.MobaRefIdeal.Read.val_main_v72 (F := Ideal) (m ((c : Thread Cert.MobaIdeal.nD Cert.MobaIdeal.τ).loc Cert.MobaIdeal.main_arg0))
        (m ((c : Thread Cert.MobaIdeal.nD Cert.MobaIdeal.τ).loc Cert.MobaIdeal.main_arg1)) := by
  have h0 := hpre c
  refine Cert.MobaValue.arr m c (fun i j => if h : i < 65536 ∧ j < 3072 then
      (m ((c : Thread Cert.MobaIdeal.nD Cert.MobaIdeal.τ).loc Cert.MobaIdeal.main_arg0) (ix2 ⟨i, h.1⟩ ⟨j, h.2⟩) : EReal).toReal else 0)
    (fun i j => if h : i < 256 ∧ j < 512 then
      (m ((c : Thread Cert.MobaIdeal.nD Cert.MobaIdeal.τ).loc Cert.MobaIdeal.main_arg1) (ix3 ⟨i, h.1⟩ 0 ⟨j, h.2⟩) : EReal) else 0)
    (fun y => ?_) (fun y => ?_)
  · have hy : (y 0).val < 65536 ∧ (y 1).val < 3072 := ⟨(y 0).isLt, (y 1).isLt⟩
    rw [dif_pos hy]
    have e : y = ix2 (⟨(y 0).val, hy.1⟩ : Fin 65536) (⟨(y 1).val, hy.2⟩ : Fin 3072) := funext fun a => by
      match a with
      | ⟨0, _⟩ => rfl
      | ⟨1, _⟩ => rfl
    rw [← e]
    exact Cert.MobaFinite.proj_real _ _ h0 y
  · have hy : (y 0).val < 256 ∧ (y 2).val < 512 := ⟨(y 0).isLt, (y 2).isLt⟩
    have hy1 : (y 1).val < 1 := (y 1).isLt
    rw [dif_pos hy]
    have e : y = ix3 (⟨(y 0).val, hy.1⟩ : Fin 256) (0 : Fin 1) (⟨(y 2).val, hy.2⟩ : Fin 512) := funext fun a => by
      match a with
      | ⟨0, _⟩ => rfl
      | ⟨1, _⟩ => exact Fin.ext (by show (y 1).val = 0; omega)
      | ⟨2, _⟩ => rfl
    rw [← e]

theorem equal : Cert.algebraic_MobaIdeal_MobaRefIdeal_pre_finite_moba := by
  pair_intro
  · run_from Cert.MobaIdeal.Value.run_blocks m g
  · run_from Cert.MobaRefIdeal.Value.run m' g'
    rw [Cert.MobaRefIdeal.Read.val_main_v72_eq, (hagree c).1, (hagree c).2]
    exact (result m hpre c).symm

end Cert.MobaClaims

end
-- ==== Proof.lean ====
/-
  The proof of the certificate's claim. Everything is proved in the modules of `Proof/Diff`, `Proof/Experts`,
  `Proof/ExpertsBits`, `Proof/Inproj` and `Proof/Moba`; here the parts are put together in the order the claim states them.
-/
module

public import proofs.«01_k».proof.Defs
public import proofs.«01_k».proof.Proof.Diff.Claims
public import proofs.«01_k».proof.Proof.Experts.Claims
public import proofs.«01_k».proof.Proof.Inproj.Claims
public import proofs.«01_k».proof.Proof.Moba.Claims

@[expose] public section

noncomputable section

namespace Cert.Proof

theorem claim : Cert.Claim :=
  ⟨Cert.Diff.Gen.facts, Cert.DiffIdeal.Gen.facts, Cert.DiffRefIdeal.Gen.facts, Cert.Experts.Gen.facts, Cert.ExpertsIdeal.Gen.facts,
    Cert.ExpertsRefIdeal.Gen.facts, Cert.Inproj.Gen.facts, Cert.InprojIdeal.Gen.facts, Cert.InprojRefIdeal.Gen.facts,
    Cert.Moba.Gen.facts, Cert.MobaIdeal.Gen.facts, Cert.MobaRefIdeal.Gen.facts,
    Cert.Pre_finite_args.Gen.facts, Cert.Pre_tables.Gen.facts, Cert.Pre_finite_moba.Gen.facts,
    DiffClaims.kernel_runs, DiffClaims.ideal_runs, DiffClaims.ideal_runs_pre, DiffClaims.ref_runs, DiffClaims.ref_runs_pre,
    ExpertsClaims.kernel_runs, ExpertsClaims.ideal_runs, ExpertsClaims.ref_runs, ExpertsClaims.ref_runs_pre,
    InprojClaims.kernel_runs, InprojClaims.ideal_runs, InprojClaims.ref_runs,
    MobaClaims.kernel_runs, MobaClaims.ideal_runs, MobaClaims.ideal_runs_pre, MobaClaims.ref_runs, MobaClaims.ref_runs_pre,
    DiffClaims.preserved, DiffClaims.equal, ExpertsClaims.preserved, ExpertsClaims.equal,
    InprojClaims.preserved, InprojClaims.equal, MobaClaims.preserved, MobaClaims.equal⟩

end Cert.Proof

end
